-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0))).1 = (fun _ => 1#1)
    ∧ (Cert.Pre_finite_queries_and_keys.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0))).1 = (fun _ => 1#1)
    ∧ (Cert.Pre_finite_queries_and_keys.fn (F := Ideal) (m ((c.tc : Thread Cert.ReferenceIdeal.nD Cert.ReferenceIdeal.τ).loc Cert.ReferenceIdeal.main_arg0))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_padding_is_zero [hPre_padding_is_zero : Cert.Pre_padding_is_zero.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_padding_is_zero.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_padding_is_zero [hPre_padding_is_zero : Cert.Pre_padding_is_zero.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_padding_is_zero.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_padding_is_zero [hKernel9Ideal : Cert.Kernel9Ideal.Facts] [hPre_padding_is_zero : Cert.Pre_padding_is_zero.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_padding_is_zero m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_padding_is_zero [hReference9Ideal : Cert.Reference9Ideal.Facts] [hPre_padding_is_zero : Cert.Pre_padding_is_zero.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_padding_is_zero m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  IdealRules.named_const.Statement Cert.KernelIdeal.κ "qscale" .f32 0x3E0293EE#32 (((Real.sqrt 128)⁻¹ * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v46)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v46) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_padding_is_zero [hKernel9Ideal : Cert.Kernel9Ideal.Facts] [hReference9Ideal : Cert.Reference9Ideal.Facts] [hPre_padding_is_zero : Cert.Pre_padding_is_zero.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_padding_is_zero m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v101_0)) (v1 : (c : Dev Cert.Kernel9Ideal.nD) → Buf (Elt Ideal) ((c.tc : Thread Cert.Kernel9Ideal.nD Cert.Kernel9Ideal.τ).loc Cert.Kernel9Ideal.main_v101_1)) (v2 : (c : Dev Cert.Kernel9Ideal.nD) → Buf (Elt Ideal) ((c.tc : Thread Cert.Kernel9Ideal.nD Cert.Kernel9Ideal.τ).loc Cert.Kernel9Ideal.main_v101_2)) (v3 : (c : Dev Cert.Kernel9Ideal.nD) → Buf (Elt Ideal) ((c.tc : Thread Cert.Kernel9Ideal.nD Cert.Kernel9Ideal.τ).loc Cert.Kernel9Ideal.main_v101_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v101_0) = v0 c
          ∧ r.2.mem ((c.tc : Thread Cert.Kernel9Ideal.nD Cert.Kernel9Ideal.τ).loc Cert.Kernel9Ideal.main_v101_1) = v1 c
          ∧ r.2.mem ((c.tc : Thread Cert.Kernel9Ideal.nD Cert.Kernel9Ideal.τ).loc Cert.Kernel9Ideal.main_v101_2) = v2 c
          ∧ r.2.mem ((c.tc : Thread Cert.Kernel9Ideal.nD Cert.Kernel9Ideal.τ).loc Cert.Kernel9Ideal.main_v101_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v131) = v0 c
          ∧ r.2.mem ((c.tc : Thread Cert.Reference9Ideal.nD Cert.Reference9Ideal.τ).loc Cert.Reference9Ideal.main_v132) = v1 c
          ∧ r.2.mem ((c.tc : Thread Cert.Reference9Ideal.nD Cert.Reference9Ideal.τ).loc Cert.Reference9Ideal.main_v81) = v2 c
          ∧ r.2.mem ((c.tc : Thread Cert.Reference9Ideal.nD Cert.Reference9Ideal.τ).loc Cert.Reference9Ideal.main_v134) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite_queries_and_keys : Cert.Pre_finite_queries_and_keys.Facts) (hPre_padding_is_zero : Cert.Pre_padding_is_zero.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_padding_is_zero (hKernel9Ideal := hKernel9Ideal) (hPre_padding_is_zero := hPre_padding_is_zero)
    ∧ quiescent_Reference9Ideal (hReference9Ideal := hReference9Ideal)
    ∧ quiescent_Reference9Ideal_pre_padding_is_zero (hReference9Ideal := hReference9Ideal) (hPre_padding_is_zero := hPre_padding_is_zero)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_padding_is_zero (hKernel9Ideal := hKernel9Ideal) (hReference9Ideal := hReference9Ideal) (hPre_padding_is_zero := hPre_padding_is_zero)
-- ==== Pre_finite_queries_and_keys.lean ====
abbrev S8192x4608 : Shape := ⟨2, ![8192, 4608]⟩
abbrev S8192x2048 : Shape := ⟨2, ![8192, 2048]⟩
abbrev S_ : Shape := ⟨0, ![]⟩
abbrev S8192x128 : Shape := ⟨2, ![8192, 128]⟩

class Facts : Prop where
  slices_S8192x4608_S8192x2048_0_2048 : S8192x4608.Slices ![0, 2048] S8192x2048
  bcast_S_S8192x2048 : S_.BroadcastsInDim S8192x2048 (![] : Fin 0 → Fin S8192x2048.rank)
  slices_S8192x4608_S8192x128_0_4352 : S8192x4608.Slices ![0, 4352] S8192x128
  bcast_S_S8192x128 : S_.BroadcastsInDim S8192x128 (![] : Fin 0 → Fin S8192x128.rank)

variable [Facts]

def fn {F : FTy → Type} [FloatOps F] (main_arg0 : FVec F S8192x4608 .f32) : IVec S8192x2048 1 × IVec S8192x128 1 :=
  let main_v0 : FVec F S8192x2048 .f32 := (extractStridedSlice S8192x2048 ![0, 2048] · slices_S8192x4608_S8192x2048_0_2048) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S8192x128 .f32 := (extractStridedSlice S8192x128 ![0, 4352] · slices_S8192x4608_S8192x128_0_4352) main_arg0
  let main_v5 : FVec F S8192x128 .f32 := Host.absf main_v4
  let main_cst_0 : FVec F S_ .f32 := constant S_ .f32 0x7F800000#32
  let main_v6 : FVec F S8192x128 .f32 := broadcastInDim S8192x128 ![] bcast_S_S8192x128 main_cst_0
  let main_v7 : IVec S8192x128 1 := cmpf .olt main_v5 main_v6
  (main_v3, main_v7)
-- ==== Pre_padding_is_zero.lean ====
abbrev S8192x3840 : Shape := ⟨2, ![8192, 3840]⟩
abbrev S2x64 : Shape := ⟨2, ![2, 64]⟩
abbrev S2x1024 : Shape := ⟨2, ![2, 1024]⟩
abbrev S2x256 : Shape := ⟨2, ![2, 256]⟩
abbrev S8192x64 : Shape := ⟨2, ![8192, 64]⟩
abbrev S_ : Shape := ⟨0, ![]⟩

class Facts : Prop where
  slices_S8192x3840_S8192x64_0_3648 : S8192x3840.Slices ![0, 3648] S8192x64
  bcast_S_S8192x64 : S_.BroadcastsInDim S8192x64 (![] : Fin 0 → Fin S8192x64.rank)

variable [Facts]

def fn {F : FTy → Type} [FloatOps F] (main_arg0 : FVec F S8192x3840 .f32) (main_arg1 : FVec F S2x64 .f32) (main_arg2 : FVec F S2x1024 .f32) (main_arg3 : FVec F S2x256 .f32) (main_arg4 : FVec F S2x64 .f32) : IVec S8192x64 1 :=
  let main_v0 : FVec F S8192x64 .f32 := (extractStridedSlice S8192x64 ![0, 3648] · slices_S8192x3840_S8192x64_0_3648) main_arg0
  let main_cst : FVec F S_ .f32 := constant S_ .f32 0x00000000#32
  let main_v1 : FVec F S8192x64 .f32 := broadcastInDim S8192x64 ![] bcast_S_S8192x64 main_cst
  let main_v2 : IVec S8192x64 1 := cmpf .oeq main_v0 main_v1
  main_v2
-- ==== Kernel.lean ====
abbrev S8192x4608 : Shape := ⟨2, ![8192, 4608]⟩
abbrev S128x128 : Shape := ⟨2, ![128, 128]⟩
abbrev S8192x2048 : Shape := ⟨2, ![8192, 2048]⟩
abbrev S256x2048 : Shape := ⟨2, ![256, 2048]⟩
abbrev S256x128 : Shape := ⟨2, ![256, 128]⟩
abbrev S32x128x128 : Shape := ⟨3, ![32, 128, 128]⟩
abbrev S32x1x128 : Shape := ⟨3, ![32, 1, 128]⟩
abbrev S4096x128 : Shape := ⟨2, ![4096, 128]⟩
abbrev S1x128x128 : Shape := ⟨3, ![1, 128, 128]⟩
abbrev S128x256 : Shape := ⟨2, ![128, 256]⟩
abbrev S1x1x128 : Shape := ⟨3, ![1, 1, 128]⟩
abbrev S1x128 : Shape := ⟨2, ![1, 128]⟩

abbrev nBuf : Space → Nat
  | .hbm => 3
  | .vmem => 13
  | .smem => 0
  | _ => 0

abbrev bufTy : (tb : Table) → Fin (tcTables nBuf tb) → BufTy
  | .hbm, ⟨0, _⟩ => ⟨S8192x4608, .f32⟩
  | .hbm, ⟨1, _⟩ => ⟨S128x128, .bf16⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S128x128, .bf16⟩
  | .local _ .vmem, ⟨7, _⟩ => ⟨S256x2048, .bf16⟩
  | .local _ .vmem, ⟨8, _⟩ => ⟨S256x2048, .bf16⟩
  | .local _ .vmem, ⟨9, _⟩ => ⟨S32x128x128, .bf16⟩
  | .local _ .vmem, ⟨10, _⟩ => ⟨S32x1x128, .f32⟩
  | .local _ .vmem, ⟨11, _⟩ => ⟨S32x1x128, .f32⟩
  | .local _ .vmem, ⟨12, _⟩ => ⟨S32x128x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c0_i32_1 : BitVec 32 := 0#32
  let v4 : BitVec 1 := Scalar.cmpi .eq arg2 c0_i32_1
  let v5 : BitVec 32 := Scalar.extui v4
  let c0_i32_2 : BitVec 32 := 0#32
  let v6 : BitVec 1 := Scalar.cmpi .ne v5 c0_i32_2
  v6

@[reducible] def k0_t1_loop : Scf.Loop 32 :=
  let c0_i32_10 : BitVec 32 := 0#32
  let c2_i32 : BitVec 32 := 2#32
  let v21 : BitVec 32 := Scalar.addi c0_i32_10 c2_i32
  let c1_i32 : BitVec 32 := 1#32
  ⟨c0_i32_10, v21, c1_i32⟩
def k0_off1 (k0_t1 : Fin k0_t1_loop.trips) (c0_i32_12 : BitVec 32) : Fin 3 → Nat :=
  let c0_i32_10 : BitVec 32 := 0#32
  let c1_i32 : BitVec 32 := 1#32
  let arg12 : BitVec 32 := Scf.iv c0_i32_10 c1_i32 k0_t1
  let c16_i32 : BitVec 32 := 16#32
  let v22 : BitVec 32 := Scalar.muli arg12 c16_i32
  let v23 : BitVec 32 := Scalar.addi v22 c0_i32_12
  let v54 : Index := Scalar.indexCast v23
  let c0_31 : Index := 0#32
  let c0_32 : Index := 0#32
  ![v54.toNat, 0, 0]
def k0_off2 (k0_t1 : Fin k0_t1_loop.trips) (c0_i32_12 : BitVec 32) : Fin 3 → Nat :=
  let c0_i32_10 : BitVec 32 := 0#32
  let c1_i32 : BitVec 32 := 1#32
  let arg12 : BitVec 32 := Scf.iv c0_i32_10 c1_i32 k0_t1
  let c16_i32 : BitVec 32 := 16#32
  let v22 : BitVec 32 := Scalar.muli arg12 c16_i32
  let v23 : BitVec 32 := Scalar.addi v22 c0_i32_12
  let v57 : Index := Scalar.indexCast v23
  let c0_33 : Index := 0#32
  let c0_34 : Index := 0#32
  ![v57.toNat, 0, 0]
def k0_cond3 (i : grid0.Coords) : BitVec 1 :=
  let arg2 : BitVec 32 := BitVec.ofNat 32 (i 2).val
  let c0_i32_3 : BitVec 32 := 0#32
  let v7 : BitVec 1 := Scalar.cmpi .sgt arg2 c0_i32_3
  let arg1 : BitVec 32 := BitVec.ofNat 32 (i 1).val
  let v8 : BitVec 1 := Scalar.cmpi .sle arg2 arg1
  let v9 : BitVec 1 := Scalar.andi v7 v8
  let v10 : BitVec 32 := Scalar.extui v9
  let c0_i32_4 : BitVec 32 := 0#32
  let v11 : BitVec 1 := Scalar.cmpi .ne v10 c0_i32_4
  v11

@[reducible] def k0_t2_loop : Scf.Loop 32 :=
  let c0_i32_9 : BitVec 32 := 0#32
  let c2_i32 : BitVec 32 := 2#32
  let v20 : BitVec 32 := Scalar.addi c0_i32_9 c2_i32
  let c1_i32 : BitVec 32 := 1#32
  ⟨c0_i32_9, v20, c1_i32⟩
def k0_off3 (k0_t2 : Fin k0_t2_loop.trips) (c0_i32_11 : BitVec 32) : Fin 3 → Nat :=
  let c0_i32_9 : BitVec 32 := 0#32
  let c1_i32 : BitVec 32 := 1#32
  let arg12 : BitVec 32 := Scf.iv c0_i32_9 c1_i32 k0_t2
  let c16_i32 : BitVec 32 := 16#32
  let v21 : BitVec 32 := Scalar.muli arg12 c16_i32
  let v22 : BitVec 32 := Scalar.addi v21 c0_i32_11
  let v53 : Index := Scalar.indexCast v22
  let c0_30 : Index := 0#32
  let c0_31 : Index := 0#32
  ![v53.toNat, 0, 0]
def k0_off4 (k0_t2 : Fin k0_t2_loop.trips) (c0_i32_11 : BitVec 32) : Fin 3 → Nat :=
  let c0_i32_9 : BitVec 32 := 0#32
  let c1_i32 : BitVec 32 := 1#32
  let arg12 : BitVec 32 := Scf.iv c0_i32_9 c1_i32 k0_t2
  let c16_i32 : BitVec 32 := 16#32
  let v21 : BitVec 32 := Scalar.muli arg12 c16_i32
  let v22 : BitVec 32 := Scalar.addi v21 c0_i32_11
  let v56 : Index := Scalar.indexCast v22
  let c0_32 : Index := 0#32
  let c0_33 : Index := 0#32
  ![v56.toNat, 0, 0]
def k0_cond4 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_5 : BitVec 32 := 0#32
  let v14 : BitVec 1 := Scalar.cmpi .ne v13 c0_i32_5
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.subi arg1 arg2
  let c0_i32 : BitVec 32 := 0#32
  let v2 : BitVec 32 := Scalar.maxsi v1 c0_i32
  let v3 : BitVec 32 := Scalar.addi v0 v2
  let c34_i32 : BitVec 32 := 34#32
  let c0_i32_0 : BitVec 32 := 0#32
  ![v3.toNat, c34_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.subi arg1 arg2
  let c0_i32 : BitVec 32 := 0#32
  let v2 : BitVec 32 := Scalar.maxsi v1 c0_i32
  let v3 : BitVec 32 := Scalar.addi v0 v2
  let c35_i32 : BitVec 32 := 35#32
  let c0_i32_0 : BitVec 32 := 0#32
  ![v3.toNat, c35_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== KernelIdeal.lean ====
variable {F : FTy → Type} [FloatOps F] [Named F]
def κ : String → Option EReal := fun
  | "log2e" => some (((Real.log 2)⁻¹ : ℝ) : EReal)
  | "qscale" => some (((Real.sqrt 128)⁻¹ * (Real.log 2)⁻¹ : ℝ) : EReal)
  | _ => none
-- ==== ReferenceIdeal.lean ====
abbrev S8192x4608 : Shape := ⟨2, ![8192, 4608]⟩
abbrev S4x2048x4608 : Shape := ⟨3, ![4, 2048, 4608]⟩
abbrev S4x2048x2048 : Shape := ⟨3, ![4, 2048, 2048]⟩
abbrev S4x2048x16x128 : Shape := ⟨4, ![4, 2048, 16, 128]⟩
abbrev S4x2048x128 : Shape := ⟨3, ![4, 2048, 128]⟩
abbrev S2048 : Shape := ⟨1, ![2048]⟩
abbrev S_ : Shape := ⟨0, ![]⟩
abbrev S4x2048x2048x16 : Shape := ⟨4, ![4, 2048, 2048, 16]⟩
abbrev S4x16x2048x2048 : Shape := ⟨4, ![4, 16, 2048, 2048]⟩
abbrev S1x2048 : Shape := ⟨2, ![1, 2048]⟩
abbrev S2048x1 : Shape := ⟨2, ![2048, 1]⟩
abbrev S2048x2048 : Shape := ⟨2, ![2048, 2048]⟩
abbrev S4x128x16x2048 : Shape := ⟨4, ![4, 128, 16, 2048]⟩
abbrev S8192x2048 : Shape := ⟨2, ![8192, 2048]⟩

abbrev nBuf : Space → Nat
  | .hbm => 72
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S4x2048x4608, .f32⟩
  | .hbm, ⟨2, _⟩ => ⟨S4x2048x2048, .f32⟩
  | .hbm, ⟨3, _⟩ => ⟨S4x2048x16x128, .f32⟩
  | .hbm, ⟨4, _⟩ => ⟨S4x2048x128, .f32⟩
  | .hbm, ⟨5, _⟩ => ⟨S4x2048x128, .f32⟩
  | .hbm, ⟨6, _⟩ => ⟨S2048, .i32⟩
  | .hbm, ⟨7, _⟩ => ⟨S_, .f32⟩
  | .hbm, ⟨8, _⟩ => ⟨S_, .f32⟩
  | .hbm, ⟨9, _⟩ => ⟨S4x2048x2048x16, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S4x16x2048x2048, .f32⟩
  | .hbm, ⟨20, _⟩ => ⟨S_, .f32⟩
  | .hbm, ⟨21, _⟩ => ⟨S4x16x2048x2048, .f32⟩
  | .hbm, ⟨22, _⟩ => ⟨S4x16x2048x2048, .f32⟩
  | .hbm, ⟨23, _⟩ => ⟨S4x16x2048x2048, .f32⟩
  | .hbm, ⟨24, _⟩ => ⟨S4x16x2048x2048, .f32⟩
  | .hbm, ⟨25, _⟩ => ⟨S4x16x2048x2048, .i1⟩
  | .hbm, ⟨26, _⟩ => ⟨S4x16x2048x2048, .f32⟩
  | .hbm, ⟨27, _⟩ => ⟨S4x16x2048x2048, .f32⟩
  | .hbm, ⟨28, _⟩ => ⟨S4x16x2048x2048, .f32⟩
  | .hbm, ⟨29, _⟩ => ⟨S4x16x2048x2048, .f32⟩
  | .hbm, ⟨30, _⟩ => ⟨S4x16x2048x2048, .f32⟩
  | .hbm, ⟨31, _⟩ => ⟨S4x16x2048x2048, .f32⟩
  | .hbm, ⟨32, _⟩ => ⟨S4x16x2048x2048, .f32⟩
  | .hbm, ⟨33, _⟩ => ⟨S4x16x2048x2048, .f32⟩
  | .hbm, ⟨34, _⟩ => ⟨S4x16x2048x2048, .f32⟩
  | .hbm, ⟨35, _⟩ => ⟨S4x16x2048x2048, .f32⟩
  | .hbm, ⟨36, _⟩ => ⟨S4x16x2048x2048, .f32⟩
  | .hbm, ⟨37, _⟩ => ⟨S_, .f32⟩
  | .hbm, ⟨38, _⟩ => ⟨S4x16x2048x2048, .f32⟩
  | .hbm, ⟨39, _⟩ => ⟨S4x16x2048x2048, .f32⟩
  | .hbm, ⟨40, _⟩ => ⟨S4x16x2048x2048, .f32⟩
  | .hbm, ⟨41, _⟩ => ⟨S4x16x2048x2048, .f32⟩
  | .hbm, ⟨42, _⟩ => ⟨S4x16x2048x2048, .i1⟩
  | .hbm, ⟨43, _⟩ => ⟨S4x16x2048x2048, .f32⟩
  | .hbm, ⟨44, _⟩ => ⟨S4x16x2048x2048, .f32⟩
  | .hbm, ⟨45, _⟩ => ⟨S4x16x2048x2048, .f32⟩
  | .hbm, ⟨46, _⟩ => ⟨S4x16x2048x2048, .f32⟩
  | .hbm, ⟨47, _⟩ => ⟨S4x16x2048x2048, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S4x16x2048x2048, .f32⟩
  | .hbm, ⟨52, _⟩ => ⟨S_, .f32⟩
  | .hbm, ⟨53, _⟩ => ⟨S_, .f32⟩
  | .hbm, ⟨54, _⟩ => ⟨S4x16x2048x2048, .i1⟩
  | .hbm, ⟨55, _⟩ => ⟨S4x16x2048x2048, .f32⟩
  | .hbm, ⟨56, _⟩ => ⟨S4x16x2048x2048, .f32⟩
  | .hbm, ⟨57, _⟩ => ⟨S_, .f32⟩
  | .hbm, ⟨58, _⟩ => ⟨S_, .f32⟩
  | .hbm, ⟨59, _⟩ => ⟨S4x16x2048x2048, .f32⟩
  | .hbm, ⟨60, _⟩ => ⟨S4x16x2048x2048, .f32⟩
  | .hbm, ⟨61, _⟩ => ⟨S4x16x2048x2048, .f32⟩
  | .hbm, ⟨62, _⟩ => ⟨S4x16x2048x2048, .f32⟩
  | .hbm, ⟨63, _⟩ => ⟨S_, .f32⟩
  | .hbm, ⟨64, _⟩ => ⟨S_, .f32⟩
  | .hbm, ⟨65, _⟩ => ⟨S4x16x2048x2048, .i1⟩
  | .hbm, ⟨66, _⟩ => ⟨S4x16x2048x2048, .f32⟩
  | .hbm, ⟨67, _⟩ => ⟨S4x16x2048x2048, .f32⟩
  | .hbm, ⟨68, _⟩ => ⟨S4x128x16x2048, .f32⟩
  | .hbm, ⟨69, _⟩ => ⟨S4x2048x16x128, .f32⟩
  | .hbm, ⟨70, _⟩ => ⟨S8192x2048, .f32⟩
  | .hbm, ⟨71, _⟩ => ⟨S8192x2048, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_call0_cst : Ref sig .tc := ⟨.hbm, 37, rfl⟩
abbrev main_call1_call0_v0 : Ref sig .tc := ⟨.hbm, 38, rfl⟩
abbrev main_call1_call0_v1 : Ref sig .tc := ⟨.hbm, 39, rfl⟩
abbrev main_call1_call0_v2 : Ref sig .tc := ⟨.hbm, 40, rfl⟩
abbrev main_call1_call0_v3 : Ref sig .tc := ⟨.hbm, 41, rfl⟩
abbrev main_call1_call0_v4 : Ref sig .tc := ⟨.hbm, 42, rfl⟩
abbrev main_call1_call0_v5 : Ref sig .tc := ⟨.hbm, 43, rfl⟩
abbrev main_call1_call0_v6 : Ref sig .tc := ⟨.hbm, 44, rfl⟩
abbrev main_call1_call0_v7 : Ref sig .tc := ⟨.hbm, 45, rfl⟩
abbrev main_call1_call0_v8 : Ref sig .tc := ⟨.hbm, 46, rfl⟩
abbrev main_call1_call0_v9 : Ref sig .tc := ⟨.hbm, 47, rfl⟩
abbrev main_call1_call0_v10 : Ref sig .tc := ⟨.hbm, 48, rfl⟩
abbrev main_call1_call0_v11 : Ref sig .tc := ⟨.hbm, 49, rfl⟩
abbrev main_call1_v1 : Ref sig .tc := ⟨.hbm, 50, rfl⟩
abbrev main_v19 : Ref sig .tc := ⟨.hbm, 51, rfl⟩
abbrev main_cst_0 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v20 : Ref sig .tc := ⟨.hbm, 56, rfl⟩
abbrev main_call3_cst : Ref sig .tc := ⟨.hbm, 57, rfl⟩
abbrev main_call3_v0 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_cst_1 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩

abbrev nD : Nat := 1
abbrev τ : Topo := Topo.v7x

variable {F : FTy → Type} [FloatOps F]
-- ==== Kernel2.lean ====
abbrev S8192x4096 : Shape := ⟨2, ![8192, 4096]⟩
abbrev S4x4096x16384 : Shape := ⟨3, ![4, 4096, 16384]⟩
abbrev S8192x16384 : Shape := ⟨2, ![8192, 16384]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4x4096x16384, .f32⟩
  | .hbm, ⟨2, _⟩ => ⟨S8192x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 32, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x4096 : Shape := ⟨2, ![8192, 4096]⟩
abbrev S4x4096x16384 : Shape := ⟨3, ![4, 4096, 16384]⟩
abbrev S1x4096x16384 : Shape := ⟨3, ![1, 4096, 16384]⟩
abbrev S4096x16384 : Shape := ⟨2, ![4096, 16384]⟩
abbrev S8192x16384 : Shape := ⟨2, ![8192, 16384]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4x4096x16384, .f32⟩
  | .hbm, ⟨2, _⟩ => ⟨S8192x4096, .f32⟩
  | .hbm, ⟨3, _⟩ => ⟨S1x4096x16384, .f32⟩
  | .hbm, ⟨4, _⟩ => ⟨S4096x16384, .f32⟩
  | .hbm, ⟨5, _⟩ => ⟨S8192x16384, .f32⟩
  | .hbm, ⟨6, _⟩ => ⟨S_, .f32⟩
  | .hbm, ⟨7, _⟩ => ⟨S8192x16384, .f32⟩
  | .hbm, ⟨8, _⟩ => ⟨S8192x16384, .f32⟩
  | .hbm, ⟨9, _⟩ => ⟨S8192x16384, .f32⟩
  | .hbm, ⟨10, _⟩ => ⟨S8192x16384, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel3.lean ====
abbrev S8192x16384 : Shape := ⟨2, ![8192, 16384]⟩
abbrev S4x16384x4096 : Shape := ⟨3, ![4, 16384, 4096]⟩
abbrev S8192x4096 : Shape := ⟨2, ![8192, 4096]⟩
abbrev S24x1x4096 : Shape := ⟨3, ![24, 1, 4096]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x16384, .bf16⟩
  | .hbm, ⟨1, _⟩ => ⟨S4x16384x4096, .bf16⟩
  | .hbm, ⟨2, _⟩ => ⟨S8192x4096, .f32⟩
  | .hbm, ⟨3, _⟩ => ⟨S24x1x4096, .f32⟩
  | .hbm, ⟨4, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  ![v18.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x16384 : Shape := ⟨2, ![8192, 16384]⟩
abbrev S4x16384x4096 : Shape := ⟨3, ![4, 16384, 4096]⟩
abbrev S8192x4096 : Shape := ⟨2, ![8192, 4096]⟩
abbrev S24x1x4096 : Shape := ⟨3, ![24, 1, 4096]⟩
abbrev S4x6x4096 : Shape := ⟨3, ![4, 6, 4096]⟩
abbrev S4x1x4096 : Shape := ⟨3, ![4, 1, 4096]⟩
abbrev S4x4096 : Shape := ⟨2, ![4, 4096]⟩
abbrev S1x16384x4096 : Shape := ⟨3, ![1, 16384, 4096]⟩
abbrev S16384x4096 : Shape := ⟨2, ![16384, 4096]⟩
abbrev S4x2048x4096 : Shape := ⟨3, ![4, 2048, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S4x16384x4096, .bf16⟩
  | .hbm, ⟨2, _⟩ => ⟨S8192x4096, .f32⟩
  | .hbm, ⟨3, _⟩ => ⟨S24x1x4096, .f32⟩
  | .hbm, ⟨4, _⟩ => ⟨S4x6x4096, .f32⟩
  | .hbm, ⟨5, _⟩ => ⟨S4x1x4096, .f32⟩
  | .hbm, ⟨6, _⟩ => ⟨S4x4096, .f32⟩
  | .hbm, ⟨7, _⟩ => ⟨S4x1x4096, .f32⟩
  | .hbm, ⟨8, _⟩ => ⟨S8192x16384, .f32⟩
  | .hbm, ⟨9, _⟩ => ⟨S1x16384x4096, .bf16⟩
  | .hbm, ⟨10, _⟩ => ⟨S16384x4096, .bf16⟩
  | .hbm, ⟨11, _⟩ => ⟨S16384x4096, .f32⟩
  | .hbm, ⟨12, _⟩ => ⟨S8192x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S8192x4096, .f32⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel4.lean ====
abbrev S8192x2048 : Shape := ⟨2, ![8192, 2048]⟩
abbrev S2x4096x4096 : Shape := ⟨3, ![2, 4096, 4096]⟩
abbrev S8192x4096 : Shape := ⟨2, ![8192, 4096]⟩
abbrev S24x1x4096 : Shape := ⟨3, ![24, 1, 4096]⟩
abbrev S1024x2048 : Shape := ⟨2, ![1024, 2048]⟩
abbrev S1x4096x512 : Shape := ⟨3, ![1, 4096, 512]⟩
abbrev S1024x512 : Shape := ⟨2, ![1024, 512]⟩
abbrev S1x1x512 : Shape := ⟨3, ![1, 1, 512]⟩
abbrev S1x2048x512 : Shape := ⟨3, ![1, 2048, 512]⟩
abbrev S2048x512 : Shape := ⟨2, ![2048, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .f32⟩
  | .hbm, ⟨3, _⟩ => ⟨S8192x4096, .f32⟩
  | .hbm, ⟨4, _⟩ => ⟨S24x1x4096, .f32⟩
  | .hbm, ⟨5, _⟩ => ⟨S2x4096x4096, .bf16⟩
  | .hbm, ⟨6, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x4096x512, .bf16⟩
  | .local _ .vmem, ⟨5, _⟩ => ⟨S1x4096x512, .bf16⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32_4 : BitVec 32 := 2#32
  let v18 : BitVec 32 := Scalar.addi v17 c2_i32_4
  let c0_i32_5 : BitVec 32 := 0#32
  let c0_i32_6 : BitVec 32 := 0#32
  ![v18.toNat, c0_i32_5.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8192x2048 : Shape := ⟨2, ![8192, 2048]⟩
abbrev S2x4096x4096 : Shape := ⟨3, ![2, 4096, 4096]⟩
abbrev S8192x4096 : Shape := ⟨2, ![8192, 4096]⟩
abbrev S24x1x4096 : Shape := ⟨3, ![24, 1, 4096]⟩
abbrev S4x6x4096 : Shape := ⟨3, ![4, 6, 4096]⟩
abbrev S4x1x4096 : Shape := ⟨3, ![4, 1, 4096]⟩
abbrev S4x4096 : Shape := ⟨2, ![4, 4096]⟩
abbrev S4x2048x2048 : Shape := ⟨3, ![4, 2048, 2048]⟩
abbrev S4x2048x4096 : Shape := ⟨3, ![4, 2048, 4096]⟩
abbrev S1x4096x4096 : Shape := ⟨3, ![1, 4096, 4096]⟩
abbrev S4096x4096 : Shape := ⟨2, ![4096, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2x4096x4096, .f32⟩
  | .hbm, ⟨3, _⟩ => ⟨S8192x4096, .f32⟩
  | .hbm, ⟨4, _⟩ => ⟨S24x1x4096, .f32⟩
  | .hbm, ⟨5, _⟩ => ⟨S4x6x4096, .f32⟩
  | .hbm, ⟨6, _⟩ => ⟨S4x1x4096, .f32⟩
  | .hbm, ⟨7, _⟩ => ⟨S4x4096, .f32⟩
  | .hbm, ⟨8, _⟩ => ⟨S4x1x4096, .f32⟩
  | .hbm, ⟨9, _⟩ => ⟨S8192x2048, .f32⟩
  | .hbm, ⟨10, _⟩ => ⟨S4x2048x2048, .f32⟩
  | .hbm, ⟨11, _⟩ => ⟨S8192x2048, .f32⟩
  | .hbm, ⟨12, _⟩ => ⟨S4x2048x2048, .f32⟩
  | .hbm, ⟨13, _⟩ => ⟨S4x2048x4096, .f32⟩
  | .hbm, ⟨14, _⟩ => ⟨S4x2048x4096, .f32⟩
  | .hbm, ⟨15, _⟩ => ⟨S1x4096x4096, .f32⟩
  | .hbm, ⟨16, _⟩ => ⟨S4096x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | .hbm, ⟨21, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel5.lean ====
abbrev S8192x4096 : Shape := ⟨2, ![8192, 4096]⟩
abbrev S2x4096x4608 : Shape := ⟨3, ![2, 4096, 4608]⟩
abbrev S2x4096x2048 : Shape := ⟨3, ![2, 4096, 2048]⟩
abbrev S2x4096x256 : Shape := ⟨3, ![2, 4096, 256]⟩
abbrev S8192x4608 : Shape := ⟨2, ![8192, 4608]⟩
abbrev S1024x4096 : Shape := ⟨2, ![1024, 4096]⟩
abbrev S1x4096x768 : Shape := ⟨3, ![1, 4096, 768]⟩
abbrev S1024x768 : Shape := ⟨2, ![1024, 768]⟩
abbrev S4096x768 : Shape := ⟨2, ![4096, 768]⟩

abbrev nBuf : Space → Nat
  | .hbm => 9
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x4608, .f32⟩
  | .hbm, ⟨2, _⟩ => ⟨S2x4096x2048, .f32⟩
  | .hbm, ⟨3, _⟩ => ⟨S2x4096x2048, .f32⟩
  | .hbm, ⟨4, _⟩ => ⟨S2x4096x256, .f32⟩
  | .hbm, ⟨5, _⟩ => ⟨S2x4096x256, .f32⟩
  | .hbm, ⟨6, _⟩ => ⟨S2x4096x4608, .f32⟩
  | .hbm, ⟨7, _⟩ => ⟨S2x4096x4608, .bf16⟩
  | .hbm, ⟨8, _⟩ => ⟨S8192x4608, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S1024x768, .f32⟩
  | .local _ .vmem, ⟨5, _⟩ => ⟨S1024x768, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x4096 : Shape := ⟨2, ![8192, 4096]⟩
abbrev S2x4096x4608 : Shape := ⟨3, ![2, 4096, 4608]⟩
abbrev S1x4096x4608 : Shape := ⟨3, ![1, 4096, 4608]⟩
abbrev S4096x4608 : Shape := ⟨2, ![4096, 4608]⟩
abbrev S8192x4608 : Shape := ⟨2, ![8192, 4608]⟩
abbrev S8192x2048 : Shape := ⟨2, ![8192, 2048]⟩
abbrev S8192x128 : Shape := ⟨2, ![8192, 128]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4608, .f32⟩
  | .hbm, ⟨2, _⟩ => ⟨S8192x4096, .f32⟩
  | .hbm, ⟨3, _⟩ => ⟨S1x4096x4608, .f32⟩
  | .hbm, ⟨4, _⟩ => ⟨S4096x4608, .f32⟩
  | .hbm, ⟨5, _⟩ => ⟨S8192x4608, .f32⟩
  | .hbm, ⟨6, _⟩ => ⟨S8192x2048, .f32⟩
  | .hbm, ⟨7, _⟩ => ⟨S8192x128, .f32⟩
  | .hbm, ⟨8, _⟩ => ⟨S8192x128, .f32⟩
  | .hbm, ⟨9, _⟩ => ⟨S8192x2048, .f32⟩
  | .hbm, ⟨10, _⟩ => ⟨S8192x128, .f32⟩
  | .hbm, ⟨11, _⟩ => ⟨S8192x128, .f32⟩
  | .hbm, ⟨12, _⟩ => ⟨S8192x4608, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== Kernel6.lean ====
abbrev S8192x4096 : Shape := ⟨2, ![8192, 4096]⟩
abbrev S2x4096x3648 : Shape := ⟨3, ![2, 4096, 3648]⟩
abbrev S2x4096x2048 : Shape := ⟨3, ![2, 4096, 2048]⟩
abbrev S2x4096x1024 : Shape := ⟨3, ![2, 4096, 1024]⟩
abbrev S2x4096x256 : Shape := ⟨3, ![2, 4096, 256]⟩
abbrev S2x4096x320 : Shape := ⟨3, ![2, 4096, 320]⟩
abbrev S_ : Shape := ⟨0, ![]⟩
abbrev S2x4096x192 : Shape := ⟨3, ![2, 4096, 192]⟩
abbrev S2x4096x3840 : Shape := ⟨3, ![2, 4096, 3840]⟩
abbrev S8192x3840 : Shape := ⟨2, ![8192, 3840]⟩
abbrev S1024x4096 : Shape := ⟨2, ![1024, 4096]⟩
abbrev S1x4096x768 : Shape := ⟨3, ![1, 4096, 768]⟩
abbrev S1024x768 : Shape := ⟨2, ![1024, 768]⟩
abbrev S4096x768 : Shape := ⟨2, ![4096, 768]⟩

abbrev nBuf : Space → Nat
  | .hbm => 11
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x3648, .f32⟩
  | .hbm, ⟨2, _⟩ => ⟨S2x4096x2048, .f32⟩
  | .hbm, ⟨3, _⟩ => ⟨S2x4096x1024, .f32⟩
  | .hbm, ⟨4, _⟩ => ⟨S2x4096x256, .f32⟩
  | .hbm, ⟨5, _⟩ => ⟨S2x4096x320, .f32⟩
  | .hbm, ⟨6, _⟩ => ⟨S_, .f32⟩
  | .hbm, ⟨7, _⟩ => ⟨S2x4096x192, .f32⟩
  | .hbm, ⟨8, _⟩ => ⟨S2x4096x3840, .f32⟩
  | .hbm, ⟨9, _⟩ => ⟨S2x4096x3840, .bf16⟩
  | .hbm, ⟨10, _⟩ => ⟨S8192x3840, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x768, .bf16⟩
  | .local _ .vmem, ⟨3, _⟩ => ⟨S1x4096x768, .bf16⟩
  | .local _ .vmem, ⟨4, _⟩ => ⟨S1024x768, .f32⟩
  | .local _ .vmem, ⟨5, _⟩ => ⟨S1024x768, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x4096 : Shape := ⟨2, ![8192, 4096]⟩
abbrev S2x4096x3648 : Shape := ⟨3, ![2, 4096, 3648]⟩
abbrev S1x4096x3648 : Shape := ⟨3, ![1, 4096, 3648]⟩
abbrev S4096x3648 : Shape := ⟨2, ![4096, 3648]⟩
abbrev S8192x3648 : Shape := ⟨2, ![8192, 3648]⟩
abbrev S8192x2048 : Shape := ⟨2, ![8192, 2048]⟩
abbrev S8192x128 : Shape := ⟨2, ![8192, 128]⟩
abbrev S8192x1024 : Shape := ⟨2, ![8192, 1024]⟩
abbrev S8192x256 : Shape := ⟨2, ![8192, 256]⟩
abbrev S8192x64 : Shape := ⟨2, ![8192, 64]⟩
abbrev S_ : Shape := ⟨0, ![]⟩
abbrev S8192x192 : Shape := ⟨2, ![8192, 192]⟩
abbrev S8192x3840 : Shape := ⟨2, ![8192, 3840]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x3648, .f32⟩
  | .hbm, ⟨2, _⟩ => ⟨S8192x4096, .f32⟩
  | .hbm, ⟨3, _⟩ => ⟨S1x4096x3648, .f32⟩
  | .hbm, ⟨4, _⟩ => ⟨S4096x3648, .f32⟩
  | .hbm, ⟨5, _⟩ => ⟨S8192x3648, .f32⟩
  | .hbm, ⟨6, _⟩ => ⟨S8192x2048, .f32⟩
  | .hbm, ⟨7, _⟩ => ⟨S8192x128, .f32⟩
  | .hbm, ⟨8, _⟩ => ⟨S8192x128, .f32⟩
  | .hbm, ⟨9, _⟩ => ⟨S8192x1024, .f32⟩
  | .hbm, ⟨10, _⟩ => ⟨S8192x256, .f32⟩
  | .hbm, ⟨11, _⟩ => ⟨S8192x64, .f32⟩
  | .hbm, ⟨12, _⟩ => ⟨S_, .f32⟩
  | .hbm, ⟨13, _⟩ => ⟨S8192x192, .f32⟩
  | .hbm, ⟨14, _⟩ => ⟨S8192x3840, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel7.lean ====
abbrev S8192x1024 : Shape := ⟨2, ![8192, 1024]⟩
abbrev S2x1024x16x192 : Shape := ⟨4, ![2, 1024, 16, 192]⟩
abbrev S_ : Shape := ⟨0, ![]⟩
abbrev S2x1024x16x256 : Shape := ⟨4, ![2, 1024, 16, 256]⟩
abbrev S2x1024x4096 : Shape := ⟨3, ![2, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2x1024x16x192, .f32⟩
  | .hbm, ⟨2, _⟩ => ⟨S_, .i32⟩
  | .hbm, ⟨3, _⟩ => ⟨S_, .f32⟩
  | .hbm, ⟨4, _⟩ => ⟨S2x1024x16x256, .f32⟩
  | .hbm, ⟨5, _⟩ => ⟨S2x1024x4096, .f32⟩
  | .hbm, ⟨6, _⟩ => ⟨S2x1024x4096, .bf16⟩
  | .hbm, ⟨7, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x1024 : Shape := ⟨2, ![8192, 1024]⟩
abbrev S2x1024x16x192 : Shape := ⟨4, ![2, 1024, 16, 192]⟩
abbrev S1x1024x16x192 : Shape := ⟨4, ![1, 1024, 16, 192]⟩
abbrev S1024x16x192 : Shape := ⟨3, ![1024, 16, 192]⟩
abbrev S8192x16x192 : Shape := ⟨3, ![8192, 16, 192]⟩
abbrev S_ : Shape := ⟨0, ![]⟩
abbrev S8192x16x256 : Shape := ⟨3, ![8192, 16, 256]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x16x192, .f32⟩
  | .hbm, ⟨2, _⟩ => ⟨S8192x1024, .f32⟩
  | .hbm, ⟨3, _⟩ => ⟨S1x1024x16x192, .f32⟩
  | .hbm, ⟨4, _⟩ => ⟨S1024x16x192, .f32⟩
  | .hbm, ⟨5, _⟩ => ⟨S8192x16x192, .f32⟩
  | .hbm, ⟨6, _⟩ => ⟨S_, .i32⟩
  | .hbm, ⟨7, _⟩ => ⟨S_, .f32⟩
  | .hbm, ⟨8, _⟩ => ⟨S8192x16x256, .f32⟩
  | .hbm, ⟨9, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x4608 : Shape := ⟨2, ![8192, 4608]⟩
abbrev S2x128 : Shape := ⟨2, ![2, 128]⟩
abbrev S128 : Shape := ⟨1, ![128]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S128x1 : Shape := ⟨2, ![128, 1]⟩
abbrev S2048x128 : Shape := ⟨2, ![2048, 128]⟩
abbrev S1x128 : Shape := ⟨2, ![1, 128]⟩
abbrev S1x2048x1x128 : Shape := ⟨4, ![1, 2048, 1, 128]⟩
abbrev S2x1x128 : Shape := ⟨3, ![2, 1, 128]⟩
abbrev S1x1x128 : Shape := ⟨3, ![1, 1, 128]⟩
abbrev S8192x128 : Shape := ⟨2, ![8192, 128]⟩
abbrev S256x128 : Shape := ⟨2, ![256, 128]⟩
abbrev S256 : Shape := ⟨1, ![256]⟩
abbrev S256x1 : Shape := ⟨2, ![256, 1]⟩

abbrev nBuf : Space → Nat
  | .hbm => 72
  | .vmem => 11
  | .smem => 0
  | _ => 0

abbrev bufTy : (tb : Table) → Fin (tcTables nBuf tb) → BufTy
  | .hbm, ⟨0, _⟩ => ⟨S8192x4608, .f32⟩
  | .hbm, ⟨1, _⟩ => ⟨S2x128, .f32⟩
  | .hbm, ⟨2, _⟩ => ⟨S128, .i32⟩
  | .hbm, ⟨3, _⟩ => ⟨S128, .i1⟩
  | .hbm, ⟨4, _⟩ => ⟨S128, .i1⟩
  | .hbm, ⟨5, _⟩ => ⟨S128, .i1⟩
  | .hbm, ⟨6, _⟩ => ⟨S128, .i1⟩
  | .hbm, ⟨7, _⟩ => ⟨S128, .i1⟩
  | .hbm, ⟨8, _⟩ => ⟨S2048, .i32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S2048, .f32⟩
  | .hbm, ⟨21, _⟩ => ⟨S2048x1, .f32⟩
  | .hbm, ⟨22, _⟩ => ⟨S1x16, .f32⟩
  | .hbm, ⟨23, _⟩ => ⟨S2048x16, .f32⟩
  | .hbm, ⟨24, _⟩ => ⟨S2048x16, .f32⟩
  | .hbm, ⟨25, _⟩ => ⟨S2048x16, .f32⟩
  | .hbm, ⟨26, _⟩ => ⟨S2048x16, .f32⟩
  | .hbm, ⟨27, _⟩ => ⟨S2048x16, .f32⟩
  | .hbm, ⟨28, _⟩ => ⟨S_, .i32⟩
  | .hbm, ⟨29, _⟩ => ⟨S128, .i32⟩
  | .hbm, ⟨30, _⟩ => ⟨S128, .i32⟩
  | .hbm, ⟨31, _⟩ => ⟨S128, .i32⟩
  | .hbm, ⟨32, _⟩ => ⟨S128x1, .i32⟩
  | .hbm, ⟨33, _⟩ => ⟨S2048x128, .f32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S128, .i32⟩
  | .hbm, ⟨38, _⟩ => ⟨S128x1, .i32⟩
  | .hbm, ⟨39, _⟩ => ⟨S2048x128, .f32⟩
  | .hbm, ⟨40, _⟩ => ⟨S1x128, .i1⟩
  | .hbm, ⟨41, _⟩ => ⟨S_, .f32⟩
  | .hbm, ⟨42, _⟩ => ⟨S_, .f32⟩
  | .hbm, ⟨43, _⟩ => ⟨S2048x128, .i1⟩
  | .hbm, ⟨44, _⟩ => ⟨S2048x128, .f32⟩
  | .hbm, ⟨45, _⟩ => ⟨S2048x128, .f32⟩
  | .hbm, ⟨46, _⟩ => ⟨S1x128, .i1⟩
  | .hbm, ⟨47, _⟩ => ⟨S2048x128, .f32⟩
  | .hbm, ⟨48, _⟩ => ⟨S_, .f32⟩
  | .hbm, ⟨49, _⟩ => ⟨S_, .f32⟩
  | .hbm, ⟨50, _⟩ => ⟨S2048x128, .i1⟩
  | .hbm, ⟨51, _⟩ => ⟨S2048x128, .f32⟩
  | .hbm, ⟨52, _⟩ => ⟨S2048x128, .f32⟩
  | .hbm, ⟨53, _⟩ => ⟨S1x128, .i1⟩
  | .hbm, ⟨54, _⟩ => ⟨S_, .f32⟩
  | .hbm, ⟨55, _⟩ => ⟨S_, .f32⟩
  | .hbm, ⟨56, _⟩ => ⟨S2048x128, .i1⟩
  | .hbm, ⟨57, _⟩ => ⟨S2048x128, .f32⟩
  | .hbm, ⟨58, _⟩ => ⟨S2048x128, .f32⟩
  | .hbm, ⟨59, _⟩ => ⟨S1x2048x1x128, .f32⟩
  | .hbm, ⟨60, _⟩ => ⟨S1x2048x1x128, .f32⟩
  | .hbm, ⟨61, _⟩ => ⟨S2048x128, .f32⟩
  | .hbm, ⟨62, _⟩ => ⟨S1x2048x1x128, .f32⟩
  | .hbm, ⟨63, _⟩ => ⟨S1x2048x1x128, .f32⟩
  | .hbm, ⟨64, _⟩ => ⟨S2048x128, .f32⟩
  | .hbm, ⟨65, _⟩ => ⟨S1x2048x1x128, .f32⟩
  | .hbm, ⟨66, _⟩ => ⟨S1x2048x1x128, .f32⟩
  | .hbm, ⟨67, _⟩ => ⟨S2048x128, .f32⟩
  | .hbm, ⟨68, _⟩ => ⟨S2x1x128, .f32⟩
  | .hbm, ⟨69, _⟩ => ⟨S1x1x128, .f32⟩
  | .hbm, ⟨70, _⟩ => ⟨S1x128, .f32⟩
  | .hbm, ⟨71, _⟩ => ⟨S8192x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1x128, .f32⟩
  | .local _ .vmem, ⟨9, _⟩ => ⟨S256x128, .f32⟩
  | .local _ .vmem, ⟨10, _⟩ => ⟨S256x128, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_5 : Ref sig .tc := ⟨.hbm, 14, rfl⟩
abbrev main_v5 : Ref sig .tc := ⟨.hbm, 15, rfl⟩
abbrev main_v6 : Ref sig .tc := ⟨.hbm, 16, rfl⟩
abbrev main_cst_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_7 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_8 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_9 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_cst_11 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c32_i32 : BitVec 32 := 32#32
  let c0_i32 : BitVec 32 := 0#32
  ![arg0.toNat, c32_i32.toNat]

def cc0_transform_1 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S8192x4608 : Shape := ⟨2, ![8192, 4608]⟩
abbrev S2x128 : Shape := ⟨2, ![2, 128]⟩
abbrev S8192x128 : Shape := ⟨2, ![8192, 128]⟩
abbrev S4x2048x128 : Shape := ⟨3, ![4, 2048, 128]⟩
abbrev S1x128 : Shape := ⟨2, ![1, 128]⟩
abbrev S128 : Shape := ⟨1, ![128]⟩
abbrev S_ : Shape := ⟨0, ![]⟩
abbrev S4x2048 : Shape := ⟨2, ![4, 2048]⟩
abbrev S4x2048x1 : Shape := ⟨3, ![4, 2048, 1]⟩
abbrev S1x1x128 : Shape := ⟨3, ![1, 1, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S1x2048x16 : Shape := ⟨3, ![1, 2048, 16]⟩
abbrev S4x2048x16 : Shape := ⟨3, ![4, 2048, 16]⟩
abbrev S4x2048x96 : Shape := ⟨3, ![4, 2048, 96]⟩

abbrev nBuf : Space → Nat
  | .hbm => 59
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S2x128, .f32⟩
  | .hbm, ⟨2, _⟩ => ⟨S8192x128, .f32⟩
  | .hbm, ⟨3, _⟩ => ⟨S4x2048x128, .f32⟩
  | .hbm, ⟨4, _⟩ => ⟨S1x128, .f32⟩
  | .hbm, ⟨5, _⟩ => ⟨S128, .f32⟩
  | .hbm, ⟨6, _⟩ => ⟨S4x2048x128, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x128, .f32⟩
  | .hbm, ⟨18, _⟩ => ⟨S4x2048x128, .f32⟩
  | .hbm, ⟨19, _⟩ => ⟨S1x1x128, .f32⟩
  | .hbm, ⟨20, _⟩ => ⟨S4x2048x128, .f32⟩
  | .hbm, ⟨21, _⟩ => ⟨S4x2048x128, .f32⟩
  | .hbm, ⟨22, _⟩ => ⟨S2048, .i32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S2048, .f32⟩
  | .hbm, ⟨35, _⟩ => ⟨S2048x1, .f32⟩
  | .hbm, ⟨36, _⟩ => ⟨S1x16, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S1x2048x16, .f32⟩
  | .hbm, ⟨42, _⟩ => ⟨S2048x16, .f32⟩
  | .hbm, ⟨43, _⟩ => ⟨S1x2048x16, .f32⟩
  | .hbm, ⟨44, _⟩ => ⟨S4x2048x16, .f32⟩
  | .hbm, ⟨45, _⟩ => ⟨S4x2048x16, .f32⟩
  | .hbm, ⟨46, _⟩ => ⟨S4x2048x16, .f32⟩
  | .hbm, ⟨47, _⟩ => ⟨S4x2048x16, .f32⟩
  | .hbm, ⟨48, _⟩ => ⟨S4x2048x16, .f32⟩
  | .hbm, ⟨49, _⟩ => ⟨S4x2048x16, .f32⟩
  | .hbm, ⟨50, _⟩ => ⟨S4x2048x16, .f32⟩
  | .hbm, ⟨51, _⟩ => ⟨S4x2048x16, .f32⟩
  | .hbm, ⟨52, _⟩ => ⟨S4x2048x16, .f32⟩
  | .hbm, ⟨53, _⟩ => ⟨S4x2048x16, .f32⟩
  | .hbm, ⟨54, _⟩ => ⟨S4x2048x16, .f32⟩
  | .hbm, ⟨55, _⟩ => ⟨S4x2048x16, .f32⟩
  | .hbm, ⟨56, _⟩ => ⟨S4x2048x96, .f32⟩
  | .hbm, ⟨57, _⟩ => ⟨S4x2048x128, .f32⟩
  | .hbm, ⟨58, _⟩ => ⟨S8192x128, .f32⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩

abbrev nD : Nat := 1
abbrev τ : Topo := Topo.v7x

variable {F : FTy → Type} [FloatOps F]
-- ==== Kernel9.lean ====
abbrev S8192x3840 : Shape := ⟨2, ![8192, 3840]⟩
abbrev S2x64 : Shape := ⟨2, ![2, 64]⟩
abbrev S2x1024 : Shape := ⟨2, ![2, 1024]⟩
abbrev S2x256 : Shape := ⟨2, ![2, 256]⟩
abbrev S128 : Shape := ⟨1, ![128]⟩
abbrev S2048 : Shape := ⟨1, ![2048]⟩
abbrev S1x2x1x64 : Shape := ⟨4, ![1, 2, 1, 64]⟩
abbrev S1x2x2x64 : Shape := ⟨4, ![1, 2, 2, 64]⟩
abbrev S2x128 : Shape := ⟨2, ![2, 128]⟩
abbrev S2x1x128 : Shape := ⟨3, ![2, 1, 128]⟩
abbrev S2x1x1024 : Shape := ⟨3, ![2, 1, 1024]⟩
abbrev S2x1x256 : Shape := ⟨3, ![2, 1, 256]⟩
abbrev S_ : Shape := ⟨0, ![]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S128x1 : Shape := ⟨2, ![128, 1]⟩
abbrev S2048x128 : Shape := ⟨2, ![2048, 128]⟩
abbrev S1x128 : Shape := ⟨2, ![1, 128]⟩
abbrev S1x2048x1x128 : Shape := ⟨4, ![1, 2048, 1, 128]⟩
abbrev S32 : Shape := ⟨1, ![32]⟩
abbrev S1x32 : Shape := ⟨2, ![1, 32]⟩
abbrev S2048x32 : Shape := ⟨2, ![2048, 32]⟩
abbrev S1x1x128 : Shape := ⟨3, ![1, 1, 128]⟩
abbrev S1x1x1024 : Shape := ⟨3, ![1, 1, 1024]⟩
abbrev S1x1024 : Shape := ⟨2, ![1, 1024]⟩
abbrev S1x1x256 : Shape := ⟨3, ![1, 1, 256]⟩
abbrev S1x256 : Shape := ⟨2, ![1, 256]⟩
abbrev S8192x1024 : Shape := ⟨2, ![8192, 1024]⟩
abbrev S8192x128 : Shape := ⟨2, ![8192, 128]⟩
abbrev S8192x256 : Shape := ⟨2, ![8192, 256]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 158
  | .vmem => 32
  | .smem => 0
  | _ => 0

abbrev hbmTy0_0 (i : Nat) : BufTy := match i % 128 with
  | 0 => ⟨S8192x3840, .f32⟩
  | 1 => ⟨S2x64, .f32⟩
  | 2 => ⟨S2x1024, .f32⟩
  | 3 => ⟨S2x256, .f32⟩
  | 4 => ⟨S2x64, .f32⟩
  | 5 => ⟨S128, .i32⟩
  | 6 => ⟨S128, .i1⟩
  | 7 => ⟨S128, .i1⟩
  | 8 => ⟨S128, .i1⟩
  | 9 => ⟨S128, .i1⟩
  | 10 => ⟨S128, .i1⟩
  | 11 => ⟨S128, .i32⟩
  | 12 => ⟨S128, .i1⟩
  | 13 => ⟨S128, .i1⟩
  | 14 => ⟨S128, .i1⟩
  | 15 => ⟨S128, .i1⟩
  | 16 => ⟨S128, .i1⟩
  | 17 => ⟨S2048, .i32⟩
  | 18 => ⟨S1x2x1x64, .f32⟩
  | 19 => ⟨S1x2x2x64, .f32⟩
  | 20 => ⟨S2x128, .f32⟩
  | 21 => ⟨S2x1x128, .f32⟩
  | 22 => ⟨S2x1x1024, .f32⟩
  | 23 => ⟨S2x1x256, .f32⟩
  | 24 => ⟨S_, .i32⟩
  | 25 => ⟨S_, .f32⟩
  | 26 => ⟨S2x128, .f32⟩
  | 27 => ⟨S2x1x128, .f32⟩
  | 28 => ⟨S8, .f32⟩
  | 29 => ⟨S8, .f32⟩
  | 30 => ⟨S_, .f32⟩
  | 31 => ⟨S8, .f32⟩
  | 32 => ⟨S8, .f32⟩
  | 33 => ⟨S_, .f32⟩
  | 34 => ⟨S8, .f32⟩
  | 35 => ⟨S8, .f32⟩
  | 36 => ⟨S_, .f32⟩
  | 37 => ⟨S8, .f32⟩
  | 38 => ⟨S8, .f32⟩
  | 39 => ⟨S2048, .f32⟩
  | 40 => ⟨S2048x1, .f32⟩
  | 41 => ⟨S1x8, .f32⟩
  | 42 => ⟨S2048x8, .f32⟩
  | 43 => ⟨S2048x8, .f32⟩
  | 44 => ⟨S2048x8, .f32⟩
  | 45 => ⟨S2048x8, .f32⟩
  | 46 => ⟨S2048x8, .f32⟩
  | 47 => ⟨S_, .i32⟩
  | 48 => ⟨S128, .i32⟩
  | 49 => ⟨S128, .i32⟩
  | 50 => ⟨S128, .i32⟩
  | 51 => ⟨S128x1, .i32⟩
  | 52 => ⟨S2048x128, .f32⟩
  | 53 => ⟨S_, .i32⟩
  | 54 => ⟨S128, .i32⟩
  | 55 => ⟨S128, .i32⟩
  | 56 => ⟨S128, .i32⟩
  | 57 => ⟨S128x1, .i32⟩
  | 58 => ⟨S2048x128, .f32⟩
  | 59 => ⟨S1x128, .i1⟩
  | 60 => ⟨S_, .f32⟩
  | 61 => ⟨S_, .f32⟩
  | 62 => ⟨S2048x128, .i1⟩
  | 63 => ⟨S2048x128, .f32⟩
  | 64 => ⟨S2048x128, .f32⟩
  | 65 => ⟨S1x128, .i1⟩
  | 66 => ⟨S2048x128, .f32⟩
  | 67 => ⟨S_, .f32⟩
  | 68 => ⟨S_, .f32⟩
  | 69 => ⟨S2048x128, .i1⟩
  | 70 => ⟨S2048x128, .f32⟩
  | 71 => ⟨S2048x128, .f32⟩
  | 72 => ⟨S1x128, .i1⟩
  | 73 => ⟨S_, .f32⟩
  | 74 => ⟨S_, .f32⟩
  | 75 => ⟨S2048x128, .i1⟩
  | 76 => ⟨S2048x128, .f32⟩
  | 77 => ⟨S2048x128, .f32⟩
  | 78 => ⟨S1x2048x1x128, .f32⟩
  | 79 => ⟨S1x2048x1x128, .f32⟩
  | 80 => ⟨S2048x128, .f32⟩
  | 81 => ⟨S1x2048x1x128, .f32⟩
  | 82 => ⟨S1x2048x1x128, .f32⟩
  | 83 => ⟨S2048x128, .f32⟩
  | 84 => ⟨S1x2048x1x128, .f32⟩
  | 85 => ⟨S1x2048x1x128, .f32⟩
  | 86 => ⟨S2048x128, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S_, .f32⟩
  | 96 => ⟨S32, .f32⟩
  | 97 => ⟨S32, .f32⟩
  | 98 => ⟨S2048, .f32⟩
  | 99 => ⟨S2048x1, .f32⟩
  | 100 => ⟨S1x32, .f32⟩
  | 101 => ⟨S2048x32, .f32⟩
  | 102 => ⟨S2048x32, .f32⟩
  | 103 => ⟨S2048x32, .f32⟩
  | 104 => ⟨S2048x32, .f32⟩
  | 105 => ⟨S2048x32, .f32⟩
  | 106 => ⟨S_, .i32⟩
  | 107 => ⟨S128, .i32⟩
  | 108 => ⟨S128, .i32⟩
  | 109 => ⟨S128, .i32⟩
  | 110 => ⟨S128x1, .i32⟩
  | 111 => ⟨S2048x128, .f32⟩
  | 112 => ⟨S_, .i32⟩
  | 113 => ⟨S128, .i32⟩
  | 114 => ⟨S128, .i32⟩
  | 115 => ⟨S128, .i32⟩
  | 116 => ⟨S128x1, .i32⟩
  | 117 => ⟨S2048x128, .f32⟩
  | 118 => ⟨S1x128, .i1⟩
  | 119 => ⟨S_, .f32⟩
  | 120 => ⟨S_, .f32⟩
  | 121 => ⟨S2048x128, .i1⟩
  | 122 => ⟨S2048x128, .f32⟩
  | 123 => ⟨S2048x128, .f32⟩
  | 124 => ⟨S1x128, .i1⟩
  | 125 => ⟨S2048x128, .f32⟩
  | 126 => ⟨S_, .f32⟩
  | 127 => ⟨S_, .f32⟩
  | _ => ⟨S8192x3840, .f32⟩

abbrev hbmTy0_1 (i : Nat) : BufTy := match i % 128 with
  | 0 => ⟨S2048x128, .i1⟩
  | 1 => ⟨S2048x128, .f32⟩
  | 2 => ⟨S2048x128, .f32⟩
  | 3 => ⟨S1x128, .i1⟩
  | 4 => ⟨S_, .f32⟩
  | 5 => ⟨S_, .f32⟩
  | 6 => ⟨S2048x128, .i1⟩
  | 7 => ⟨S2048x128, .f32⟩
  | 8 => ⟨S2048x128, .f32⟩
  | 9 => ⟨S1x2048x1x128, .f32⟩
  | 10 => ⟨S1x2048x1x128, .f32⟩
  | 11 => ⟨S2048x128, .f32⟩
  | 12 => ⟨S1x2048x1x128, .f32⟩
  | 13 => ⟨S1x2048x1x128, .f32⟩
  | 14 => ⟨S2048x128, .f32⟩
  | 15 => ⟨S1x2048x1x128, .f32⟩
  | 16 => ⟨S1x2048x1x128, .f32⟩
  | 17 => ⟨S2048x128, .f32⟩
  | 18 => ⟨S1x1x128, .f32⟩
  | 19 => ⟨S1x128, .f32⟩
  | 20 => ⟨S1x1x1024, .f32⟩
  | 21 => ⟨S1x1024, .f32⟩
  | 22 => ⟨S1x1x256, .f32⟩
  | 23 => ⟨S1x256, .f32⟩
  | 24 => ⟨S1x1x128, .f32⟩
  | 25 => ⟨S1x128, .f32⟩
  | 26 => ⟨S8192x1024, .bf16⟩
  | 27 => ⟨S8192x128, .f32⟩
  | 28 => ⟨S8192x256, .f32⟩
  | 29 => ⟨S8192x128, .f32⟩
  | _ => ⟨S8192x3840, .f32⟩

abbrev hbmTy (i : Nat) : BufTy := match i / 128 with
  | 0 => hbmTy0_0 i
  | 1 => hbmTy0_1 i
  | _ => ⟨S8192x3840, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S256x256, .f32⟩
  | .local _ .vmem, ⟨5, _⟩ => ⟨S256x256, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S1x128, .f32⟩
  | .local _ .vmem, ⟨21, _⟩ => ⟨S1x1024, .f32⟩
  | .local _ .vmem, ⟨22, _⟩ => ⟨S1x256, .f32⟩
  | .local _ .vmem, ⟨23, _⟩ => ⟨S1x128, .f32⟩
  | .local _ .vmem, ⟨24, _⟩ => ⟨S256x1024, .bf16⟩
  | .local _ .vmem, ⟨25, _⟩ => ⟨S256x1024, .bf16⟩
  | .local _ .vmem, ⟨26, _⟩ => ⟨S256x128, .f32⟩
  | .local _ .vmem, ⟨27, _⟩ => ⟨S256x128, .f32⟩
  | .local _ .vmem, ⟨28, _⟩ => ⟨S256x256, .f32⟩
  | .local _ .vmem, ⟨29, _⟩ => ⟨S256x256, .f32⟩
  | .local _ .vmem, ⟨30, _⟩ => ⟨S256x128, .f32⟩
  | .local _ .vmem, ⟨31, _⟩ => ⟨S256x128, .f32⟩
  | _, _ => ⟨S8192x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_c_3 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_c_8 : Ref sig .tc := ⟨.hbm, 14, rfl⟩
abbrev main_c_9 : Ref sig .tc := ⟨.hbm, 15, rfl⟩
abbrev main_c_10 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_11 : Ref sig .tc := ⟨.hbm, 24, rfl⟩
abbrev main_call0_v0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_12 : Ref sig .tc := ⟨.hbm, 33, rfl⟩
abbrev main_v13 : Ref sig .tc := ⟨.hbm, 34, rfl⟩
abbrev main_v14 : Ref sig .tc := ⟨.hbm, 35, rfl⟩
abbrev main_cst_13 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_14 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_c_15 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_16 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_17 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_v39 : Ref sig .tc := ⟨.hbm, 71, rfl⟩
abbrev main_v40 : Ref sig .tc := ⟨.hbm, 72, rfl⟩
abbrev main_cst_18 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_cst_20 : Ref sig .tc := ⟨.hbm, 92, rfl⟩
abbrev main_v55 : Ref sig .tc := ⟨.hbm, 93, rfl⟩
abbrev main_v56 : Ref sig .tc := ⟨.hbm, 94, rfl⟩
abbrev main_cst_21 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_c_22 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_c_23 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_24 : Ref sig .tc := ⟨.hbm, 119, rfl⟩
abbrev main_call4_v0 : Ref sig .tc := ⟨.hbm, 120, rfl⟩
abbrev main_call4_v1 : Ref sig .tc := ⟨.hbm, 121, rfl⟩
abbrev main_call4_v2 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_25 : Ref sig .tc := ⟨.hbm, 126, rfl⟩
abbrev main_call5_v0 : Ref sig .tc := ⟨.hbm, 127, rfl⟩
abbrev main_call5_v1 : Ref sig .tc := ⟨.hbm, 128, rfl⟩
abbrev main_call5_v2 : Ref sig .tc := ⟨.hbm, 129, rfl⟩
abbrev main_v81 : Ref sig .tc := ⟨.hbm, 130, rfl⟩
abbrev main_v82 : Ref sig .tc := ⟨.hbm, 131, rfl⟩
abbrev main_cst_26 : Ref sig .tc := ⟨.hbm, 132, rfl⟩
abbrev main_call6_v0 : Ref sig .tc := ⟨.hbm, 133, rfl⟩
abbrev main_call6_v1 : Ref sig .tc := ⟨.hbm, 134, rfl⟩
abbrev main_call6_v2 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101_0 : Ref sig .tc := ⟨.hbm, 154, rfl⟩
abbrev main_v101_1 : Ref sig .tc := ⟨.hbm, 155, rfl⟩
abbrev main_v101_2 : Ref sig .tc := ⟨.hbm, 156, rfl⟩
abbrev main_v101_3 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_3 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference9Ideal.lean ====
abbrev S8192x3840 : Shape := ⟨2, ![8192, 3840]⟩
abbrev S2x64 : Shape := ⟨2, ![2, 64]⟩
abbrev S2x1024 : Shape := ⟨2, ![2, 1024]⟩
abbrev S2x256 : Shape := ⟨2, ![2, 256]⟩
abbrev S2048 : Shape := ⟨1, ![2048]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x128 : Shape := ⟨2, ![8192, 128]⟩
abbrev S4x2048x2x64 : Shape := ⟨4, ![4, 2048, 2, 64]⟩
abbrev S1x64 : Shape := ⟨2, ![1, 64]⟩
abbrev S64 : Shape := ⟨1, ![64]⟩
abbrev S4x2048x2 : Shape := ⟨3, ![4, 2048, 2]⟩
abbrev S4x2048x2x1 : Shape := ⟨4, ![4, 2048, 2, 1]⟩
abbrev S1x1x1x64 : Shape := ⟨4, ![1, 1, 1, 64]⟩
abbrev S8 : Shape := ⟨1, ![8]⟩
abbrev S2048x1 : Shape := ⟨2, ![2048, 1]⟩
abbrev S1x8 : Shape := ⟨2, ![1, 8]⟩
abbrev S2048x8 : Shape := ⟨2, ![2048, 8]⟩
abbrev S1x2048x1x8 : Shape := ⟨4, ![1, 2048, 1, 8]⟩
abbrev S4x2048x2x8 : Shape := ⟨4, ![4, 2048, 2, 8]⟩
abbrev S4x2048x2x48 : Shape := ⟨4, ![4, 2048, 2, 48]⟩
abbrev S8192x256 : Shape := ⟨2, ![8192, 256]⟩
abbrev S1x256 : Shape := ⟨2, ![1, 256]⟩
abbrev S256 : Shape := ⟨1, ![256]⟩
abbrev S8192x64 : Shape := ⟨2, ![8192, 64]⟩
abbrev S4x2048x64 : Shape := ⟨3, ![4, 2048, 64]⟩
abbrev S4x2048 : Shape := ⟨2, ![4, 2048]⟩
abbrev S4x2048x1 : Shape := ⟨3, ![4, 2048, 1]⟩
abbrev S1x1x64 : Shape := ⟨3, ![1, 1, 64]⟩
abbrev S32 : Shape := ⟨1, ![32]⟩
abbrev S1x32 : Shape := ⟨2, ![1, 32]⟩
abbrev S2048x32 : Shape := ⟨2, ![2048, 32]⟩
abbrev S1x2048x32 : Shape := ⟨3, ![1, 2048, 32]⟩
abbrev S4x2048x32 : Shape := ⟨3, ![4, 2048, 32]⟩
abbrev S4x2048x0 : Shape := ⟨3, ![4, 2048, 0]⟩

abbrev nBuf : Space → Nat
  | .hbm => 160
  | .vmem => 0
  | .smem => 0
  | _ => 0

abbrev hbmTy0_0 (i : Nat) : BufTy := match i % 128 with
  | 0 => ⟨S8192x3840, .f32⟩
  | 1 => ⟨S2x64, .f32⟩
  | 2 => ⟨S2x1024, .f32⟩
  | 3 => ⟨S2x256, .f32⟩
  | 4 => ⟨S2x64, .f32⟩
  | 5 => ⟨S2048, .i32⟩
  | 6 => ⟨S8192x1024, .f32⟩
  | 7 => ⟨S1x1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x128, .f32⟩
  | 26 => ⟨S4x2048x2x64, .f32⟩
  | 27 => ⟨S1x64, .f32⟩
  | 28 => ⟨S64, .f32⟩
  | 29 => ⟨S4x2048x2x64, .f32⟩
  | 30 => ⟨S_, .f32⟩
  | 31 => ⟨S4x2048x2, .f32⟩
  | 32 => ⟨S4x2048x2x1, .f32⟩
  | 33 => ⟨S_, .f32⟩
  | 34 => ⟨S4x2048x2x1, .f32⟩
  | 35 => ⟨S4x2048x2x1, .f32⟩
  | 36 => ⟨S_, .f32⟩
  | 37 => ⟨S4x2048x2x1, .f32⟩
  | 38 => ⟨S4x2048x2x1, .f32⟩
  | 39 => ⟨S4x2048x2x1, .f32⟩
  | 40 => ⟨S4x2048x2x64, .f32⟩
  | 41 => ⟨S4x2048x2x64, .f32⟩
  | 42 => ⟨S1x1x1x64, .f32⟩
  | 43 => ⟨S4x2048x2x64, .f32⟩
  | 44 => ⟨S4x2048x2x64, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S_, .f32⟩
  | 54 => ⟨S8, .f32⟩
  | 55 => ⟨S8, .f32⟩
  | 56 => ⟨S2048, .f32⟩
  | 57 => ⟨S2048x1, .f32⟩
  | 58 => ⟨S1x8, .f32⟩
  | 59 => ⟨S2048x8, .f32⟩
  | 60 => ⟨S2048x8, .f32⟩
  | 61 => ⟨S2048x8, .f32⟩
  | 62 => ⟨S2048x8, .f32⟩
  | 63 => ⟨S1x2048x1x8, .f32⟩
  | 64 => ⟨S2048x8, .f32⟩
  | 65 => ⟨S1x2048x1x8, .f32⟩
  | 66 => ⟨S4x2048x2x8, .f32⟩
  | 67 => ⟨S4x2048x2x8, .f32⟩
  | 68 => ⟨S4x2048x2x8, .f32⟩
  | 69 => ⟨S4x2048x2x8, .f32⟩
  | 70 => ⟨S4x2048x2x8, .f32⟩
  | 71 => ⟨S4x2048x2x8, .f32⟩
  | 72 => ⟨S4x2048x2x8, .f32⟩
  | 73 => ⟨S4x2048x2x8, .f32⟩
  | 74 => ⟨S4x2048x2x8, .f32⟩
  | 75 => ⟨S4x2048x2x8, .f32⟩
  | 76 => ⟨S4x2048x2x8, .f32⟩
  | 77 => ⟨S4x2048x2x8, .f32⟩
  | 78 => ⟨S4x2048x2x48, .f32⟩
  | 79 => ⟨S4x2048x2x64, .f32⟩
  | 80 => ⟨S8192x256, .f32⟩
  | 81 => ⟨S1x256, .f32⟩
  | 82 => ⟨S256, .f32⟩
  | 83 => ⟨S8192x256, .f32⟩
  | 84 => ⟨S_, .f32⟩
  | 85 => ⟨S8192, .f32⟩
  | 86 => ⟨S8192x1, .f32⟩
  | 87 => ⟨S_, .f32⟩
  | 88 => ⟨S8192x1, .f32⟩
  | 89 => ⟨S8192x1, .f32⟩
  | 90 => ⟨S_, .f32⟩
  | 91 => ⟨S8192x1, .f32⟩
  | 92 => ⟨S8192x1, .f32⟩
  | 93 => ⟨S8192x1, .f32⟩
  | 94 => ⟨S8192x256, .f32⟩
  | 95 => ⟨S8192x256, .f32⟩
  | 96 => ⟨S1x256, .f32⟩
  | 97 => ⟨S8192x256, .f32⟩
  | 98 => ⟨S8192x256, .f32⟩
  | 99 => ⟨S8192x64, .f32⟩
  | 100 => ⟨S4x2048x64, .f32⟩
  | 101 => ⟨S1x64, .f32⟩
  | 102 => ⟨S64, .f32⟩
  | 103 => ⟨S4x2048x64, .f32⟩
  | 104 => ⟨S_, .f32⟩
  | 105 => ⟨S4x2048, .f32⟩
  | 106 => ⟨S4x2048x1, .f32⟩
  | 107 => ⟨S_, .f32⟩
  | 108 => ⟨S4x2048x1, .f32⟩
  | 109 => ⟨S4x2048x1, .f32⟩
  | 110 => ⟨S_, .f32⟩
  | 111 => ⟨S4x2048x1, .f32⟩
  | 112 => ⟨S4x2048x1, .f32⟩
  | 113 => ⟨S4x2048x1, .f32⟩
  | 114 => ⟨S4x2048x64, .f32⟩
  | 115 => ⟨S4x2048x64, .f32⟩
  | 116 => ⟨S1x1x64, .f32⟩
  | 117 => ⟨S4x2048x64, .f32⟩
  | 118 => ⟨S4x2048x64, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S_, .f32⟩
  | _ => ⟨S8192x3840, .f32⟩

abbrev hbmTy0_1 (i : Nat) : BufTy := match i % 128 with
  | 0 => ⟨S32, .f32⟩
  | 1 => ⟨S32, .f32⟩
  | 2 => ⟨S2048, .f32⟩
  | 3 => ⟨S2048x1, .f32⟩
  | 4 => ⟨S1x32, .f32⟩
  | 5 => ⟨S2048x32, .f32⟩
  | 6 => ⟨S2048x32, .f32⟩
  | 7 => ⟨S2048x32, .f32⟩
  | 8 => ⟨S2048x32, .f32⟩
  | 9 => ⟨S1x2048x32, .f32⟩
  | 10 => ⟨S2048x32, .f32⟩
  | 11 => ⟨S1x2048x32, .f32⟩
  | 12 => ⟨S4x2048x32, .f32⟩
  | 13 => ⟨S4x2048x32, .f32⟩
  | 14 => ⟨S4x2048x32, .f32⟩
  | 15 => ⟨S4x2048x32, .f32⟩
  | 16 => ⟨S4x2048x32, .f32⟩
  | 17 => ⟨S4x2048x32, .f32⟩
  | 18 => ⟨S4x2048x32, .f32⟩
  | 19 => ⟨S4x2048x32, .f32⟩
  | 20 => ⟨S4x2048x32, .f32⟩
  | 21 => ⟨S4x2048x32, .f32⟩
  | 22 => ⟨S4x2048x32, .f32⟩
  | 23 => ⟨S4x2048x32, .f32⟩
  | 24 => ⟨S4x2048x0, .f32⟩
  | 25 => ⟨S4x2048x64, .f32⟩
  | 26 => ⟨S8192x1024, .bf16⟩
  | 27 => ⟨S8192x128, .f32⟩
  | 28 => ⟨S8192x64, .f32⟩
  | 29 => ⟨S_, .i32⟩
  | 30 => ⟨S_, .f32⟩
  | 31 => ⟨S8192x128, .f32⟩
  | _ => ⟨S8192x3840, .f32⟩

abbrev hbmTy (i : Nat) : BufTy := match i / 128 with
  | 0 => hbmTy0_0 i
  | 1 => hbmTy0_1 i
  | _ => ⟨S8192x3840, .f32⟩

abbrev bufTy : (tb : Table) → Fin (tcTables nBuf tb) → BufTy
  | .hbm, ⟨i, _⟩ => hbmTy i
  | _, _ => ⟨S8192x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_8 : Ref sig .tc := ⟨.hbm, 84, rfl⟩
abbrev main_v70 : Ref sig .tc := ⟨.hbm, 85, rfl⟩
abbrev main_v71 : Ref sig .tc := ⟨.hbm, 86, rfl⟩
abbrev main_cst_9 : Ref sig .tc := ⟨.hbm, 87, rfl⟩
abbrev main_v72 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_cst_11 : Ref sig .tc := ⟨.hbm, 104, rfl⟩
abbrev main_v87 : Ref sig .tc := ⟨.hbm, 105, rfl⟩
abbrev main_v88 : Ref sig .tc := ⟨.hbm, 106, rfl⟩
abbrev main_cst_12 : Ref sig .tc := ⟨.hbm, 107, rfl⟩
abbrev main_v89 : Ref sig .tc := ⟨.hbm, 108, rfl⟩
abbrev main_v90 : Ref sig .tc := ⟨.hbm, 109, rfl⟩
abbrev main_cst_13 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_cst_14 : Ref sig .tc := ⟨.hbm, 121, rfl⟩
abbrev main_v101 : Ref sig .tc := ⟨.hbm, 122, rfl⟩
abbrev main_v102 : Ref sig .tc := ⟨.hbm, 123, rfl⟩
abbrev main_cst_15 : Ref sig .tc := ⟨.hbm, 124, rfl⟩
abbrev main_v103 : Ref sig .tc := ⟨.hbm, 125, rfl⟩
abbrev main_v104 : Ref sig .tc := ⟨.hbm, 126, rfl⟩
abbrev main_cst_16 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_c : Ref sig .tc := ⟨.hbm, 157, rfl⟩
abbrev main_call0_v0 : Ref sig .tc := ⟨.hbm, 158, rfl⟩
abbrev main_v134 : Ref sig .tc := ⟨.hbm, 159, rfl⟩

abbrev nD : Nat := 1
abbrev τ : Topo := Topo.v7x

variable {F : FTy → Type} [FloatOps F]
-- ==== Proof.Tile.lean ====
module
public import proofs.«01_k».proof.Proof.Gen.KernelIdeal.Loops
@[expose] public section
set_option maxRecDepth 65536
set_option maxHeartbeats 0
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]
/-- The score logits of one tile: keys by transposed queries. -/
def scores (kb : FVec F S256x128 .bf16) (q : Vec F S1x128x128 .bf16) : FVec F S256x128 .f32 :=
  matmul dot_S256x128_S128x128_S256x128_1_0_0_1_n_n none kb
    (shapeCast S128x128 q shapeCasts_S1x128x128_S128x128 : FVec F S128x128 .bf16) (constant S256x128 .f32 0x00000000#32)

/-- The logarithm (base two) of the stick-breaking weight at a logit. -/
def logBeta (z : FVec F S256x128 .f32) : FVec F S256x128 .f32 :=
  subf (minimumf z (broadcast S256x128 (Scalar.ofBits .f32 0x00000000#32)))
    (mulf (log (addf (broadcast S256x128 (Scalar.ofBits .f32 0x3F800000#32))
      (exp2 (subf (broadcast S256x128 (Scalar.ofBits .f32 0x00000000#32)) (absf z)))))
      (broadcast S256x128 (Named.named κ "log2e" 0x3FB8AA3B#32)))

/-- The logarithm of what a key leaves to the older ones. -/
def logRest (z : FVec F S256x128 .f32) : FVec F S256x128 .f32 := subf (logBeta z) z

/-- The sums of the later rows of one half block, in two rounded parts. -/
def halfSums (tri : FVec F S128x128 .bf16) (x : FVec F S128x128 .f32) : FVec F S128x128 .f32 :=
  let hi : FVec F S128x128 .bf16 := truncf .bf16 x bitsLt_bf16_f32
  let lo : FVec F S128x128 .bf16 := truncf .bf16 (subf x (extf .f32 hi bitsLt_bf16_f32)) bitsLt_bf16_f32
  let both : FVec F S128x256 .f32 := matmul dot_S128x128_S128x256_S128x256_1_0_0_1_n_n none tri
    (concatenate S128x256 1 [⟨S128x128, hi⟩, ⟨S128x128, lo⟩] concatenates_S128x128_S128x128_S128x256_d1)
    (constant S128x256 .f32 0x00000000#32)
  addf (extractStridedSlice S128x128 ![0, 0] both slices_S128x256_o0_0_S128x128)
    (extractStridedSlice S128x128 ![0, 128] both slices_S128x256_o0_128_S128x128)

/-- The sum of one half block's rows. -/
def halfTotal (tri : FVec F S128x128 .bf16) (x : FVec F S128x128 .f32) : FVec F S1x128 .f32 :=
  addf (extractStridedSlice S1x128 ![0, 0] (halfSums tri x) slices_S128x128_o0_0_S1x128)
    (extractStridedSlice S1x128 ![0, 0] x slices_S128x128_o0_0_S1x128)

/-- The newer and the older half of a block's rows. -/
def newHalf (x : FVec F S256x128 .f32) : FVec F S128x128 .f32 :=
  extractStridedSlice S128x128 ![128, 0] x slices_S256x128_o128_0_S128x128

/-- The older half of a block's rows. -/
def oldHalf (x : FVec F S256x128 .f32) : FVec F S128x128 .f32 :=
  extractStridedSlice S128x128 ![0, 0] x slices_S256x128_o0_0_S128x128

/-- The sums of the later rows of a whole block. -/
def sufSums (tri : FVec F S128x128 .bf16) (x : FVec F S256x128 .f32) : FVec F S256x128 .f32 :=
  concatenate S256x128 0 [⟨S128x128, addf (halfSums tri (oldHalf x))
      (broadcastTo S128x128 (halfTotal tri (newHalf x)) broadcasts_S1x128_S128x128)⟩,
    ⟨S128x128, halfSums tri (newHalf x)⟩] concatenates_S128x128_S128x128_S256x128_d0

/-- The sum of a whole block's rows. -/
def sufTotal (tri : FVec F S128x128 .bf16) (x : FVec F S256x128 .f32) : FVec F S1x128 .f32 :=
  addf (halfTotal tri (oldHalf x)) (halfTotal tri (newHalf x))

/-- The logarithms of the attention weights of a tile. -/
def logWeights (tri : FVec F S128x128 .bf16) (z x : FVec F S256x128 .f32) (m : FVec F S1x128 .f32) : FVec F S256x128 .f32 :=
  addf (logBeta z) (addf (broadcastTo S256x128 m broadcasts_S1x128_S256x128) (sufSums tri x))

/-- The carried row of a tile after a block whose masked logarithms are `x`. -/
def tileCarry (tri : FVec F S128x128 .bf16) (x : FVec F S256x128 .f32) (m : Vec F S1x1x128 .f32) : FVec F S1x1x128 .f32 :=
  shapeCast S1x1x128 (addf (shapeCast S1x128 m shapeCasts_S1x1x128_S1x128 : FVec F S1x128 .f32) (sufTotal tri x)) shapeCasts_S1x128_S1x1x128

/-- The accumulated products of a tile after a block of weights `w`. -/
def tileAcc (vt : FVec F S128x256 .bf16) (w : FVec F S256x128 .f32) (a : Vec F S1x128x128 .f32) : FVec F S1x128x128 .f32 :=
  shapeCast S1x128x128 (addf (shapeCast S128x128 a shapeCasts_S1x128x128_S128x128 : FVec F S128x128 .f32)
    (matmul dot_S128x256_S256x128_S128x128_1_0_0_1_n_n none vt (truncf .bf16 w bitsLt_bf16_f32 : FVec F S256x128 .bf16)
      (constant S128x128 .f32 0x00000000#32))) shapeCasts_S128x128_S1x128x128

/-- A past block's carried row. -/
def pastCarry (k : Vec F S256x128 .f32) (q : Vec F S1x128x128 .bf16) (tri : Vec F S128x128 .bf16) (m : Vec F S1x1x128 .f32) : FVec F S1x1x128 .f32 :=
  tileCarry tri (logRest (scores (truncf .bf16 (k : FVec F S256x128 .f32) bitsLt_bf16_f32) q)) m

/-- The transposed, rounded values of a block. -/
def valsT (v : Vec F S256x128 .f32) : FVec F S128x256 .bf16 :=
  truncf .bf16 (transpose S128x256 [1, 0] v transposes_S256x128_p1_0_S128x256 : FVec F S128x256 .f32) bitsLt_bf16_f32

/-- A past block's accumulated products. -/
def pastAcc (k v : Vec F S256x128 .f32) (q : Vec F S1x128x128 .bf16) (tri : Vec F S128x128 .bf16) (m : Vec F S1x1x128 .f32)
    (a : Vec F S1x128x128 .f32) : FVec F S1x128x128 .f32 :=
  tileAcc (valsT v) (exp2 (logWeights tri (scores (truncf .bf16 (k : FVec F S256x128 .f32) bitsLt_bf16_f32) q)
      (logRest (scores (truncf .bf16 (k : FVec F S256x128 .f32) bitsLt_bf16_f32) q))
      (shapeCast S1x128 m shapeCasts_S1x1x128_S1x128))) a

/-- Which keys of the diagonal block lie strictly before which queries of a tile. -/
def strictAt (v0 v17 w : BitVec 32) : IVec S256x128 1 :=
  cmpi .slt (addi (broadcast S256x128 v17) (iota .tc S256x128 32 [0] iota_S256x128_d0_w32))
    (broadcastTo S256x128 (addi (broadcast S1x128 v0) (andi (addi (broadcast S1x128 (Scalar.muli w 128#32))
      (iota .tc S1x128 32 [1] iota_S1x128_d1_w32)) (broadcast S1x128 255#32))) broadcasts_S1x128_S256x128)

/-- A masked array, zero where the mask is off. -/
def masked (p : IVec S256x128 1) (x : FVec F S256x128 .f32) : FVec F S256x128 .f32 :=
  select p x (broadcast S256x128 (Scalar.ofBits .f32 0x00000000#32))

/-- The diagonal block's carried row. -/
def diagCarry (p : IVec S256x128 1) (k : Vec F S256x128 .f32) (q : Vec F S1x128x128 .bf16) (tri : Vec F S128x128 .bf16) (m : Vec F S1x1x128 .f32) : FVec F S1x1x128 .f32 :=
  tileCarry tri (masked p (logRest (scores (truncf .bf16 (k : FVec F S256x128 .f32) bitsLt_bf16_f32) q))) m

/-- The diagonal block's accumulated products. -/
def diagAcc (p : IVec S256x128 1) (k v : Vec F S256x128 .f32) (q : Vec F S1x128x128 .bf16) (tri : Vec F S128x128 .bf16) (m : Vec F S1x1x128 .f32)
    (a : Vec F S1x128x128 .f32) : FVec F S1x128x128 .f32 :=
  tileAcc (valsT v) (masked p (exp2 (logWeights tri (scores (truncf .bf16 (k : FVec F S256x128 .f32) bitsLt_bf16_f32) q)
      (masked p (logRest (scores (truncf .bf16 (k : FVec F S256x128 .f32) bitsLt_bf16_f32) q)))
      (shapeCast S1x128 m shapeCasts_S1x1x128_S1x128)))) a

/-- The rows one trip stores, last first. -/
def rows16 : List (Fin 16) := [15, 14, 13, 12, 11, 10, 9, 8, 7, 6, 5, 4, 3, 2, 1, 0]

/-- The carried rows one trip over a past block stores. -/
theorem trip2_carry (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (k0_h3 : k0_cond3 i = 1#1) (v15 : Vec F S256x128 .f32) (v16 : Vec F S256x128 .f32) (X_arg6 : BufTy.Contents (Elt F) arg6.view.ty) (X_arg8 : BufTy.Contents (Elt F) arg8.view.ty) (k : Fin k0_t2_loop.trips)
    (f9 : BufTy.Contents (Elt F) arg9.view.ty) (f11 : BufTy.Contents (Elt F) arg11.view.ty) :
    (trip_k0_t2 (F := F) 𝒱 c bd i arg3 harg3 arg4 harg4 arg5 harg5 arg6 harg6 arg7 harg7 arg8 harg8 arg9 harg9 arg10 harg10 arg11 harg11 k0_h3 v15 v16 X_arg6 X_arg8 k).1 f9 f11 = rows16.map (fun s => (⟨Rect.unit (s := S32x1x128) (k0_off3 k (BitVec.ofNat 32 s.val)) S1x1x128.size (k0_off3_inb i k k0_h3 s), pastCarry v15 (arg8.view.readAt (Elt F) (Rect.unit (s := S32x128x128) (k0_off4 k (BitVec.ofNat 32 s.val)) S1x128x128.size (k0_off4_inb i k k0_h3 s)).toLoadRect X_arg8) (arg6.view.readAt (Elt F) (Rect.unit (s := S128x128) ![0, 0] S128x128.size inb_S128x128_S128x128_0_0).toLoadRect X_arg6) (arg9.view.readAt (Elt F) (Rect.unit (s := S32x1x128) (k0_off3 k (BitVec.ofNat 32 s.val)) S1x1x128.size (k0_off3_inb i k k0_h3 s)).toLoadRect f9)⟩ : View.Piece (Elt F) S32x1x128 _)) := by
  unfold trip_k0_t2
  rfl

/-- The accumulated products one trip over a past block stores. -/
theorem trip2_acc (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (k0_h3 : k0_cond3 i = 1#1) (v15 : Vec F S256x128 .f32) (v16 : Vec F S256x128 .f32) (X_arg6 : BufTy.Contents (Elt F) arg6.view.ty) (X_arg8 : BufTy.Contents (Elt F) arg8.view.ty) (k : Fin k0_t2_loop.trips)
    (f9 : BufTy.Contents (Elt F) arg9.view.ty) (f11 : BufTy.Contents (Elt F) arg11.view.ty) :
    (trip_k0_t2 (F := F) 𝒱 c bd i arg3 harg3 arg4 harg4 arg5 harg5 arg6 harg6 arg7 harg7 arg8 harg8 arg9 harg9 arg10 harg10 arg11 harg11 k0_h3 v15 v16 X_arg6 X_arg8 k).2.1 f9 f11 = rows16.map (fun s => (⟨Rect.unit (s := S32x128x128) (k0_off4 k (BitVec.ofNat 32 s.val)) S1x128x128.size (k0_off4_inb i k k0_h3 s), pastAcc v15 v16 (arg8.view.readAt (Elt F) (Rect.unit (s := S32x128x128) (k0_off4 k (BitVec.ofNat 32 s.val)) S1x128x128.size (k0_off4_inb i k k0_h3 s)).toLoadRect X_arg8) (arg6.view.readAt (Elt F) (Rect.unit (s := S128x128) ![0, 0] S128x128.size inb_S128x128_S128x128_0_0).toLoadRect X_arg6) (arg9.view.readAt (Elt F) (Rect.unit (s := S32x1x128) (k0_off3 k (BitVec.ofNat 32 s.val)) S1x1x128.size (k0_off3_inb i k k0_h3 s)).toLoadRect f9) (arg11.view.readAt (Elt F) (Rect.unit (s := S32x128x128) (k0_off4 k (BitVec.ofNat 32 s.val)) S1x128x128.size (k0_off4_inb i k k0_h3 s)).toLoadRect f11)⟩ : View.Piece (Elt F) S32x128x128 _)) := by
  unfold trip_k0_t2
  rfl

/-- The carried rows one trip over the diagonal block stores. -/
theorem trip1_carry (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (v0 : BitVec 32) (k0_h2 : k0_cond2 i = 1#1) (v15 : Vec F S256x128 .f32) (v16 : Vec F S256x128 .f32) (v17 : BitVec 32) (X_arg6 : BufTy.Contents (Elt F) arg6.view.ty) (X_arg8 : BufTy.Contents (Elt F) arg8.view.ty) (k : Fin k0_t1_loop.trips)
    (f9 : BufTy.Contents (Elt F) arg9.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 k).1 f9 f11 = rows16.map (fun s => (⟨Rect.unit (s := S32x1x128) (k0_off1 k (BitVec.ofNat 32 s.val)) S1x1x128.size (k0_off1_inb i k k0_h2 s), diagCarry (strictAt v0 v17 (Scalar.addi (Scalar.muli (Scf.iv 0#32 1#32 k) 16#32) (BitVec.ofNat 32 s.val))) v15 (arg8.view.readAt (Elt F) (Rect.unit (s := S32x128x128) (k0_off2 k (BitVec.ofNat 32 s.val)) S1x128x128.size (k0_off2_inb i k k0_h2 s)).toLoadRect X_arg8) (arg6.view.readAt (Elt F) (Rect.unit (s := S128x128) ![0, 0] S128x128.size inb_S128x128_S128x128_0_0).toLoadRect X_arg6) (arg9.view.readAt (Elt F) (Rect.unit (s := S32x1x128) (k0_off1 k (BitVec.ofNat 32 s.val)) S1x1x128.size (k0_off1_inb i k k0_h2 s)).toLoadRect f9)⟩ : View.Piece (Elt F) S32x1x128 _)) := by
  unfold trip_k0_t1
  rfl

/-- The accumulated products one trip over the diagonal block stores. -/
theorem trip1_acc (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (v0 : BitVec 32) (k0_h2 : k0_cond2 i = 1#1) (v15 : Vec F S256x128 .f32) (v16 : Vec F S256x128 .f32) (v17 : BitVec 32) (X_arg6 : BufTy.Contents (Elt F) arg6.view.ty) (X_arg8 : BufTy.Contents (Elt F) arg8.view.ty) (k : Fin k0_t1_loop.trips)
    (f9 : BufTy.Contents (Elt F) arg9.view.ty) (f11 : BufTy.Contents (Elt F) arg11.view.ty) :
    (trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 k).2.1 f9 f11 = rows16.map (fun s => (⟨Rect.unit (s := S32x128x128) (k0_off2 k (BitVec.ofNat 32 s.val)) S1x128x128.size (k0_off2_inb i k k0_h2 s), diagAcc (strictAt v0 v17 (Scalar.addi (Scalar.muli (Scf.iv 0#32 1#32 k) 16#32) (BitVec.ofNat 32 s.val))) v15 v16 (arg8.view.readAt (Elt F) (Rect.unit (s := S32x128x128) (k0_off2 k (BitVec.ofNat 32 s.val)) S1x128x128.size (k0_off2_inb i k k0_h2 s)).toLoadRect X_arg8) (arg6.view.readAt (Elt F) (Rect.unit (s := S128x128) ![0, 0] S128x128.size inb_S128x128_S128x128_0_0).toLoadRect X_arg6) (arg9.view.readAt (Elt F) (Rect.unit (s := S32x1x128) (k0_off1 k (BitVec.ofNat 32 s.val)) S1x1x128.size (k0_off1_inb i k k0_h2 s)).toLoadRect f9) (arg11.view.readAt (Elt F) (Rect.unit (s := S32x128x128) (k0_off2 k (BitVec.ofNat 32 s.val)) S1x128x128.size (k0_off2_inb i k k0_h2 s)).toLoadRect f11)⟩ : View.Piece (Elt F) S32x128x128 _)) := by
  unfold trip_k0_t1
  rfl

end Cert.KernelIdeal.Gen

end
-- ==== Proof.Rows.lean ====
module
public import proofs.«01_k».proof.Proof.Tile
public import Idealize.ShloMosaic.Lib.VecWindow
public import Idealize.ShloMosaic.Lib.WritesUnit
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

/-- Row `r` of an array of 32 rows of one line. -/
def row1 {e : EltTy} (x : S32x1x128.Idx → Elt F e) (r : Fin 32) : S1x1x128.Idx → Elt F e := fun y =>
  x fun a => match a with
    | ⟨0, _⟩ => r
    | ⟨1, _⟩ => y 1
    | ⟨2, _⟩ => y 2

/-- Tile `r` of an array of 32 tiles. -/
def row128 {e : EltTy} (x : S32x128x128.Idx → Elt F e) (r : Fin 32) : S1x128x128.Idx → Elt F e := fun y =>
  x fun a => match a with
    | ⟨0, _⟩ => r
    | ⟨1, _⟩ => y 1
    | ⟨2, _⟩ => y 2

/-- The place inside its row of an index of the 32 rows. -/
def loc1 (y : S32x1x128.Idx) : S1x1x128.Idx := fun a => match a with
    | ⟨0, _⟩ => (0 : Fin 1)
    | ⟨1, _⟩ => y 1
    | ⟨2, _⟩ => y 2

/-- The place inside its tile of an index of the 32 tiles. -/
def loc128 (y : S32x128x128.Idx) : S1x128x128.Idx := fun a => match a with
    | ⟨0, _⟩ => (0 : Fin 1)
    | ⟨1, _⟩ => y 1
    | ⟨2, _⟩ => y 2

section Reads
variable {sig : RefSig} {κ : Kind} {sp : Space} {e : EltTy}

/-- A load of one row reads that row of what the view reads. -/
theorem readAt_row1 (v : View sig κ sp S32x1x128 e) (f : v.ty.Contents (Elt F)) {off : Fin 3 → ℕ}
    (inb : ∀ a, off a + S1x1x128.size a ≤ S32x1x128.size a) (r : Fin 32) (h : off = ![r.val, 0, 0]) :
    v.readAt (Elt F) (Rect.unit (s := S32x1x128) off S1x1x128.size inb).toLoadRect f = row1 (v.read (Elt F) f) r := by
  subst h
  funext y
  refine congrArg (v.read (Elt F) f) (funext fun a => Fin.ext ?_)
  match a with
  | ⟨0, _⟩ => have h0 : (y 0).val < 1 := (y 0).isLt; show r.val + 1 * (y 0).val = r.val; omega
  | ⟨1, _⟩ => show 0 + 1 * (y 1).val = (y 1).val; omega
  | ⟨2, _⟩ => show 0 + 1 * (y 2).val = (y 2).val; omega

/-- A load of one tile reads that tile of what the view reads. -/
theorem readAt_row128 (v : View sig κ sp S32x128x128 e) (f : v.ty.Contents (Elt F)) {off : Fin 3 → ℕ}
    (inb : ∀ a, off a + S1x128x128.size a ≤ S32x128x128.size a) (r : Fin 32) (h : off = ![r.val, 0, 0]) :
    v.readAt (Elt F) (Rect.unit (s := S32x128x128) off S1x128x128.size inb).toLoadRect f = row128 (v.read (Elt F) f) r := by
  subst h
  funext y
  refine congrArg (v.read (Elt F) f) (funext fun a => Fin.ext ?_)
  match a with
  | ⟨0, _⟩ => have h0 : (y 0).val < 1 := (y 0).isLt; show r.val + 1 * (y 0).val = r.val; omega
  | ⟨1, _⟩ => show 0 + 1 * (y 1).val = (y 1).val; omega
  | ⟨2, _⟩ => show 0 + 1 * (y 2).val = (y 2).val; omega

/-- The row of a stored row's places. -/
theorem emb_row1 {off : Fin 3 → ℕ} (inb : ∀ a, off a + S1x1x128.size a ≤ S32x1x128.size a) (r : Fin 32) (h : off = ![r.val, 0, 0])
    (x : (Rect.unit (s := S32x1x128) off S1x1x128.size inb).shape.Idx) :
    ((Rect.unit (s := S32x1x128) off S1x1x128.size inb).emb x) 0 = r ∧ loc1 ((Rect.unit (s := S32x1x128) off S1x1x128.size inb).emb x) = x := by
  subst h
  have hx : (x 0).val < 1 := (x 0).isLt
  refine ⟨Fin.ext (by show r.val + 1 * (x 0).val = r.val; omega), funext fun b => Fin.ext ?_⟩
  match b with
  | ⟨0, _⟩ => show 0 = (x 0).val; omega
  | ⟨1, _⟩ => show 0 + 1 * (x 1).val = (x 1).val; omega
  | ⟨2, _⟩ => show 0 + 1 * (x 2).val = (x 2).val; omega

/-- The tile of a stored tile's places. -/
theorem emb_row128 {off : Fin 3 → ℕ} (inb : ∀ a, off a + S1x128x128.size a ≤ S32x128x128.size a) (r : Fin 32) (h : off = ![r.val, 0, 0])
    (x : (Rect.unit (s := S32x128x128) off S1x128x128.size inb).shape.Idx) :
    ((Rect.unit (s := S32x128x128) off S1x128x128.size inb).emb x) 0 = r ∧ loc128 ((Rect.unit (s := S32x128x128) off S1x128x128.size inb).emb x) = x := by
  subst h
  have hx : (x 0).val < 1 := (x 0).isLt
  refine ⟨Fin.ext (by show r.val + 1 * (x 0).val = r.val; omega), funext fun b => Fin.ext ?_⟩
  match b with
  | ⟨0, _⟩ => show 0 = (x 0).val; omega
  | ⟨1, _⟩ => show 0 + 1 * (x 1).val = (x 1).val; omega
  | ⟨2, _⟩ => show 0 + 1 * (x 2).val = (x 2).val; omega

section Trips
variable {s : Shape} (z : Fin s.rank) (v : View sig κ sp s e) (f : v.ty.Contents (Elt F)) {size : Fin s.rank → ℕ} (k : ℕ)
  {off : Fin 16 → Fin s.rank → ℕ} (inb : ∀ i a, off i a + size a ≤ s.size a)
  (w : ∀ i : Fin 16, (Rect.unit (off i) size (inb i)).shape.Idx → Elt F e)

/-- Sixteen stored rows read as any function that agrees with them on each. -/
theorem rows_hit (hz : ∀ i, off i z = 16 * k + i.val) (hsz : size z = 1)
    (ho : ∀ i a, a ≠ z → off i a = 0 ∧ size a = s.size a) (G : s.Idx → Elt F e)
    (hG : ∀ i x, w i x = G ((Rect.unit (off i) size (inb i)).emb x)) (y : s.Idx) (h1 : 16 * k ≤ (y z).val)
    (h2 : (y z).val < 16 * k + 16) :
    v.read (Elt F) (v.writes (Elt F) f (rows16.map fun i => ⟨Rect.unit (off i) size (inb i), w i⟩)) y = G y := by
  refine View.read_writes_apply_of_pieces v f G _ ?_ y ?_
  · intro p hp
    obtain ⟨i, -, rfl⟩ := List.mem_map.mp hp
    exact hG i
  · have hm : ∀ i : Fin 16, i ∈ rows16 := by decide
    obtain ⟨i, hi⟩ : ∃ i : Fin 16, (y z).val = 16 * k + i.val := ⟨⟨(y z).val - 16 * k, by omega⟩, by simp only []; omega⟩
    refine ⟨_, List.mem_map.mpr ⟨i, hm i, rfl⟩, (Rect.mem_set_unit (inb := inb i)).mpr fun a => ?_⟩
    by_cases ha : a = z
    · subst ha
      rw [hz, hsz]
      omega
    · obtain ⟨e1, e2⟩ := ho i a ha
      rw [e1, e2]
      have := (y a).isLt
      omega

/-- Sixteen stored rows leave the other rows as they were. -/
theorem rows_miss (hz : ∀ i, off i z = 16 * k + i.val) (hsz : size z = 1) (y : s.Idx)
    (hy : (y z).val < 16 * k ∨ 16 * k + 16 ≤ (y z).val) :
    v.read (Elt F) (v.writes (Elt F) f (rows16.map fun i => ⟨Rect.unit (off i) size (inb i), w i⟩)) y = v.read (Elt F) f y := by
  refine View.read_writes_apply_of_forall_not_mem v f y _ ?_
  intro p hp
  obtain ⟨i, -, rfl⟩ := List.mem_map.mp hp
  intro hc
  have hc' := (Rect.mem_set_unit (inb := inb i)).mp hc z
  rw [hz, hsz] at hc'
  have := i.isLt
  omega

end Trips

end Reads

/-- Where a trip's rows lie. -/
theorem off1_eq : ∀ (k : Fin k0_t1_loop.trips) (s : Fin 16), k0_off1 k (BitVec.ofNat 32 s.val) = ![16 * k.val + s.val, 0, 0] := by
  decide +kernel
/-- Where a trip's tiles lie. -/
theorem off2_eq : ∀ (k : Fin k0_t1_loop.trips) (s : Fin 16), k0_off2 k (BitVec.ofNat 32 s.val) = ![16 * k.val + s.val, 0, 0] := by
  decide +kernel
/-- Where a trip's rows lie, for a past block. -/
theorem off3_eq : ∀ (k : Fin k0_t2_loop.trips) (s : Fin 16), k0_off3 k (BitVec.ofNat 32 s.val) = ![16 * k.val + s.val, 0, 0] := by
  decide +kernel
/-- Where a trip's tiles lie, for a past block. -/
theorem off4_eq : ∀ (k : Fin k0_t2_loop.trips) (s : Fin 16), k0_off4 k (BitVec.ofNat 32 s.val) = ![16 * k.val + s.val, 0, 0] := by
  decide +kernel

end Cert.KernelIdeal.Gen

end
-- ==== Proof.Out.lean ====
module
public import proofs.«01_k».proof.Proof.Rows
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

/-- What a past block leaves in the carried rows. -/
def stepCarry (k : Vec F S256x128 .f32) (q : Vec F S32x128x128 .bf16) (tri : Vec F S128x128 .bf16) (m : Vec F S32x1x128 .f32) : Vec F S32x1x128 .f32 :=
  fun y => pastCarry k (row128 q (y 0)) tri (row1 m (y 0)) (loc1 y)

/-- What a past block leaves in the accumulated tiles. -/
def stepAcc (k v : Vec F S256x128 .f32) (q : Vec F S32x128x128 .bf16) (tri : Vec F S128x128 .bf16) (m : Vec F S32x1x128 .f32)
    (a : Vec F S32x128x128 .f32) : Vec F S32x128x128 .f32 :=
  fun y => pastAcc k v (row128 q (y 0)) tri (row1 m (y 0)) (row128 a (y 0)) (loc128 y)

/-- What the diagonal block leaves in the carried rows. -/
def firstCarry (v0 : BitVec 32) (k : Vec F S256x128 .f32) (q : Vec F S32x128x128 .bf16) (tri : Vec F S128x128 .bf16) : Vec F S32x1x128 .f32 :=
  fun y => diagCarry (strictAt v0 v0 (BitVec.ofNat 32 (y 0).val)) k (row128 q (y 0)) tri
    (row1 (broadcast S32x1x128 (Scalar.ofBits .f32 0x00000000#32 : F .f32)) (y 0)) (loc1 y)

/-- What the diagonal block leaves in the accumulated tiles. -/
def firstAcc (v0 : BitVec 32) (k v : Vec F S256x128 .f32) (q : Vec F S32x128x128 .bf16) (tri : Vec F S128x128 .bf16) : Vec F S32x128x128 .f32 :=
  fun y => diagAcc (strictAt v0 v0 (BitVec.ofNat 32 (y 0).val)) k v (row128 q (y 0)) tri
    (row1 (broadcast S32x1x128 (Scalar.ofBits .f32 0x00000000#32 : F .f32)) (y 0))
    (row128 (broadcast S32x128x128 (Scalar.ofBits .f32 0x00000000#32 : F .f32)) (y 0)) (loc128 y)

/-- The rows of 32 tiles, last first. -/
def rows32 : List (Fin 32) := [31, 30, 29, 28, 27, 26, 25, 24, 23, 22, 21, 20, 19, 18, 17, 16, 15, 14, 13, 12, 11, 10, 9, 8, 7, 6, 5, 4, 3, 2, 1, 0]

theorem mem_rows32 : ∀ r : Fin 32, r ∈ rows32 := by decide

/-- A tile's products as they are written out. -/
def payOut (a : Vec F S1x128x128 .f32) : FVec F S128x128 .bf16 :=
  truncf .bf16 (transpose S128x128 [1, 0] (shapeCast S128x128 a shapeCasts_S1x128x128_S128x128 : FVec F S128x128 .f32)
    transposes_S128x128_p1_0_S128x128 : FVec F S128x128 .f32) bitsLt_bf16_f32

theorem outInb (r : Fin 32) : ∀ a, (![128 * (r.val % 2), 128 * (r.val / 2)] : Fin 2 → ℕ) a + S128x128.size a ≤ S256x2048.size a := by
  have := r.isLt
  intro a
  match a with
  | ⟨0, _⟩ => show 128 * (r.val % 2) + 128 ≤ 256; omega
  | ⟨1, _⟩ => show 128 * (r.val / 2) + 128 ≤ 2048; omega

theorem tileInb (r : Fin 32) : ∀ a, (![r.val, 0, 0] : Fin 3 → ℕ) a + S1x128x128.size a ≤ S32x128x128.size a := by
  have := r.isLt
  intro a
  match a with
  | ⟨0, _⟩ => show r.val + 1 ≤ 32; omega
  | ⟨1, _⟩ => show 0 + 128 ≤ 128; omega
  | ⟨2, _⟩ => show 0 + 128 ≤ 128; omega

/-- The tile of an output place. -/
def tileOf (y : S256x2048.Idx) : Fin 32 :=
  ⟨2 * ((y 1).val / 128) + (y 0).val / 128, by have h0 : (y 0).val < 256 := (y 0).isLt; have h1 : (y 1).val < 2048 := (y 1).isLt; omega⟩

/-- An output place inside its tile. -/
def inTile (y : S256x2048.Idx) : S128x128.Idx := fun a => match a with
  | ⟨0, _⟩ => (⟨(y 0).val % 128, Nat.mod_lt _ (by decide)⟩ : Fin 128)
  | ⟨1, _⟩ => (⟨(y 1).val % 128, Nat.mod_lt _ (by decide)⟩ : Fin 128)

/-- The block written out from the accumulated tiles. -/
def outOf (a : Vec F S32x128x128 .f32) : Vec F S256x2048 .bf16 := fun y => payOut (row128 a (tileOf y)) (inTile y)

/-- The thirty-two stores that write a block out leave `outOf` of the tiles. -/
theorem out_read {sig : RefSig} {κ κ' : Kind} {sp sp' : Space} (v : View sig κ sp S256x2048 .bf16) (f : v.ty.Contents (Elt F))
    (u : View sig κ' sp' S32x128x128 .f32) (g : u.ty.Contents (Elt F)) :
    v.read (Elt F) (v.writes (Elt F) f (rows32.map fun r => (⟨Rect.unit (s := S256x2048) ![128 * (r.val % 2), 128 * (r.val / 2)] S128x128.size (outInb r),
      payOut (u.readAt (Elt F) (Rect.unit (s := S32x128x128) ![r.val, 0, 0] S1x128x128.size (tileInb r)).toLoadRect g)⟩ : View.Piece (Elt F) S256x2048 _)))
      = outOf (u.read (Elt F) g) := by
  funext y
  refine View.read_writes_apply_of_pieces v f (outOf (u.read (Elt F) g)) _ ?_ y ?_
  · intro p hp
    obtain ⟨r, -, rfl⟩ := List.mem_map.mp hp
    intro x
    have hr := r.isLt
    have hx0 : (x 0).val < 128 := (x 0).isLt
    have hx1 : (x 1).val < 128 := (x 1).isLt
    have e0 : (((Rect.unit (s := S256x2048) ![128 * (r.val % 2), 128 * (r.val / 2)] S128x128.size (outInb r)).emb x) 0).val = 128 * (r.val % 2) + (x 0).val := by
      show 128 * (r.val % 2) + 1 * (x 0).val = _; omega
    have e1 : (((Rect.unit (s := S256x2048) ![128 * (r.val % 2), 128 * (r.val / 2)] S128x128.size (outInb r)).emb x) 1).val = 128 * (r.val / 2) + (x 1).val := by
      show 128 * (r.val / 2) + 1 * (x 1).val = _; omega
    have ht : tileOf ((Rect.unit (s := S256x2048) ![128 * (r.val % 2), 128 * (r.val / 2)] S128x128.size (outInb r)).emb x) = r :=
      Fin.ext (by show 2 * (_ / 128) + _ / 128 = r.val; rw [e0, e1]; omega)
    have hi : inTile ((Rect.unit (s := S256x2048) ![128 * (r.val % 2), 128 * (r.val / 2)] S128x128.size (outInb r)).emb x) = x := funext fun b => Fin.ext (by
      match b with
      | ⟨0, _⟩ => show _ % 128 = (x 0).val; rw [e0]; omega
      | ⟨1, _⟩ => show _ % 128 = (x 1).val; rw [e1]; omega)
    show payOut _ x = payOut _ _
    rw [ht, hi, readAt_row128 u g _ r rfl]
  · have h0 : (y 0).val < 256 := (y 0).isLt
    have h1 : (y 1).val < 2048 := (y 1).isLt
    refine ⟨_, List.mem_map.mpr ⟨tileOf y, mem_rows32 _, rfl⟩, (Rect.mem_set_unit (inb := outInb (tileOf y))).mpr fun a => ?_⟩
    have ht : (tileOf y).val = 2 * ((y 1).val / 128) + (y 0).val / 128 := rfl
    match a with
    | ⟨0, _⟩ => show 128 * ((tileOf y).val % 2) ≤ (y 0).val ∧ (y 0).val < 128 * ((tileOf y).val % 2) + 128; omega
    | ⟨1, _⟩ => show 128 * ((tileOf y).val / 2) ≤ (y 1).val ∧ (y 1).val < 128 * ((tileOf y).val / 2) + 128; omega

end Cert.KernelIdeal.Gen

end
-- ==== Proof.Queries.lean ====
module
public import proofs.«01_k».proof.Proof.Out
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

theorem concat16 (f : Fin 16 → FVec F S256x128 .f32) :
    Shape.Concatenates ((List.ofFn fun n : Fin 16 => (⟨S256x128, f n⟩ : (s : Shape) × (s.Idx → F .f32))).map (·.1)) S4096x128 0 := by
  have h : (List.ofFn fun n : Fin 16 => (⟨S256x128, f n⟩ : (s : Shape) × (s.Idx → F .f32))).map (·.1) = List.replicate 16 S256x128 := rfl
  rw [h]
  decide

/-- The scaled queries of all heads, head after head. -/
def qAll (rd : Fin 16 → FVec F S256x128 .f32) : FVec F S4096x128 .f32 :=
  concatenate S4096x128 0 (List.ofFn fun n : Fin 16 => (⟨S256x128, mulf (rd n) (broadcast S256x128 (Named.named κ "qscale" 0x3E0293EE#32))⟩ : (s : Shape) × (s.Idx → F .f32)))
    (concat16 _)

theorem qSlices (r : Fin 32) : S4096x128.Slices ![128 * r.val, 0] S128x128 := by
  revert r
  decide

/-- One tile of scaled queries, transposed and rounded. -/
def qPay (x : FVec F S4096x128 .f32) (r : Fin 32) : FVec F S1x128x128 .bf16 :=
  shapeCast S1x128x128 (truncf .bf16 (transpose S128x128 [1, 0] (extractStridedSlice S128x128 ![128 * r.val, 0] x (qSlices r) : FVec F S128x128 .f32)
    transposes_S128x128_p1_0_S128x128 : FVec F S128x128 .f32) bitsLt_bf16_f32 : FVec F S128x128 .bf16) shapeCasts_S128x128_S1x128x128

theorem headInb (n : Fin 16) : ∀ a, (![0, 128 * n.val] : Fin 2 → ℕ) a + S256x128.size a ≤ S256x2048.size a := by
  have := n.isLt
  intro a
  match a with
  | ⟨0, _⟩ => show 0 + 256 ≤ 256; omega
  | ⟨1, _⟩ => show 128 * n.val + 128 ≤ 2048; omega

/-- One head's columns of a block of queries. -/
def headCols (x : Vec F S256x2048 .f32) (n : Fin 16) : FVec F S256x128 .f32 := fun y =>
  x fun a => match a with
    | ⟨0, _⟩ => y 0
    | ⟨1, _⟩ => (⟨128 * n.val + (y 1).val, by have h1 : (y 1).val < 128 := (y 1).isLt; have := n.isLt; omega⟩ : Fin 2048)

/-- All tiles of queries of a block. -/
def qTiles (x : Vec F S256x2048 .f32) : Vec F S32x128x128 .bf16 := fun y => qPay (qAll (headCols x)) (y 0) (loc128 y)

/-- The thirty-two stores of query tiles read as `qTiles`. -/
theorem q_read {sig : RefSig} {κ κ' : Kind} {sp sp' : Space} (v : View sig κ sp S32x128x128 .bf16) (f : v.ty.Contents (Elt F))
    (u : View sig κ' sp' S256x2048 .f32) (g : u.ty.Contents (Elt F)) :
    v.read (Elt F) (v.writes (Elt F) f (rows32.map fun r => (⟨Rect.unit (s := S32x128x128) ![r.val, 0, 0] S1x128x128.size (tileInb r),
      qPay (qAll fun n => u.readAt (Elt F) (Rect.unit (s := S256x2048) ![0, 128 * n.val] S256x128.size (headInb n)).toLoadRect g) r⟩ : View.Piece (Elt F) S32x128x128 _)))
      = qTiles (u.read (Elt F) g) := by
  have hh : (fun n => u.readAt (Elt F) (Rect.unit (s := S256x2048) ![0, 128 * n.val] S256x128.size (headInb n)).toLoadRect g) = headCols (u.read (Elt F) g) := by
    funext n y
    refine congrArg (u.read (Elt F) g) (funext fun a => Fin.ext ?_)
    match a with
    | ⟨0, _⟩ => show 0 + 1 * (y 0).val = (y 0).val; omega
    | ⟨1, _⟩ => show 128 * n.val + 1 * (y 1).val = 128 * n.val + (y 1).val; omega
  rw [hh]
  funext y
  refine View.read_writes_apply_of_pieces v f (qTiles (u.read (Elt F) g)) _ ?_ y ?_
  · intro p hp
    obtain ⟨r, -, rfl⟩ := List.mem_map.mp hp
    intro x
    obtain ⟨h0, hl⟩ := emb_row128 (tileInb r) r rfl x
    show qPay _ _ x = qPay _ _ _
    rw [h0, hl]
  · refine ⟨_, List.mem_map.mpr ⟨y 0, mem_rows32 _, rfl⟩, (Rect.mem_set_unit (inb := tileInb (y 0))).mpr fun a => ?_⟩
    have h1 : (y 1).val < 128 := (y 1).isLt
    have h2 : (y 2).val < 128 := (y 2).isLt
    match a with
    | ⟨0, _⟩ => show (y 0).val ≤ (y 0).val ∧ (y 0).val < (y 0).val + 1; omega
    | ⟨1, _⟩ => show 0 ≤ (y 1).val ∧ (y 1).val < 0 + 128; omega
    | ⟨2, _⟩ => show 0 ≤ (y 2).val ∧ (y 2).val < 0 + 128; omega

/-- A store of the whole buffer first, read through any whole view. -/
theorem read_whole_first {sig : RefSig} {κ : Kind} {sp : Space} {s : Shape} {e : EltTy} (v : View sig κ sp s e) (f : v.ty.Contents (Elt F)) {off : Fin s.rank → ℕ}
    (inb : ∀ a, off a + s.size a ≤ s.size a) (w : (Rect.unit off s.size inb).shape.Idx → Elt F e) :
    v.read (Elt F) (v.writes (Elt F) f [⟨Rect.unit off s.size inb, w⟩]) = w := by
  funext y
  have ho : ∀ a, off a = 0 := fun a => by have := inb a; omega
  have he : (Rect.unit off s.size inb).emb y = y := funext fun a => Fin.ext (by show off a + 1 * (y a).val = (y a).val; rw [ho]; omega)
  refine View.read_writes_apply_of_pieces v f w _ ?_ y ?_
  · intro p hp
    obtain rfl := List.mem_singleton.mp hp
    intro x
    refine congrArg w ?_
    exact (funext fun a => Fin.ext (by show (x a).val = off a + 1 * (x a).val; rw [ho]; omega))
  · refine ⟨_, List.mem_singleton_self _, (Rect.mem_set_unit (inb := inb)).mpr fun a => ?_⟩
    rw [ho a]
    have := (y a).isLt
    omega

end Cert.KernelIdeal.Gen

end
-- ==== Proof.Pure.lean ====
module
public import proofs.«01_k».proof.Proof.Queries
public import Idealize.ShloMosaic.Lib.Pointwise
public import Idealize.ShloMosaic.Lib.ValueIdx
public import Idealize.ShloMosaic.PureOps.IdealRules
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

/-- A tile's logits: keys by queries. -/
theorem scores_ix (kb : FVec Ideal S256x128 .bf16) (q : Vec Ideal S1x128x128 .bf16) (a : Fin 256) (l : Fin 128) :
    scores (F := Ideal) kb q (ix2 a l) = ∑ d : Fin 128, (kb (ix2 a d) * q (ix3 (0 : Fin 1) d l) : EReal) := by
  pointwise [scores]

/-- The logarithm at a logit, spelt out. -/
theorem logBeta_raw (z : FVec Ideal S256x128 .f32) (i : S256x128.Idx) :
    logBeta (F := Ideal) z i = (min (z i) 0 - Ideal.log (1 + Ideal.exp2 (0 - max (z i) (-(z i)))) * ((Real.log 2)⁻¹ : ℝ) : EReal) := by
  pointwise [logBeta]
  rw [IdealRules.named_const.ideal_named_scalar _ _ _ _ rfl]
  rfl

/-- The sums of a half block: the products of the triangle with the two parts. -/
theorem halfSums_raw (tri : FVec Ideal S128x128 .bf16) (x : FVec Ideal S128x128 .f32) (a l : Fin 128) :
    halfSums (F := Ideal) tri x (ix2 a l) = ((∑ k : Fin 128, tri (ix2 a k) * x (ix2 k l)) + ∑ k : Fin 128, tri (ix2 a k) * (x (ix2 k l) - x (ix2 k l)) : EReal) := by
  pointwise [halfSums]

/-- The total of a half block: its first row and the rows after it. -/
theorem halfTotal_raw (tri : FVec Ideal S128x128 .bf16) (x : FVec Ideal S128x128 .f32) (l : Fin 128) :
    halfTotal (F := Ideal) tri x (ix2 (0 : Fin 1) l) = (halfSums (F := Ideal) tri x (ix2 (0 : Fin 128) l) + x (ix2 (0 : Fin 128) l) : EReal) := by
  pointwise [halfTotal]

/-- A row of the newer half. -/
theorem newHalf_ix (x : FVec Ideal S256x128 .f32) (a l : Fin 128) (b : Fin 256) (hb : b.val = 128 + a.val) : newHalf (F := Ideal) x (ix2 a l) = x (ix2 b l) := by
  pointwise [newHalf]
  exact congrArg x (congrArg (fun b => ix2 b l) (Fin.ext (by simp [hb])))

/-- A row of the older half. -/
theorem oldHalf_ix (x : FVec Ideal S256x128 .f32) (a l : Fin 128) (b : Fin 256) (hb : b.val = a.val) : oldHalf (F := Ideal) x (ix2 a l) = x (ix2 b l) := by
  pointwise [oldHalf]
  exact congrArg x (congrArg (fun b => ix2 b l) (Fin.ext (by simp [hb])))

/-- The later rows of a row in the older half. -/
theorem sufSums_old (tri : FVec Ideal S128x128 .bf16) (x : FVec Ideal S256x128 .f32) (a l : Fin 128) (b : Fin 256) (hb : b.val = a.val) :
    sufSums (F := Ideal) tri x (ix2 b l) = (halfSums (F := Ideal) tri (oldHalf x) (ix2 a l) + halfTotal (F := Ideal) tri (newHalf x) (ix2 (0 : Fin 1) l) : EReal) := by
  pointwise [sufSums]
  have h : b.val < 128 := by omega
  rw [dif_pos h]
  exact congrArg (fun b => (halfSums (F := Ideal) tri (oldHalf x) (ix2 b l) + halfTotal (F := Ideal) tri (newHalf x) (ix2 (0 : Fin 1) l) : EReal)) (Fin.ext hb)

/-- The later rows of a row in the newer half. -/
theorem sufSums_new (tri : FVec Ideal S128x128 .bf16) (x : FVec Ideal S256x128 .f32) (a l : Fin 128) (b : Fin 256) (hb : b.val = 128 + a.val) :
    sufSums (F := Ideal) tri x (ix2 b l) = halfSums (F := Ideal) tri (newHalf x) (ix2 a l) := by
  pointwise [sufSums]
  have h : ¬ b.val < 128 := by omega
  rw [dif_neg h]
  exact congrArg (fun b => halfSums (F := Ideal) tri (newHalf x) (ix2 b l)) (Fin.ext (by show b.val - 128 = a.val; omega))

/-- The total of a block. -/
theorem sufTotal_ix (tri : FVec Ideal S128x128 .bf16) (x : FVec Ideal S256x128 .f32) (l : Fin 128) :
    sufTotal (F := Ideal) tri x (ix2 (0 : Fin 1) l) = (halfTotal (F := Ideal) tri (oldHalf x) (ix2 (0 : Fin 1) l) + halfTotal (F := Ideal) tri (newHalf x) (ix2 (0 : Fin 1) l) : EReal) := by
  pointwise [sufTotal]

/-- The carried row, entry by entry. -/
theorem tileCarry_ix (tri : FVec Ideal S128x128 .bf16) (x : FVec Ideal S256x128 .f32) (m : Vec Ideal S1x1x128 .f32) (l : Fin 128) :
    tileCarry (F := Ideal) tri x m (ix3 (0 : Fin 1) (0 : Fin 1) l) = (m (ix3 (0 : Fin 1) (0 : Fin 1) l) + sufTotal (F := Ideal) tri x (ix2 (0 : Fin 1) l) : EReal) := by
  pointwise [tileCarry]

/-- The accumulated products, entry by entry. -/
theorem tileAcc_ix (v : Vec Ideal S256x128 .f32) (w : FVec Ideal S256x128 .f32) (a : Vec Ideal S1x128x128 .f32) (d l : Fin 128) :
    tileAcc (F := Ideal) (valsT v) w a (ix3 (0 : Fin 1) d l) = (a (ix3 (0 : Fin 1) d l) + ∑ k : Fin 256, v (ix2 k d) * w (ix2 k l) : EReal) := by
  pointwise [tileAcc, valsT]

/-- The weights of a tile, entry by entry. -/
theorem weights_ix (tri : FVec Ideal S128x128 .bf16) (z x : FVec Ideal S256x128 .f32) (m : Vec Ideal S1x1x128 .f32) (k : Fin 256) (l : Fin 128) :
    exp2 (F := Ideal) (logWeights (F := Ideal) tri z x (shapeCast S1x128 m shapeCasts_S1x1x128_S1x128)) (ix2 k l)
      = Ideal.exp2 (logBeta (F := Ideal) z (ix2 k l) + (m (ix3 (0 : Fin 1) (0 : Fin 1) l) + sufSums (F := Ideal) tri x (ix2 k l)) : EReal) := by
  pointwise [logWeights]
  rfl

/-- The transposed accumulator, entry by entry. -/
theorem payOut_ix (a : Vec Ideal S1x128x128 .f32) (j d : Fin 128) : payOut (F := Ideal) a (ix2 j d) = a (ix3 (0 : Fin 1) d j) := by
  pointwise [payOut]

/-- A tile of queries, entry by entry. -/
theorem qPay_ix (x : FVec Ideal S4096x128 .f32) (r : Fin 32) (d l : Fin 128) (i : Fin 4096) (hi : i.val = 128 * r.val + l.val) :
    qPay (F := Ideal) x r (ix3 (0 : Fin 1) d l) = x (ix2 i d) := by
  pointwise [qPay]
  exact congrArg x (congrArg (fun b => ix2 b d) (Fin.ext hi.symm))

end Cert.KernelIdeal.Gen

end
-- ==== Proof.Soft.lean ====
/- The real numbers behind the stick-breaking weights: the logarithm of the sigmoid in the two bases, sums of the
   later entries of a block and of a row. -/
module

public import Idealize.ShloMosaic.PureOps
public import Idealize.ShloMosaic.PureOps.Ideal
public import Idealize.ShloMosaic.Lib.Pointwise
public import Idealize.ShloMosaic.Lib.ValueIdx

@[expose] public section

noncomputable section

namespace Cert.Soft

open Idealize.ShloMosaic

/-- The logarithm of the sigmoid. -/
def ls (z : ℝ) : ℝ := min z 0 - Real.log (1 + Real.exp (-|z|))

/-- The same in base two, at a logit in base two. -/
def ls2 (z : ℝ) : ℝ := min z 0 - Real.log (1 + Real.rpow 2 (0 - |z|)) * (Real.log 2)⁻¹

/-- What a sigmoid leaves: the logarithm at the negated logit. -/
theorem ls_neg (z : ℝ) : ls (-z) = ls z - z := by
  unfold ls
  rw [abs_neg]
  rcases le_total z 0 with h | h
  · rw [min_eq_left h, min_eq_right (by linarith)]; ring
  · rw [min_eq_right h, min_eq_left (by linarith)]; ring

/-- The logarithm of the sigmoid, as the negated soft positive part of the negated logit. -/
theorem ls_softplus (z : ℝ) : -(max (-z) 0 + Real.log (1 + Real.exp (-(max (-z - 0) (-(-z - 0)))))) = ls z := by
  unfold ls
  have e : max (-z - 0) (-(-z - 0)) = |z| := by rw [← abs_neg z, abs_eq_max_neg]; simp
  rw [e]
  rcases le_total z 0 with h | h
  · rw [min_eq_left h, max_eq_left (by linarith)]; ring
  · rw [min_eq_right h, max_eq_right (by linarith)]; ring

theorem log2_pos : 0 < Real.log 2 := Real.log_pos (by norm_num)

/-- The change of base. -/
theorem ls2_eq (z : ℝ) : ls2 (z * (Real.log 2)⁻¹) = ls z * (Real.log 2)⁻¹ := by
  have h2 := log2_pos
  have hi : 0 < (Real.log 2)⁻¹ := inv_pos.mpr h2
  unfold ls2 ls
  have e : Real.rpow 2 (0 - |z * (Real.log 2)⁻¹|) = Real.exp (-|z|) := by
    show (2 : ℝ) ^ (0 - |z * (Real.log 2)⁻¹|) = _
    rw [Real.rpow_def_of_pos (by norm_num), abs_mul, abs_of_pos hi]
    congr 1
    field_simp
    ring
  have e2 : min (z * (Real.log 2)⁻¹) 0 = min z 0 * (Real.log 2)⁻¹ := by
    rw [min_mul_of_nonneg _ _ hi.le, zero_mul]
  rw [e, e2]
  ring

/-- Two to a logarithm in base two. -/
theorem rpow_log2 (x : ℝ) : Real.rpow 2 (x * (Real.log 2)⁻¹) = Real.exp x := by
  show (2 : ℝ) ^ (x * (Real.log 2)⁻¹) = _
  have h2 := log2_pos
  rw [Real.rpow_def_of_pos (by norm_num)]
  congr 1
  field_simp

/-- The extended real of a finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over a block, over its positions in the row. -/
theorem block_sum {M : Type} [AddCommMonoid M] (n s : ℕ) (g : ℕ → M) : (∑ k : Fin n, g (s + k.val)) = ∑ j ∈ Finset.Ico s (s + n), g j := by
  rw [Fin.sum_univ_eq_sum_range (fun k => g (s + k)) n, Finset.sum_Ico_eq_sum_range, Nat.add_sub_cancel_left]

/-- A sum over the later positions of a block. -/
theorem later_sum {M : Type} [AddCommMonoid M] (n s k : ℕ) (g : ℕ → M) :
    (∑ k' : Fin n, if k < k'.val then g (s + k'.val) else 0) = ∑ j ∈ Finset.Ico (s + k + 1) (s + n), g j := by
  have h : (∑ k' : Fin n, if k < k'.val then g (s + k'.val) else 0) = ∑ k' : Fin n, (fun j => if s + k < j then g j else 0) (s + k'.val) :=
    Finset.sum_congr rfl fun k' _ => by
      show (if k < k'.val then g (s + k'.val) else 0) = if s + k < s + k'.val then g (s + k'.val) else 0
      exact if_congr (by omega) rfl rfl
  rw [h, block_sum n s (fun j => if s + k < j then g j else 0), ← Finset.sum_filter]
  refine Finset.sum_congr (Finset.ext fun j => ?_) fun _ _ => rfl
  simp only [Finset.mem_filter, Finset.mem_Ico]
  omega

/-- The logarithms of what the keys before `t` leave, along a row of logits. -/
def rest (z : ℕ → ℝ) (t j : ℕ) : ℝ := if j < t then ls (-z j) else 0

/-- The stick-breaking weight of key `s` for a query at position `t`. -/
def weight (z : ℕ → ℝ) (t s : ℕ) : ℝ := if s < t then Real.exp (ls (z s) + ∑ j ∈ Finset.Ico (s + 1) 2048, rest z t j) else 0

/-- An entry of the rows of a sequence of the group, by its position in the sequence. -/
def rowAt (x : (⟨2, ![8192, 4608]⟩ : Shape).Idx → EReal) (b : Fin 4) (s : ℕ) (c : Fin 4608) : EReal :=
  if hs : s < 2048 then x (ix2 (⟨b.val * 2048 + s, by omega⟩ : Fin 8192) c) else 0

/-- A key's, a value's and a query's columns. -/
def keyCol (d : Fin 128) : Fin 4608 := ⟨4352 + d.val, by omega⟩
/-- A value's columns. -/
def valCol (d : Fin 128) : Fin 4608 := ⟨4480 + d.val, by omega⟩
/-- A query's columns. -/
def queryCol (h : Fin 16) (d : Fin 128) : Fin 4608 := ⟨2048 + (h.val * 128 + d.val), by omega⟩

/-- The logit of a query and a key, over the reals. -/
def logit (x : (⟨2, ![8192, 4608]⟩ : Shape).Idx → EReal) (b : Fin 4) (h : Fin 16) (t s : ℕ) : ℝ :=
  (∑ d : Fin 128, (rowAt x b s (keyCol d)).toReal * (rowAt x b t (queryCol h d)).toReal) * (Real.sqrt 128)⁻¹

/-- An entry of the attention's result. -/
def attn (x : (⟨2, ![8192, 4608]⟩ : Shape).Idx → EReal) (b : Fin 4) (h : Fin 16) (t : ℕ) (d : Fin 128) : EReal :=
  ∑ j ∈ Finset.Ico 0 2048, rowAt x b j (valCol d) * ((weight (logit x b h t) t j : ℝ) : EReal)

/-- Queries and keys are reals. -/
def IsReal (x : (⟨2, ![8192, 4608]⟩ : Shape).Idx → EReal) : Prop :=
  (∀ (r : Fin 8192) (h : Fin 16) (d : Fin 128), x (ix2 r (queryCol h d)) = ((x (ix2 r (queryCol h d))).toReal : EReal))
    ∧ ∀ (r : Fin 8192) (d : Fin 128), x (ix2 r (keyCol d)) = ((x (ix2 r (keyCol d))).toReal : EReal)

/-- A query's entry is a real. -/
theorem query_real (x : (⟨2, ![8192, 4608]⟩ : Shape).Idx → EReal) (hx : IsReal x) (b : Fin 4) (s : ℕ) (h : Fin 16) (d : Fin 128) :
    rowAt x b s (queryCol h d) = ((rowAt x b s (queryCol h d)).toReal : EReal) := by
  unfold rowAt
  split
  · exact hx.1 _ h d
  · simp

/-- A key's entry is a real. -/
theorem key_real (x : (⟨2, ![8192, 4608]⟩ : Shape).Idx → EReal) (hx : IsReal x) (b : Fin 4) (s : ℕ) (d : Fin 128) :
    rowAt x b s (keyCol d) = ((rowAt x b s (keyCol d)).toReal : EReal) := by
  unfold rowAt
  split
  · exact hx.2 _ d
  · simp

/-- The signed order of small words is that of their numbers. -/
theorem slt_small (s t : ℕ) (hs : s < 2 ^ 31) (ht : t < 2 ^ 31) : (BitVec.ofNat 32 s).slt (BitVec.ofNat 32 t) = decide (s < t) := by
  have e : ∀ n : ℕ, n < 2 ^ 31 → (BitVec.ofNat 32 n).toInt = n := fun n hn => by
    rw [BitVec.toInt_eq_toNat_of_lt (by rw [BitVec.toNat_ofNat, Nat.mod_eq_of_lt (by omega)]; omega), BitVec.toNat_ofNat, Nat.mod_eq_of_lt (by omega)]
  unfold BitVec.slt
  rw [e s hs, e t ht]
  exact decide_eq_decide.2 Int.ofNat_lt

end Cert.Soft

end
-- ==== Proof.Column.lean ====
module
public import proofs.«01_k».proof.Proof.Pure
public import proofs.«01_k».proof.Proof.Soft
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

open Cert.Soft

/-- The triangle of later positions. -/
def IsTri (tri : Vec Ideal S128x128 .bf16) : Prop := ∀ a k : Fin 128, tri (ix2 a k) = (if a.val < k.val then 1 else 0 : EReal)

/-- The sums of the later rows of a half block of reals. -/
theorem halfSums_real (tri : Vec Ideal S128x128 .bf16) (ht : IsTri tri) (x : FVec Ideal S128x128 .f32) (a l : Fin 128) (s : ℕ) (g : ℕ → ℝ)
    (hx : ∀ k : Fin 128, x (ix2 k l) = ((g (s + k.val) : ℝ) : EReal)) :
    halfSums (F := Ideal) tri x (ix2 a l) = ((∑ j ∈ Finset.Ico (s + a.val + 1) (s + 128), g j : ℝ) : EReal) := by
  rw [halfSums_raw]
  have h1 : ∀ k : Fin 128, (tri (ix2 a k) * x (ix2 k l) : EReal) = (((if a.val < k.val then g (s + k.val) else 0 : ℝ) : ℝ) : EReal) := fun k => by
    rw [ht a k, hx k]
    split <;> simp
  have h2 : ∀ k : Fin 128, (tri (ix2 a k) * (x (ix2 k l) - x (ix2 k l)) : EReal) = 0 := fun k => by
    rw [hx k, ← EReal.coe_sub, sub_self, EReal.coe_zero, mul_zero]
  rw [Finset.sum_congr rfl fun k _ => h1 k, Finset.sum_congr rfl fun k _ => h2 k, Finset.sum_const_zero, add_zero, ← coe_sum, later_sum]

/-- The total of a half block of reals. -/
theorem halfTotal_real (tri : Vec Ideal S128x128 .bf16) (ht : IsTri tri) (x : FVec Ideal S128x128 .f32) (l : Fin 128) (s : ℕ) (g : ℕ → ℝ)
    (hx : ∀ k : Fin 128, x (ix2 k l) = ((g (s + k.val) : ℝ) : EReal)) :
    halfTotal (F := Ideal) tri x (ix2 (0 : Fin 1) l) = ((∑ j ∈ Finset.Ico s (s + 128), g j : ℝ) : EReal) := by
  rw [halfTotal_raw, halfSums_real tri ht x 0 l s g hx, hx 0, ← EReal.coe_add, Finset.sum_eq_sum_Ico_succ_bot (by omega : s < s + 128), add_comm]
  rfl

/-- The older and the newer half of a block of reals. -/
theorem old_real (x : FVec Ideal S256x128 .f32) (l : Fin 128) (s : ℕ) (g : ℕ → ℝ)
    (hx : ∀ k : Fin 256, x (ix2 k l) = ((g (s + k.val) : ℝ) : EReal)) (k : Fin 128) :
    oldHalf (F := Ideal) x (ix2 k l) = ((g (s + k.val) : ℝ) : EReal) := by
  rw [oldHalf_ix x k l ⟨k.val, by omega⟩ rfl, hx]

/-- The newer half of a block of reals. -/
theorem new_real (x : FVec Ideal S256x128 .f32) (l : Fin 128) (s : ℕ) (g : ℕ → ℝ)
    (hx : ∀ k : Fin 256, x (ix2 k l) = ((g (s + k.val) : ℝ) : EReal)) (k : Fin 128) :
    newHalf (F := Ideal) x (ix2 k l) = ((g (s + 128 + k.val) : ℝ) : EReal) := by
  rw [newHalf_ix x k l ⟨128 + k.val, by omega⟩ rfl, hx]
  show ((g (s + (128 + k.val)) : ℝ) : EReal) = _
  rw [Nat.add_assoc]

/-- The sums of the later rows of a block of reals. -/
theorem sufSums_real (tri : Vec Ideal S128x128 .bf16) (ht : IsTri tri) (x : FVec Ideal S256x128 .f32) (l : Fin 128) (s : ℕ) (g : ℕ → ℝ)
    (hx : ∀ k : Fin 256, x (ix2 k l) = ((g (s + k.val) : ℝ) : EReal)) (k : Fin 256) :
    sufSums (F := Ideal) tri x (ix2 k l) = ((∑ j ∈ Finset.Ico (s + k.val + 1) (s + 256), g j : ℝ) : EReal) := by
  by_cases hk : k.val < 128
  · rw [sufSums_old tri x ⟨k.val, hk⟩ l k rfl, halfSums_real tri ht _ _ l s g (old_real x l s g hx),
      halfTotal_real tri ht _ l (s + 128) g (new_real x l s g hx), ← EReal.coe_add, Finset.sum_Ico_consecutive g (by show s + k.val + 1 ≤ s + 128; omega) (by omega)]
  · have e : s + 128 + (k.val - 128) + 1 = s + k.val + 1 := by omega
    rw [sufSums_new tri x ⟨k.val - 128, by omega⟩ l k (by show k.val = 128 + (k.val - 128); omega), halfSums_real tri ht _ _ l (s + 128) g (new_real x l s g hx)]
    show ((∑ j ∈ Finset.Ico (s + 128 + (k.val - 128) + 1) (s + 256), g j : ℝ) : EReal) = _
    rw [e]

/-- The total of a block of reals. -/
theorem sufTotal_real (tri : Vec Ideal S128x128 .bf16) (ht : IsTri tri) (x : FVec Ideal S256x128 .f32) (l : Fin 128) (s : ℕ) (g : ℕ → ℝ)
    (hx : ∀ k : Fin 256, x (ix2 k l) = ((g (s + k.val) : ℝ) : EReal)) :
    sufTotal (F := Ideal) tri x (ix2 (0 : Fin 1) l) = ((∑ j ∈ Finset.Ico s (s + 256), g j : ℝ) : EReal) := by
  rw [sufTotal_ix, halfTotal_real tri ht _ l s g (old_real x l s g hx), halfTotal_real tri ht _ l (s + 128) g (new_real x l s g hx),
    ← EReal.coe_add, Finset.sum_Ico_consecutive g (by omega) (by omega)]

/-- The logarithm of a weight, at a real logit. -/
theorem logBeta_real (z : FVec Ideal S256x128 .f32) (i : S256x128.Idx) (x : ℝ) (h : z i = ((x * (Real.log 2)⁻¹ : ℝ) : EReal)) :
    logBeta (F := Ideal) z i = ((ls x * (Real.log 2)⁻¹ : ℝ) : EReal) := by
  rw [logBeta_raw, h, ← ls2_eq]
  generalize x * (Real.log 2)⁻¹ = y
  have e1 : (max (y : EReal) (-(y : EReal))) = ((|y| : ℝ) : EReal) := by
    rw [← EReal.coe_neg, ← EReal.coe_strictMono.monotone.map_max, abs_eq_max_neg]
  have e2 : ((0 : EReal) - ((|y| : ℝ) : EReal)) = ((0 - |y| : ℝ) : EReal) := by rw [EReal.coe_sub, EReal.coe_zero]
  have hp : 0 < Real.rpow 2 (0 - |y|) := Real.rpow_pos_of_pos (by norm_num) _
  have e3 : ((1 : EReal) + ((Real.rpow 2 (0 - |y|) : ℝ) : EReal)) = ((1 + Real.rpow 2 (0 - |y|) : ℝ) : EReal) := by
    rw [EReal.coe_add, EReal.coe_one]
  rw [e1, e2, Ideal.exp2_coe, e3, Ideal.log_coe, if_neg (by linarith), ← EReal.coe_zero, ← EReal.coe_strictMono.monotone.map_min, ← EReal.coe_mul, ← EReal.coe_sub]
  rfl

/-- The logarithm of what is left, at a real logit. -/
theorem logRest_real (z : FVec Ideal S256x128 .f32) (i : S256x128.Idx) (x : ℝ) (h : z i = ((x * (Real.log 2)⁻¹ : ℝ) : EReal)) :
    logRest (F := Ideal) z i = ((ls (-x) * (Real.log 2)⁻¹ : ℝ) : EReal) := by
  show (logBeta (F := Ideal) z i - z i : EReal) = _
  rw [logBeta_real z i x h, h, ← EReal.coe_sub, ls_neg]
  congr 1
  ring

/-- A masked entry. -/
theorem masked_ix (p : IVec S256x128 1) (x : FVec Ideal S256x128 .f32) (i : S256x128.Idx) :
    masked (F := Ideal) p x i = (if p i = 1#1 then x i else 0 : EReal) := by
  pointwise [masked]
  rfl

/-- The mask, entry by entry. -/
theorem strict_ix (v0 : BitVec 32) (r : Fin 32) (k : Fin 256) (l : Fin 128) :
    strictAt v0 v0 (BitVec.ofNat 32 r.val) (ix2 k l)
      = BitVec.ofBool ((v0 + BitVec.ofNat 32 k.val).slt (v0 + ((BitVec.ofNat 32 r.val * 128#32 + BitVec.ofNat 32 l.val) &&& 255#32))) := by
  pointwise [strictAt]
  rfl

section step

variable (tri : Vec Ideal S128x128 .bf16) (ht : IsTri tri) (z x : FVec Ideal S256x128 .f32) (m : Vec Ideal S1x1x128 .f32) (l : Fin 128)
  (s t : ℕ) (zr : ℕ → ℝ)
  (hx : ∀ k : Fin 256, x (ix2 k l) = ((rest zr t (s + k.val) * (Real.log 2)⁻¹ : ℝ) : EReal))
  (hm : m (ix3 (0 : Fin 1) (0 : Fin 1) l) = (((∑ j ∈ Finset.Ico (s + 256) 2048, rest zr t j) * (Real.log 2)⁻¹ : ℝ) : EReal))
  (hs : s + 256 ≤ 2048)

include ht hx hm hs

/-- The carried row after a block. -/
theorem carry_step : tileCarry (F := Ideal) tri x m (ix3 (0 : Fin 1) (0 : Fin 1) l)
    = (((∑ j ∈ Finset.Ico s 2048, rest zr t j) * (Real.log 2)⁻¹ : ℝ) : EReal) := by
  rw [tileCarry_ix, sufTotal_real tri ht x l s (fun j => rest zr t j * (Real.log 2)⁻¹) hx, hm, ← EReal.coe_add, ← Finset.sum_mul, ← add_mul,
    add_comm, Finset.sum_Ico_consecutive _ (by omega) hs]

/-- The weight of a key of a block, before the mask. -/
theorem weight_step (k : Fin 256) (hz : z (ix2 k l) = ((zr (s + k.val) * (Real.log 2)⁻¹ : ℝ) : EReal)) :
    exp2 (F := Ideal) (logWeights (F := Ideal) tri z x (shapeCast S1x128 m shapeCasts_S1x1x128_S1x128)) (ix2 k l)
      = ((Real.exp (ls (zr (s + k.val)) + ∑ j ∈ Finset.Ico (s + k.val + 1) 2048, rest zr t j) : ℝ) : EReal) := by
  rw [weights_ix, logBeta_real z _ _ hz, sufSums_real tri ht x l s (fun j => rest zr t j * (Real.log 2)⁻¹) hx, hm, ← EReal.coe_add, ← EReal.coe_add,
    ← Finset.sum_mul, ← add_mul, ← add_mul, add_comm (∑ j ∈ Finset.Ico (s + 256) 2048, rest zr t j), Finset.sum_Ico_consecutive _ (by omega) hs,
    Ideal.exp2_coe, rpow_log2]

end step

/-- The accumulated products after a block. -/
theorem acc_step (v : Vec Ideal S256x128 .f32) (w : FVec Ideal S256x128 .f32) (a : Vec Ideal S1x128x128 .f32) (d l : Fin 128) (s : ℕ)
    (vr : ℕ → EReal) (wr : ℕ → ℝ) (hv : ∀ k : Fin 256, v (ix2 k d) = vr (s + k.val)) (hw : ∀ k : Fin 256, w (ix2 k l) = ((wr (s + k.val) : ℝ) : EReal))
    (ha : a (ix3 (0 : Fin 1) d l) = ∑ j ∈ Finset.Ico (s + 256) 2048, vr j * ((wr j : ℝ) : EReal)) (hs : s + 256 ≤ 2048) :
    tileAcc (F := Ideal) (valsT v) w a (ix3 (0 : Fin 1) d l) = ∑ j ∈ Finset.Ico s 2048, vr j * ((wr j : ℝ) : EReal) := by
  rw [tileAcc_ix, ha, ← Finset.sum_Ico_consecutive (fun j => vr j * ((wr j : ℝ) : EReal)) (by omega : s ≤ s + 256) hs, add_comm,
    ← block_sum 256 s (fun j => vr j * ((wr j : ℝ) : EReal))]
  exact congrArg₂ (fun a b : EReal => a + b) (Finset.sum_congr rfl fun k _ => by rw [hv k, hw k]) rfl

end Cert.KernelIdeal.Gen

end
-- ==== Proof.Step.lean ====
module
public import proofs.«01_k».proof.Proof.Column
public import Idealize.ShloMosaic.Lib.Pipeline.Value
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

open Cert.Soft

/-- The scale of the kernel's queries: the logits' scale and the change of base in one. -/
def qscale : ℝ := (Real.sqrt 128)⁻¹ * (Real.log 2)⁻¹

/-- The query block: its tiles, entry by entry. -/
theorem qTiles_ix (x : Vec Ideal S256x2048 .f32) (r : Fin 32) (d l : Fin 128) :
    qTiles (F := Ideal) x (ix3 r d l)
      = (x (ix2 (⟨128 * (r.val % 2) + l.val, by omega⟩ : Fin 256) (⟨128 * (r.val / 2) + d.val, by omega⟩ : Fin 2048)) * ((qscale : ℝ) : EReal) : EReal) := by
  show qPay (F := Ideal) (qAll (headCols x)) r (ix3 (0 : Fin 1) d l) = _
  rw [qPay_ix _ r d l ⟨128 * r.val + l.val, by omega⟩ rfl]
  unfold qAll
  refine (concatenate_ofFn_apply (t := S4096x128) (s₁ := S256x128) 0 _ _ rfl 256 rfl _ (⟨r.val / 2, by omega⟩ : Fin 16) (by show (128 * r.val + l.val) / 256 = r.val / 2; omega)
    (ix2 (⟨128 * (r.val % 2) + l.val, by omega⟩ : Fin 256) d) (by show 128 * (r.val % 2) + l.val = (128 * r.val + l.val) % 256; omega) (fun b hb => ?_)).trans ?_
  · match b with
    | ⟨0, _⟩ => exact absurd rfl hb
    | ⟨1, _⟩ => rfl
  · show (headCols x ⟨r.val / 2, by omega⟩ (ix2 (⟨128 * (r.val % 2) + l.val, by omega⟩ : Fin 256) d) * Named.named (F := Ideal) κ "qscale" (φ := .f32) 0x3E0293EE#32 : EReal) = _
    rw [IdealRules.named_const.ideal_named_scalar _ _ _ _ rfl]
    refine congrArg (fun a : EReal => a * ((qscale : ℝ) : EReal)) (congrArg x (funext fun a => Fin.ext ?_))
    match a with
    | ⟨0, _⟩ => rfl
    | ⟨1, _⟩ => rfl

/-- A tile's position in the sequence and its query's head. -/
def posOf (qi : ℕ) (r : Fin 32) (l : Fin 128) : ℕ := 256 * qi + (128 * (r.val % 2) + l.val)
/-- A tile's head. -/
def headOf (r : Fin 32) : Fin 16 := ⟨r.val / 2, by omega⟩

/-- The mask of the diagonal block compares positions. -/
theorem strictAt_iff (qi : ℕ) (hqi : qi < 8) (r : Fin 32) (k : Fin 256) (l : Fin 128) :
    strictAt (BitVec.ofNat 32 (256 * qi)) (BitVec.ofNat 32 (256 * qi)) (BitVec.ofNat 32 r.val) (ix2 k l) = 1#1 ↔ 256 * qi + k.val < posOf qi r l := by
  have ha : (BitVec.ofNat 32 r.val * 128#32 + BitVec.ofNat 32 l.val) &&& 255#32 = BitVec.ofNat 32 (128 * (r.val % 2) + l.val) := by
    rw [← BitVec.ofNat_mul, ← BitVec.ofNat_add]
    apply BitVec.eq_of_toNat_eq
    rw [BitVec.toNat_and, BitVec.toNat_ofNat, BitVec.toNat_ofNat, BitVec.toNat_ofNat, Nat.mod_eq_of_lt (by omega), Nat.mod_eq_of_lt (by omega : 128 * (r.val % 2) + l.val < 2 ^ 32)]
    show (r.val * 128 + l.val) &&& (2 ^ 8 - 1) = _
    rw [Nat.and_two_pow_sub_one_eq_mod]
    omega
  rw [strict_ix, ha, ← BitVec.ofNat_add, ← BitVec.ofNat_add, slt_small _ _ (by omega) (by omega)]
  unfold posOf
  by_cases h : 256 * qi + k.val < 256 * qi + (128 * (r.val % 2) + l.val)
  · simp only [h, decide_true, iff_true]; rfl
  · simp only [h, decide_false, iff_false]; decide

section block

variable (x : (⟨2, ![8192, 4608]⟩ : Shape).Idx → EReal) (hx : IsReal x) (b : Fin 4) (h : Fin 16) (t s : ℕ)
  (kb vb : Vec Ideal S256x128 .f32) (hk : ∀ (k : Fin 256) (d : Fin 128), kb (ix2 k d) = rowAt x b (s + k.val) (keyCol d))
  (hv : ∀ (k : Fin 256) (d : Fin 128), vb (ix2 k d) = rowAt x b (s + k.val) (valCol d))
  (q : Vec Ideal S1x128x128 .bf16) (l : Fin 128) (hq : ∀ d : Fin 128, q (ix3 (0 : Fin 1) d l) = (rowAt x b t (queryCol h d) * ((qscale : ℝ) : EReal) : EReal))
  (tri : Vec Ideal S128x128 .bf16) (ht : IsTri tri) (m : Vec Ideal S1x1x128 .f32)
  (hm : m (ix3 (0 : Fin 1) (0 : Fin 1) l) = (((∑ j ∈ Finset.Ico (s + 256) 2048, rest (logit x b h t) t j) * (Real.log 2)⁻¹ : ℝ) : EReal))
  (hs : s + 256 ≤ 2048)

section logits
include hx hk hq

/-- A tile's logits, in base two. -/
theorem scores_real (k : Fin 256) : scores (F := Ideal) (truncf .bf16 (kb : FVec Ideal S256x128 .f32) bitsLt_bf16_f32) q (ix2 k l)
    = ((logit x b h t (s + k.val) * (Real.log 2)⁻¹ : ℝ) : EReal) := by
  rw [scores_ix]
  have e : ∀ d : Fin 128, ((truncf .bf16 (kb : FVec Ideal S256x128 .f32) bitsLt_bf16_f32 : FVec Ideal S256x128 .bf16) (ix2 k d) * q (ix3 (0 : Fin 1) d l) : EReal)
      = (((rowAt x b (s + k.val) (keyCol d)).toReal * (rowAt x b t (queryCol h d)).toReal * qscale : ℝ) : EReal) := fun d => by
    show (kb (ix2 k d) * q (ix3 (0 : Fin 1) d l) : EReal) = _
    rw [hk, hq, key_real x hx, query_real x hx, EReal.toReal_coe, EReal.toReal_coe, ← EReal.coe_mul, ← EReal.coe_mul, mul_assoc]
  rw [Finset.sum_congr rfl fun d _ => e d, ← coe_sum, ← Finset.sum_mul]
  unfold logit qscale
  rw [mul_assoc]

end logits

section past
variable (hp : s + 256 ≤ t)

include hx hk hq hp in
/-- What the keys of a past block leave. -/
theorem past_real (k : Fin 256) : logRest (F := Ideal) (scores (F := Ideal) (truncf .bf16 (kb : FVec Ideal S256x128 .f32) bitsLt_bf16_f32) q) (ix2 k l)
    = ((rest (logit x b h t) t (s + k.val) * (Real.log 2)⁻¹ : ℝ) : EReal) := by
  rw [logRest_real _ _ _ (scores_real x hx b h t s kb hk q l hq k)]
  unfold rest
  rw [if_pos (by omega)]

include hx hk hq ht hm hs hp in
/-- The carried row after a past block. -/
theorem pastCarry_real : pastCarry (F := Ideal) kb q tri m (ix3 (0 : Fin 1) (0 : Fin 1) l)
    = (((∑ j ∈ Finset.Ico s 2048, rest (logit x b h t) t j) * (Real.log 2)⁻¹ : ℝ) : EReal) :=
  carry_step tri ht _ m l s t (logit x b h t) (past_real x hx b h t s kb hk q l hq hp) hm hs

include hx hk hv hq ht hm hs hp in
/-- The accumulated products after a past block. -/
theorem pastAcc_real (a : Vec Ideal S1x128x128 .f32) (d : Fin 128)
    (ha : a (ix3 (0 : Fin 1) d l) = ∑ j ∈ Finset.Ico (s + 256) 2048, rowAt x b j (valCol d) * ((weight (logit x b h t) t j : ℝ) : EReal)) :
    pastAcc (F := Ideal) kb vb q tri m a (ix3 (0 : Fin 1) d l) = ∑ j ∈ Finset.Ico s 2048, rowAt x b j (valCol d) * ((weight (logit x b h t) t j : ℝ) : EReal) := by
  refine acc_step vb _ a d l s (fun j => rowAt x b j (valCol d)) (weight (logit x b h t) t) (fun k => hv k d) (fun k => ?_) ha hs
  refine (weight_step tri ht _ _ m l s t (logit x b h t) (past_real x hx b h t s kb hk q l hq hp) hm hs k (scores_real x hx b h t s kb hk q l hq k)).trans ?_
  unfold weight
  rw [if_pos (by omega)]

end past

section diag
variable (p : IVec S256x128 1) (hp : ∀ k : Fin 256, p (ix2 k l) = 1#1 ↔ s + k.val < t)

include hx hk hq hp in
/-- What the keys of the diagonal block leave. -/
theorem diag_real (k : Fin 256) : masked (F := Ideal) p (logRest (F := Ideal) (scores (F := Ideal) (truncf .bf16 (kb : FVec Ideal S256x128 .f32) bitsLt_bf16_f32) q)) (ix2 k l)
    = ((rest (logit x b h t) t (s + k.val) * (Real.log 2)⁻¹ : ℝ) : EReal) := by
  rw [masked_ix]
  unfold rest
  by_cases c : s + k.val < t
  · rw [if_pos ((hp k).2 c), if_pos c, logRest_real _ _ _ (scores_real x hx b h t s kb hk q l hq k)]
  · rw [if_neg fun e => c ((hp k).1 e), if_neg c, zero_mul, EReal.coe_zero]

include hx hk hq ht hm hs hp in
/-- The carried row after the diagonal block. -/
theorem diagCarry_real : diagCarry (F := Ideal) p kb q tri m (ix3 (0 : Fin 1) (0 : Fin 1) l)
    = (((∑ j ∈ Finset.Ico s 2048, rest (logit x b h t) t j) * (Real.log 2)⁻¹ : ℝ) : EReal) :=
  carry_step tri ht _ m l s t (logit x b h t) (diag_real x hx b h t s kb hk q l hq p hp) hm hs

include hx hk hv hq ht hm hs hp in
/-- The accumulated products after the diagonal block. -/
theorem diagAcc_real (a : Vec Ideal S1x128x128 .f32) (d : Fin 128)
    (ha : a (ix3 (0 : Fin 1) d l) = ∑ j ∈ Finset.Ico (s + 256) 2048, rowAt x b j (valCol d) * ((weight (logit x b h t) t j : ℝ) : EReal)) :
    diagAcc (F := Ideal) p kb vb q tri m a (ix3 (0 : Fin 1) d l) = ∑ j ∈ Finset.Ico s 2048, rowAt x b j (valCol d) * ((weight (logit x b h t) t j : ℝ) : EReal) := by
  refine acc_step vb _ a d l s (fun j => rowAt x b j (valCol d)) (weight (logit x b h t) t) (fun k => hv k d) (fun k => ?_) ha hs
  rw [masked_ix]
  unfold weight
  by_cases c : s + k.val < t
  · rw [if_pos ((hp k).2 c), if_pos c]
    exact weight_step tri ht _ _ m l s t (logit x b h t) (diag_real x hx b h t s kb hk q l hq p hp) hm hs k (scores_real x hx b h t s kb hk q l hq k)
  · rw [if_neg fun e => c ((hp k).1 e), if_neg c, EReal.coe_zero]

end diag

end block

end Cert.KernelIdeal.Gen

end
-- ==== Proof.Inv.lean ====
module
public import proofs.«01_k».proof.Proof.Step
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

open Cert.Soft

/-- What the scratch arrays hold when the keys from position `s` on have been taken: the scaled queries, the sums of
    what those keys leave, and their weighted values. -/
def Inv (x : (⟨2, ![8192, 4608]⟩ : Shape).Idx → EReal) (b : Fin 4) (qi s : ℕ) (q : Vec Ideal S32x128x128 .bf16) (m : Vec Ideal S32x1x128 .f32)
    (a : Vec Ideal S32x128x128 .f32) : Prop :=
  (∀ (r : Fin 32) (d l : Fin 128), q (ix3 r d l) = (rowAt x b (posOf qi r l) (queryCol (headOf r) d) * ((qscale : ℝ) : EReal) : EReal))
  ∧ (∀ (r : Fin 32) (l : Fin 128), m (ix3 r (0 : Fin 1) l)
      = (((∑ j ∈ Finset.Ico s 2048, rest (logit x b (headOf r) (posOf qi r l)) (posOf qi r l) j) * (Real.log 2)⁻¹ : ℝ) : EReal))
  ∧ ∀ (r : Fin 32) (d l : Fin 128), a (ix3 r d l)
      = ∑ j ∈ Finset.Ico s 2048, rowAt x b j (valCol d) * ((weight (logit x b (headOf r) (posOf qi r l)) (posOf qi r l) j : ℝ) : EReal)

/-- An entry of a tile. -/
theorem row128_ix {e : EltTy} (x : S32x128x128.Idx → Elt Ideal e) (r : Fin 32) (d l : Fin 128) : row128 (F := Ideal) x r (ix3 (0 : Fin 1) d l) = x (ix3 r d l) := by
  unfold row128
  refine congrArg x (funext fun a => ?_)
  match a with
  | ⟨0, _⟩ => rfl
  | ⟨1, _⟩ => rfl
  | ⟨2, _⟩ => rfl

/-- An entry of a carried row. -/
theorem row1_ix {e : EltTy} (x : S32x1x128.Idx → Elt Ideal e) (r : Fin 32) (l : Fin 128) : row1 (F := Ideal) x r (ix3 (0 : Fin 1) (0 : Fin 1) l) = x (ix3 r (0 : Fin 1) l) := by
  unfold row1
  refine congrArg x (funext fun a => ?_)
  match a with
  | ⟨0, _⟩ => rfl
  | ⟨1, _⟩ => rfl
  | ⟨2, _⟩ => rfl

/-- No key at or after the query's position leaves anything. -/
theorem rest_after (z : ℕ → ℝ) (t s : ℕ) (h : t ≤ s) : (∑ j ∈ Finset.Ico s 2048, rest z t j) = 0 :=
  Finset.sum_eq_zero fun j hj => if_neg (by have := (Finset.mem_Ico.1 hj).1; omega)

/-- No key at or after the query's position has a weight. -/
theorem weight_after (v : ℕ → EReal) (z : ℕ → ℝ) (t s : ℕ) (h : t ≤ s) : (∑ j ∈ Finset.Ico s 2048, v j * ((weight z t j : ℝ) : EReal)) = 0 :=
  Finset.sum_eq_zero fun j hj => by
    unfold weight
    rw [if_neg (by have := (Finset.mem_Ico.1 hj).1; omega), EReal.coe_zero, mul_zero]

section
variable (x : (⟨2, ![8192, 4608]⟩ : Shape).Idx → EReal) (hx : IsReal x) (b : Fin 4) (qi : ℕ) (hqi : qi < 8) (s : ℕ)
  (kb vb : Vec Ideal S256x128 .f32) (hk : ∀ (k : Fin 256) (d : Fin 128), kb (ix2 k d) = rowAt x b (s + k.val) (keyCol d))
  (hv : ∀ (k : Fin 256) (d : Fin 128), vb (ix2 k d) = rowAt x b (s + k.val) (valCol d))
  (tri : Vec Ideal S128x128 .bf16) (ht : IsTri tri)

include hqi in
theorem pos_lt (r : Fin 32) (l : Fin 128) : 256 * qi ≤ posOf qi r l ∧ posOf qi r l < 256 * qi + 256 ∧ 256 * qi + 256 ≤ 2048 := by
  unfold posOf
  have := l.isLt
  omega

include hx hqi hk hv ht in
/-- A past block carries the invariant on. -/
theorem inv_step (q : Vec Ideal S32x128x128 .bf16) (m : Vec Ideal S32x1x128 .f32) (a : Vec Ideal S32x128x128 .f32) (hs : s + 256 ≤ 256 * qi)
    (h : Inv x b qi (s + 256) q m a) : Inv x b qi s q (stepCarry (F := Ideal) kb q tri m) (stepAcc (F := Ideal) kb vb q tri m a) :=
  ⟨h.1, fun r l => pastCarry_real x hx b (headOf r) (posOf qi r l) s kb hk (row128 q r) l (fun d => (row128_ix q r d l).trans (h.1 r d l)) tri ht (row1 m r) ((row1_ix m r l).trans (h.2.1 r l))
      (by have := pos_lt qi hqi r l; omega) (by have := pos_lt qi hqi r l; omega),
    fun r d l => pastAcc_real x hx b (headOf r) (posOf qi r l) s kb vb hk hv (row128 q r) l (fun d => (row128_ix q r d l).trans (h.1 r d l)) tri ht (row1 m r) ((row1_ix m r l).trans (h.2.1 r l))
      (by have := pos_lt qi hqi r l; omega) (by have := pos_lt qi hqi r l; omega) (row128 a r) d ((row128_ix a r d l).trans (h.2.2 r d l))⟩

include hx hqi hk hv ht in
/-- The diagonal block begins the invariant. -/
theorem inv_first (xq : Vec Ideal S256x2048 .f32) (hs : s = 256 * qi)
    (hq : ∀ (i : Fin 256) (j : Fin 2048), xq (ix2 i j) = rowAt x b (256 * qi + i.val) ⟨2048 + j.val, by omega⟩) :
    Inv x b qi s (qTiles (F := Ideal) xq) (firstCarry (F := Ideal) (BitVec.ofNat 32 (256 * qi)) kb (qTiles (F := Ideal) xq) tri)
      (firstAcc (F := Ideal) (BitVec.ofNat 32 (256 * qi)) kb vb (qTiles (F := Ideal) xq) tri) := by
  subst hs
  have h1 : ∀ (r : Fin 32) (d l : Fin 128), qTiles (F := Ideal) xq (ix3 r d l) = (rowAt x b (posOf qi r l) (queryCol (headOf r) d) * ((qscale : ℝ) : EReal) : EReal) := fun r d l => by
    rw [qTiles_ix, hq]
    refine congrArg (fun a : EReal => a * ((qscale : ℝ) : EReal)) (congrArg (rowAt x b (posOf qi r l)) (Fin.ext ?_))
    show 2048 + (128 * (r.val / 2) + d.val) = 2048 + (r.val / 2 * 128 + d.val)
    omega
  have h0 : (Scalar.ofBits (F := Ideal) .f32 0x00000000#32 : EReal) = 0 := by
    have e : (broadcast S1x1x128 (Scalar.ofBits (F := Ideal) .f32 0x00000000#32) (ix3 (0 : Fin 1) (0 : Fin 1) (0 : Fin 128)) : EReal) = 0 := by pointwise
    exact e
  refine ⟨h1, fun r l => ?_, fun r d l => ?_⟩
  · have hp := pos_lt qi hqi r l
    refine diagCarry_real x hx b (headOf r) (posOf qi r l) (256 * qi) kb hk (row128 (qTiles (F := Ideal) xq) r) l (fun d => (row128_ix _ r d l).trans (h1 r d l)) tri ht _ ?_ (by omega)
      _ (fun k => strictAt_iff qi hqi r k l)
    rw [rest_after _ _ _ (by omega), zero_mul, EReal.coe_zero]
    exact h0
  · have hp := pos_lt qi hqi r l
    refine diagAcc_real x hx b (headOf r) (posOf qi r l) (256 * qi) kb vb hk hv (row128 (qTiles (F := Ideal) xq) r) l (fun d => (row128_ix _ r d l).trans (h1 r d l)) tri ht _ ?_ (by omega)
      _ (fun k => strictAt_iff qi hqi r k l) _ d ?_
    · rw [rest_after _ _ _ (by omega), zero_mul, EReal.coe_zero]
      exact h0
    · rw [weight_after _ _ _ _ (by omega)]
      exact h0

end

/-- The block written out when all keys have been taken. -/
theorem out_attn (x : (⟨2, ![8192, 4608]⟩ : Shape).Idx → EReal) (b : Fin 4) (qi : ℕ) (q : Vec Ideal S32x128x128 .bf16) (m : Vec Ideal S32x1x128 .f32)
    (a : Vec Ideal S32x128x128 .f32) (h : Inv x b qi 0 q m a) (y : S256x2048.Idx) (hd : Fin 16) (d : Fin 128) (hy : (y 1).val = hd.val * 128 + d.val) :
    outOf (F := Ideal) a y = attn x b hd (256 * qi + (y 0).val) d := by
  have h0 : (y 0).val < 256 := (y 0).isLt
  have h1 : (y 1).val < 2048 := (y 1).isLt
  have e : inTile y = ix2 (⟨(y 0).val % 128, by omega⟩ : Fin 128) (⟨(y 1).val % 128, by omega⟩ : Fin 128) := by
    funext a
    match a with
    | ⟨0, _⟩ => rfl
    | ⟨1, _⟩ => rfl
  have ep : posOf qi (tileOf y) (⟨(y 0).val % 128, by omega⟩ : Fin 128) = 256 * qi + (y 0).val := by
    show 256 * qi + (128 * ((2 * ((y 1).val / 128) + (y 0).val / 128) % 2) + (y 0).val % 128) = _
    omega
  have eh : headOf (tileOf y) = hd := Fin.ext (by show (2 * ((y 1).val / 128) + (y 0).val / 128) / 2 = hd.val; omega)
  have ed : (⟨(y 1).val % 128, by omega⟩ : Fin 128) = d := Fin.ext (by show (y 1).val % 128 = d.val; omega)
  unfold outOf
  rw [e, payOut_ix]
  refine (row128_ix a _ _ _).trans ((h.2.2 (tileOf y) _ _).trans ?_)
  rw [ep, eh, ed]
  rfl

end Cert.KernelIdeal.Gen

end
-- ==== Proof.Words.lean ====
/- The words of the constant the kernel is passed. -/
module
public import proofs.«01_k».proof.Proof.Gen.KernelIdeal
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

/-- The words of the constant: ones above the diagonal. -/
theorem words : ∀ a k : Fin 128, lit0t (a.val * 128 + k.val) = if a.val < k.val then 0x3F80#16 else 0x0000#16 := by
  decide +kernel

end Cert.KernelIdeal.Gen

end
-- ==== Proof.Blocks.lean ====
/- The blocks the grid reads: a block of queries, the block of keys and of values `ki` before it, and the triangle of
   ones. -/
module
public import proofs.«01_k».proof.Proof.Words
public import proofs.«01_k».proof.Proof.Soft
public import proofs.«01_k».proof.Proof.Column
public import proofs.«01_k».proof.Proof.Gen.KernelIdeal.Frame
public import Idealize.ShloMosaic.Lib.Pipeline.Value
public import Idealize.ShloMosaic.Lib.Pointwise
public import Idealize.ShloMosaic.Lib.IdealHost
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

open Cert.Soft

variable (m : (ℓ : Loc nD τ sig) → Buf (Elt Ideal) ℓ)

/-- The blocks the grid visits at point `t`: row block `t / 8` of the queries; of the keys and values, the row block
    `t % 8` before it in the same sequence, or the sequence's first. -/
theorem idx : ∀ t : Fin cfg0.N, (win0_0.index t (0 : Fin 2) = t.val / 8 ∧ win0_0.index t (1 : Fin 2) = 1)
    ∧ (win0_1.index t (0 : Fin 2) = t.val / 64 * 8 + (t.val % 64 / 8 - t.val % 8) ∧ win0_1.index t (1 : Fin 2) = 34)
    ∧ (win0_2.index t (0 : Fin 2) = t.val / 64 * 8 + (t.val % 64 / 8 - t.val % 8) ∧ win0_2.index t (1 : Fin 2) = 35)
    ∧ (win0_3.index t (0 : Fin 2) = 0 ∧ win0_3.index t (1 : Fin 2) = 0) :=
  (by decide +kernel : ∀ t : Fin grid0.N, _)

/-- The second grid coordinate of point `t`. -/
theorem coord : ∀ t : Fin cfg0.N, ((grid0.coords t) 1).val = t.val % 64 / 8 :=
  (by decide +kernel : ∀ t : Fin grid0.N, _)

/-- The position the first step's comparisons start at. -/
theorem first_pos (t : Fin cfg0.N) : Scalar.muli (BitVec.ofNat 32 ((grid0.coords t) 1).val) 256#32 = BitVec.ofNat 32 (256 * (t.val % 64 / 8)) := by
  rw [coord t]
  have h : ∀ q : Fin 8, Scalar.muli (BitVec.ofNat 32 q.val) 256#32 = BitVec.ofNat 32 (256 * q.val) := by decide +kernel
  exact h ⟨t.val % 64 / 8, by omega⟩

/-- The block of queries. -/
theorem queries (c : Dev nD) (t : Fin cfg0.N) (b : Fin 4) (hb : b.val = t.val / 64) (i : Fin 256) (j : Fin 2048) :
    (show Vec Ideal S256x2048 .f32 from X0_0 m c t) (ix2 i j) = rowAt (m (c.tc.loc main_arg0)) b (256 * (t.val % 64 / 8) + i.val) ⟨2048 + j.val, by omega⟩ := by
  obtain ⟨⟨e0, e1⟩, -⟩ := idx t
  have hN : t.val < 256 := lt_of_lt_of_eq t.isLt N_0
  have hr : 256 * (t.val % 64 / 8) + i.val < 2048 := by have := i.isLt; omega
  unfold rowAt
  rw [dif_pos hr, ← V_main_arg0 m c]
  show (cfg0.win 0).fill (cfg0.grid.coords t) dflt0_0 (iblk m c 0 t) (ix2 i j) = _
  unfold Pipeline.Window.fill
  rw [dif_pos (moved0_0 t (ix2 i j))]
  show V m c main_arg0 (((cfg0.win 0).blk t).view.emb _) = _
  congr 1; funext a; apply Fin.ext
  match a with
  | ⟨0, _⟩ => show win0_0.index t (0 : Fin 2) * 256 + 1 * i.val = b.val * 2048 + (256 * (t.val % 64 / 8) + i.val); omega
  | ⟨1, _⟩ => show win0_0.index t (1 : Fin 2) * 2048 + 1 * j.val = 2048 + j.val; omega

/-- The block of keys. -/
theorem keys (c : Dev nD) (t : Fin cfg0.N) (b : Fin 4) (hb : b.val = t.val / 64) (k : Fin 256) (d : Fin 128) :
    (show Vec Ideal S256x128 .f32 from iblk m c 1 t) (ix2 k d) = rowAt (m (c.tc.loc main_arg0)) b (256 * (t.val % 64 / 8 - t.val % 8) + k.val) (keyCol d) := by
  obtain ⟨-, ⟨e0, e1⟩, -⟩ := idx t
  have hr : 256 * (t.val % 64 / 8 - t.val % 8) + k.val < 2048 := by have := k.isLt; omega
  unfold rowAt
  rw [dif_pos hr, ← V_main_arg0 m c]
  show V m c main_arg0 (((cfg0.win 1).blk t).view.emb (ix2 k d)) = _
  congr 1; funext a; apply Fin.ext
  match a with
  | ⟨0, _⟩ => show win0_1.index t (0 : Fin 2) * 256 + 1 * k.val = b.val * 2048 + (256 * (t.val % 64 / 8 - t.val % 8) + k.val); omega
  | ⟨1, _⟩ => show win0_1.index t (1 : Fin 2) * 128 + 1 * d.val = 4352 + d.val; omega

/-- The block of values. -/
theorem vals (c : Dev nD) (t : Fin cfg0.N) (b : Fin 4) (hb : b.val = t.val / 64) (k : Fin 256) (d : Fin 128) :
    (show Vec Ideal S256x128 .f32 from iblk m c 2 t) (ix2 k d) = rowAt (m (c.tc.loc main_arg0)) b (256 * (t.val % 64 / 8 - t.val % 8) + k.val) (valCol d) := by
  obtain ⟨-, -, ⟨e0, e1⟩, -⟩ := idx t
  have hr : 256 * (t.val % 64 / 8 - t.val % 8) + k.val < 2048 := by have := k.isLt; omega
  unfold rowAt
  rw [dif_pos hr, ← V_main_arg0 m c]
  show V m c main_arg0 (((cfg0.win 2).blk t).view.emb (ix2 k d)) = _
  congr 1; funext a; apply Fin.ext
  match a with
  | ⟨0, _⟩ => show win0_2.index t (0 : Fin 2) * 256 + 1 * k.val = b.val * 2048 + (256 * (t.val % 64 / 8 - t.val % 8) + k.val); omega
  | ⟨1, _⟩ => show win0_2.index t (1 : Fin 2) * 128 + 1 * d.val = 4480 + d.val; omega

/-- The constant is the strict upper triangle of ones. -/
theorem triangle (c : Dev nD) (t : Fin cfg0.N) : IsTri (show Vec Ideal S128x128 .bf16 from iblk m c 3 t) := by
  intro a k
  obtain ⟨-, -, -, e0, e1⟩ := idx t
  have h : (show Vec Ideal S128x128 .bf16 from iblk m c 3 t) (ix2 a k) = V m c main_cst (ix2 a k) := by
    show V m c main_cst (((cfg0.win 3).blk t).view.emb (ix2 a k)) = _
    congr 1; funext b; apply Fin.ext
    match b with
    | ⟨0, _⟩ => show win0_3.index t (0 : Fin 2) * 128 + 1 * a.val = a.val; omega
    | ⟨1, _⟩ => show win0_3.index t (1 : Fin 2) * 128 + 1 * k.val = k.val; omega
  have hv : V m c main_cst = fun i => FloatOps.ofBits (F := Ideal) .bf16 (lit0 (S128x128.rowMajor i)) := by
    unfold V
    rw [StableHlo.after_cons, StableHlo.after_nil]
    exact StableHlo.nullary_result ..
  have hw : (S128x128.rowMajor (ix2 a k)).val = a.val * 128 + k.val := by
    rw [Shape.rowMajor_val_two]
    rfl
  rw [h, hv]
  show Ideal.ofBits .bf16 (lit0t (S128x128.rowMajor (ix2 a k)).val) = _
  rw [hw, words]
  split
  · rw [Ideal.ofBits_one_bf16]
  · rw [Ideal.ofBits_zero_bf16]

end Cert.KernelIdeal.Gen

end
-- ==== Proof.Agree2.lean ====
module
public import proofs.«01_k».proof.Proof.Rows
public import Idealize.ShloMosaic.Lib.VecWindow
public import Idealize.ShloMosaic.Lib.WritesUnit
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

section Loop2
variable (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (k0_h3 : k0_cond3 i = 1#1) (v15 : Vec F S256x128 .f32) (v16 : Vec F S256x128 .f32) (X_arg6 : BufTy.Contents (Elt F) arg6.view.ty) (X_arg8 : BufTy.Contents (Elt F) arg8.view.ty)
    (f9 : BufTy.Contents (Elt F) arg9.view.ty) (f11 : BufTy.Contents (Elt F) arg11.view.ty)

/-- What a past block leaves in the carried rows, from what the block before left there. -/
def loop2Carry : S32x1x128.Idx → Elt F .f32 := fun y => pastCarry v15 (row128 (arg8.view.read (Elt F) X_arg8) (y 0)) (arg6.view.read (Elt F) X_arg6) (row1 (arg9.view.read (Elt F) f9) (y 0)) (loc1 y)

/-- What a past block leaves in the accumulated tiles, from what the block before left there. -/
def loop2Acc : S32x128x128.Idx → Elt F .f32 := fun y => pastAcc v15 v16 (row128 (arg8.view.read (Elt F) X_arg8) (y 0)) (arg6.view.read (Elt F) X_arg6) (row1 (arg9.view.read (Elt F) f9) (y 0)) (row128 (arg11.view.read (Elt F) f11) (y 0)) (loc128 y)

/-- One trip's rows hold that function's values, where its own rows are still the entry's. -/
theorem trip2_carry_agree (k : Fin k0_t2_loop.trips) (g9 : BufTy.Contents (Elt F) arg9.view.ty) (g11 : BufTy.Contents (Elt F) arg11.view.ty)
    (hg : ∀ y : S32x1x128.Idx, 16 * k.val ≤ (y 0).val → (y 0).val < 16 * k.val + 16 → arg9.view.read (Elt F) g9 y = arg9.view.read (Elt F) f9 y) :
    ∃ w : ∀ s : Fin 16, (Rect.unit (s := S32x1x128) (k0_off3 k (BitVec.ofNat 32 s.val)) S1x1x128.size (k0_off3_inb i k k0_h3 s)).shape.Idx → Elt F .f32, (trip_k0_t2 (F := F) 𝒱 c bd i arg3 harg3 arg4 harg4 arg5 harg5 arg6 harg6 arg7 harg7 arg8 harg8 arg9 harg9 arg10 harg10 arg11 harg11 k0_h3 v15 v16 X_arg6 X_arg8 k).1 g9 g11 = rows16.map (fun s => (⟨Rect.unit (s := S32x1x128) (k0_off3 k (BitVec.ofNat 32 s.val)) S1x1x128.size (k0_off3_inb i k k0_h3 s), w s⟩ : View.Piece (Elt F) S32x1x128 _))
      ∧ ∀ s x, w s x = loop2Carry arg6 arg8 arg9 v15 X_arg6 X_arg8 f9 ((Rect.unit (s := S32x1x128) (k0_off3 k (BitVec.ofNat 32 s.val)) S1x1x128.size (k0_off3_inb i k k0_h3 s)).emb x) := by
  refine ⟨_, trip2_carry 𝒱 c bd i arg3 harg3 arg4 harg4 arg5 harg5 arg6 harg6 arg7 harg7 arg8 harg8 arg9 harg9 arg10 harg10 arg11 harg11 k0_h3 v15 v16 X_arg6 X_arg8 k g9 g11, fun s x => ?_⟩
  have hk : k.val < 2 := Nat.lt_of_lt_of_le k.isLt k0_t2_abs.2.1
  obtain ⟨r, hr⟩ : ∃ r : Fin 32, r.val = 16 * k.val + s.val := ⟨⟨16 * k.val + s.val, by omega⟩, rfl⟩
  obtain ⟨h0, hl⟩ := emb_row1 (k0_off3_inb i k k0_h3 s) r (by rw [off3_eq, hr]) x
  have hm : row1 (arg9.view.read (Elt F) g9) r = row1 (arg9.view.read (Elt F) f9) r := funext fun y => hg _ (by show 16 * k.val ≤ r.val; omega) (by show r.val < 16 * k.val + 16; omega)
  rw [loop2Carry, h0, hl, readAt_row128 arg8.view X_arg8 _ r (by rw [off4_eq, hr]), View.readAt_full arg6.view X_arg6,
    readAt_row1 arg9.view g9 _ r (by rw [off3_eq, hr]), hm]

/-- One trip's tiles hold that function's values, where its own rows and tiles are still the entry's. -/
theorem trip2_acc_agree (k : Fin k0_t2_loop.trips) (g9 : BufTy.Contents (Elt F) arg9.view.ty) (g11 : BufTy.Contents (Elt F) arg11.view.ty)
    (hg : ∀ y : S32x1x128.Idx, 16 * k.val ≤ (y 0).val → (y 0).val < 16 * k.val + 16 → arg9.view.read (Elt F) g9 y = arg9.view.read (Elt F) f9 y)
    (hg' : ∀ y : S32x128x128.Idx, 16 * k.val ≤ (y 0).val → (y 0).val < 16 * k.val + 16 → arg11.view.read (Elt F) g11 y = arg11.view.read (Elt F) f11 y) :
    ∃ w : ∀ s : Fin 16, (Rect.unit (s := S32x128x128) (k0_off4 k (BitVec.ofNat 32 s.val)) S1x128x128.size (k0_off4_inb i k k0_h3 s)).shape.Idx → Elt F .f32, (trip_k0_t2 (F := F) 𝒱 c bd i arg3 harg3 arg4 harg4 arg5 harg5 arg6 harg6 arg7 harg7 arg8 harg8 arg9 harg9 arg10 harg10 arg11 harg11 k0_h3 v15 v16 X_arg6 X_arg8 k).2.1 g9 g11 = rows16.map (fun s => (⟨Rect.unit (s := S32x128x128) (k0_off4 k (BitVec.ofNat 32 s.val)) S1x128x128.size (k0_off4_inb i k k0_h3 s), w s⟩ : View.Piece (Elt F) S32x128x128 _))
      ∧ ∀ s x, w s x = loop2Acc arg6 arg8 arg9 arg11 v15 v16 X_arg6 X_arg8 f9 f11 ((Rect.unit (s := S32x128x128) (k0_off4 k (BitVec.ofNat 32 s.val)) S1x128x128.size (k0_off4_inb i k k0_h3 s)).emb x) := by
  refine ⟨_, trip2_acc 𝒱 c bd i arg3 harg3 arg4 harg4 arg5 harg5 arg6 harg6 arg7 harg7 arg8 harg8 arg9 harg9 arg10 harg10 arg11 harg11 k0_h3 v15 v16 X_arg6 X_arg8 k g9 g11, fun s x => ?_⟩
  have hk : k.val < 2 := Nat.lt_of_lt_of_le k.isLt k0_t2_abs.2.1
  obtain ⟨r, hr⟩ : ∃ r : Fin 32, r.val = 16 * k.val + s.val := ⟨⟨16 * k.val + s.val, by omega⟩, rfl⟩
  obtain ⟨h0, hl⟩ := emb_row128 (k0_off4_inb i k k0_h3 s) r (by rw [off4_eq, hr]) x
  have hm : row1 (arg9.view.read (Elt F) g9) r = row1 (arg9.view.read (Elt F) f9) r := funext fun y => hg _ (by show 16 * k.val ≤ r.val; omega) (by show r.val < 16 * k.val + 16; omega)
  have ha : row128 (arg11.view.read (Elt F) g11) r = row128 (arg11.view.read (Elt F) f11) r := funext fun y => hg' _ (by show 16 * k.val ≤ r.val; omega) (by show r.val < 16 * k.val + 16; omega)
  rw [loop2Acc, h0, hl, readAt_row128 arg8.view X_arg8 _ r (by rw [off4_eq, hr]), View.readAt_full arg6.view X_arg6,
    readAt_row1 arg9.view g9 _ r (by rw [off3_eq, hr]), hm, readAt_row128 arg11.view g11 _ r (by rw [off4_eq, hr]), ha]

end Loop2

end Cert.KernelIdeal.Gen

end
-- ==== Proof.Loop2.lean ====
module
public import proofs.«01_k».proof.Proof.Agree2
public import Idealize.ShloMosaic.Lib.VecWindow
public import Idealize.ShloMosaic.Lib.WritesUnit
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

section Loop2
variable (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (k0_h3 : k0_cond3 i = 1#1) (v15 : Vec F S256x128 .f32) (v16 : Vec F S256x128 .f32) (X_arg6 : BufTy.Contents (Elt F) arg6.view.ty) (X_arg8 : BufTy.Contents (Elt F) arg8.view.ty)
    (f9 : BufTy.Contents (Elt F) arg9.view.ty) (f11 : BufTy.Contents (Elt F) arg11.view.ty)

/-- What a whole past block's loop leaves in the carried rows and in the accumulated tiles. -/
theorem loop2_read :
    arg9.view.read (Elt F) (arg9.view.writes (Elt F) f9 (pb_k0_t2 (F := F) 𝒱 c bd i arg3 harg3 arg4 harg4 arg5 harg5 arg6 harg6 arg7 harg7 arg8 harg8 arg9 harg9 arg10 harg10 arg11 harg11 k0_h3 v15 v16 X_arg6 X_arg8 f9 f11 2).1) = loop2Carry arg6 arg8 arg9 v15 X_arg6 X_arg8 f9
    ∧ arg11.view.read (Elt F) (arg11.view.writes (Elt F) f11 (pb_k0_t2 (F := F) 𝒱 c bd i arg3 harg3 arg4 harg4 arg5 harg5 arg6 harg6 arg7 harg7 arg8 harg8 arg9 harg9 arg10 harg10 arg11 harg11 k0_h3 v15 v16 X_arg6 X_arg8 f9 f11 2).2) = loop2Acc arg6 arg8 arg9 arg11 v15 v16 X_arg6 X_arg8 f9 f11 := by
  have ht : k0_t2_loop.trips = 2 := by decide +kernel
  have e1 := pb_k0_t2_succ (F := F) 𝒱 c bd i arg3 harg3 arg4 harg4 arg5 harg5 arg6 harg6 arg7 harg7 arg8 harg8 arg9 harg9 arg10 harg10 arg11 harg11 k0_h3 v15 v16 X_arg6 X_arg8 f9 f11 (⟨0, by omega⟩ : Fin k0_t2_loop.trips)
  have e2 := pb_k0_t2_succ (F := F) 𝒱 c bd i arg3 harg3 arg4 harg4 arg5 harg5 arg6 harg6 arg7 harg7 arg8 harg8 arg9 harg9 arg10 harg10 arg11 harg11 k0_h3 v15 v16 X_arg6 X_arg8 f9 f11 (⟨1, by omega⟩ : Fin k0_t2_loop.trips)
  simp only [Nat.zero_add, Nat.reduceAdd, pb_k0_t2.eq_1, View.writes_nil, List.append_nil] at e1 e2
  rw [e1] at e2
  obtain ⟨w0, p0, q0⟩ := trip2_carry_agree 𝒱 c bd i arg3 harg3 arg4 harg4 arg5 harg5 arg6 harg6 arg7 harg7 arg8 harg8 arg9 harg9 arg10 harg10 arg11 harg11 k0_h3 v15 v16 X_arg6 X_arg8 f9 (⟨0, by omega⟩ : Fin k0_t2_loop.trips) f9 f11 (fun _ _ _ => rfl)
  obtain ⟨u0, r0, t0⟩ := trip2_acc_agree 𝒱 c bd i arg3 harg3 arg4 harg4 arg5 harg5 arg6 harg6 arg7 harg7 arg8 harg8 arg9 harg9 arg10 harg10 arg11 harg11 k0_h3 v15 v16 X_arg6 X_arg8 f9 f11 (⟨0, by omega⟩ : Fin k0_t2_loop.trips) f9 f11 (fun _ _ _ => rfl) (fun _ _ _ => rfl)
  have hz9 : ∀ (k : Fin k0_t2_loop.trips) (s : Fin 16), k0_off3 k (BitVec.ofNat 32 s.val) 0 = 16 * k.val + s.val := fun k s => by rw [off3_eq]; rfl
  have hz11 : ∀ (k : Fin k0_t2_loop.trips) (s : Fin 16), k0_off4 k (BitVec.ofNat 32 s.val) 0 = 16 * k.val + s.val := fun k s => by rw [off4_eq]; rfl
  have ho9 : ∀ (k : Fin k0_t2_loop.trips) (s : Fin 16) (b : Fin 3), b ≠ 0 → k0_off3 k (BitVec.ofNat 32 s.val) b = 0 ∧ S1x1x128.size b = S32x1x128.size b := fun k s b hb => by
    rw [off3_eq]
    match b with
    | ⟨0, _⟩ => exact absurd rfl hb
    | ⟨1, _⟩ => exact ⟨rfl, rfl⟩
    | ⟨2, _⟩ => exact ⟨rfl, rfl⟩
  have ho11 : ∀ (k : Fin k0_t2_loop.trips) (s : Fin 16) (b : Fin 3), b ≠ 0 → k0_off4 k (BitVec.ofNat 32 s.val) b = 0 ∧ S1x128x128.size b = S32x128x128.size b := fun k s b hb => by
    rw [off4_eq]
    match b with
    | ⟨0, _⟩ => exact absurd rfl hb
    | ⟨1, _⟩ => exact ⟨rfl, rfl⟩
    | ⟨2, _⟩ => exact ⟨rfl, rfl⟩
  have m9 := fun (y : S32x1x128.Idx) => rows_miss (F := F) (0 : Fin S32x1x128.rank) arg9.view f9 0 _ w0 (hz9 _) rfl y
  have m11 := fun (y : S32x128x128.Idx) => rows_miss (F := F) (0 : Fin S32x128x128.rank) arg11.view f11 0 _ u0 (hz11 _) rfl y
  have h9 := fun (y : S32x1x128.Idx) => rows_hit (F := F) (0 : Fin S32x1x128.rank) arg9.view f9 0 _ w0 (hz9 _) rfl (ho9 _) _ q0 y
  have h11 := fun (y : S32x128x128.Idx) => rows_hit (F := F) (0 : Fin S32x128x128.rank) arg11.view f11 0 _ u0 (hz11 _) rfl (ho11 _) _ t0 y
  rw [← p0] at m9 h9
  rw [← r0] at m11 h11
  rw [e2]
  simp only [View.writes_append]
  generalize arg9.view.writes (Elt F) f9 ((trip_k0_t2 (F := F) 𝒱 c bd i arg3 harg3 arg4 harg4 arg5 harg5 arg6 harg6 arg7 harg7 arg8 harg8 arg9 harg9 arg10 harg10 arg11 harg11 k0_h3 v15 v16 X_arg6 X_arg8 (⟨0, by omega⟩ : Fin k0_t2_loop.trips)).1 f9 f11) = g9 at *
  generalize arg11.view.writes (Elt F) f11 ((trip_k0_t2 (F := F) 𝒱 c bd i arg3 harg3 arg4 harg4 arg5 harg5 arg6 harg6 arg7 harg7 arg8 harg8 arg9 harg9 arg10 harg10 arg11 harg11 k0_h3 v15 v16 X_arg6 X_arg8 (⟨0, by omega⟩ : Fin k0_t2_loop.trips)).2.1 f9 f11) = g11 at *
  have P1 := trip2_carry_agree 𝒱 c bd i arg3 harg3 arg4 harg4 arg5 harg5 arg6 harg6 arg7 harg7 arg8 harg8 arg9 harg9 arg10 harg10 arg11 harg11 k0_h3 v15 v16 X_arg6 X_arg8 f9 (⟨1, by omega⟩ : Fin k0_t2_loop.trips) g9 g11
    (fun y h _ => m9 y (Or.inr (by simpa using h)))
  have R1 := trip2_acc_agree 𝒱 c bd i arg3 harg3 arg4 harg4 arg5 harg5 arg6 harg6 arg7 harg7 arg8 harg8 arg9 harg9 arg10 harg10 arg11 harg11 k0_h3 v15 v16 X_arg6 X_arg8 f9 f11 (⟨1, by omega⟩ : Fin k0_t2_loop.trips) g9 g11
    (fun y h _ => m9 y (Or.inr (by simpa using h))) (fun y h _ => m11 y (Or.inr (by simpa using h)))
  obtain ⟨w1, p1, q1⟩ := P1
  obtain ⟨u1, r1, t1⟩ := R1
  rw [p1, r1]
  refine ⟨funext fun y => ?_, funext fun y => ?_⟩
  · have hy : (y 0).val < 32 := (y 0).isLt
    by_cases h : (y 0).val < 16
    · exact (rows_miss (F := F) (0 : Fin S32x1x128.rank) arg9.view g9 1 _ w1 (hz9 _) rfl y (Or.inl (by simpa using h))).trans
        (h9 y (Nat.zero_le _) (by simpa using h))
    · exact rows_hit (F := F) (0 : Fin S32x1x128.rank) arg9.view g9 1 _ w1 (hz9 _) rfl (ho9 _) _ q1 y (by show 16 * 1 ≤ (y 0).val; omega) (by show (y 0).val < 16 * 1 + 16; omega)
  · have hy : (y 0).val < 32 := (y 0).isLt
    by_cases h : (y 0).val < 16
    · exact (rows_miss (F := F) (0 : Fin S32x128x128.rank) arg11.view g11 1 _ u1 (hz11 _) rfl y (Or.inl (by simpa using h))).trans
        (h11 y (Nat.zero_le _) (by simpa using h))
    · exact rows_hit (F := F) (0 : Fin S32x128x128.rank) arg11.view g11 1 _ u1 (hz11 _) rfl (ho11 _) _ t1 y (by show 16 * 1 ≤ (y 0).val; omega) (by show (y 0).val < 16 * 1 + 16; omega)

end Loop2

end Cert.KernelIdeal.Gen

end
-- ==== Proof.Cases.lean ====
module
public import proofs.«01_k».proof.Proof.Loop2
public import proofs.«01_k».proof.Proof.Out
public import proofs.«01_k».proof.Proof.Gen.KernelIdeal.Frame
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

/-- A past block (not the last step): the carried rows. -/
theorem sout0_D_1_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : ¬cond0_0 i) (hc1 : ¬cond0_1 i) (hc2 : cond0_2 i) (hc3 : ¬cond0_3 i) (x0 : Vec F S256x2048 .f32) (x1 : Vec F S256x128 .f32) (x2 : Vec F S256x128 .f32) (x3 : Vec F S128x128 .bf16) (xs0 : Vec F S32x128x128 .bf16) (xs1 : Vec F S32x1x128 .f32) (xs3 : Vec F S32x128x128 .f32) : sout0_D_1 (F := F) c i arg3 harg3 arg4 harg4 arg5 harg5 arg6 harg6 arg7 harg7 arg8 harg8 arg9 harg9 arg10 harg10 arg11 harg11 hc0 hc1 hc2 hc3 x0 x1 x2 x3 xs0 xs1 xs3 = stepCarry x1 xs0 x3 xs1 := by
  unfold sout0_D_1 kernelRun0_D
  dsimp only
  have ht : Scf.trips (0#32) (Scalar.addi 0#32 2#32) 1#32 = 2 := by decide +kernel
  have h4 : View.readAt (Elt F) arg4.view (Rect.unit ![0, 0] ![256, 128] inb_S256x128_S256x128_0_0).toLoadRect (harg4.unread x1) = x1 :=
    (View.readAt_full arg4.view (harg4.unread x1) _).trans (harg4.read_unread x1)
  have h5 : View.readAt (Elt F) arg5.view (Rect.unit ![0, 0] ![256, 128] inb_S256x128_S256x128_0_0).toLoadRect (harg5.unread x2) = x2 :=
    (View.readAt_full arg5.view (harg5.unread x2) _).trans (harg5.read_unread x2)
  rw [ht]
  refine (loop2_read Variants.none c none i arg3 harg3 arg4 harg4 arg5 harg5 arg6 harg6 arg7 harg7 arg8 harg8 arg9 harg9 arg10 harg10 arg11 harg11 hc2 _ _ _ _ _ _).1.trans ?_
  unfold loop2Carry
  rw [h4, harg6.read_unread, harg8.read_unread, harg9.read_unread]
  rfl

/-- A past block (not the last step): the accumulated tiles. -/
theorem sout0_D_3_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : ¬cond0_0 i) (hc1 : ¬cond0_1 i) (hc2 : cond0_2 i) (hc3 : ¬cond0_3 i) (x0 : Vec F S256x2048 .f32) (x1 : Vec F S256x128 .f32) (x2 : Vec F S256x128 .f32) (x3 : Vec F S128x128 .bf16) (xs0 : Vec F S32x128x128 .bf16) (xs1 : Vec F S32x1x128 .f32) (xs3 : Vec F S32x128x128 .f32) : sout0_D_3 (F := F) c i arg3 harg3 arg4 harg4 arg5 harg5 arg6 harg6 arg7 harg7 arg8 harg8 arg9 harg9 arg10 harg10 arg11 harg11 hc0 hc1 hc2 hc3 x0 x1 x2 x3 xs0 xs1 xs3 = stepAcc x1 x2 xs0 x3 xs1 xs3 := by
  unfold sout0_D_3 kernelRun0_D
  dsimp only
  have ht : Scf.trips (0#32) (Scalar.addi 0#32 2#32) 1#32 = 2 := by decide +kernel
  have h4 : View.readAt (Elt F) arg4.view (Rect.unit ![0, 0] ![256, 128] inb_S256x128_S256x128_0_0).toLoadRect (harg4.unread x1) = x1 :=
    (View.readAt_full arg4.view (harg4.unread x1) _).trans (harg4.read_unread x1)
  have h5 : View.readAt (Elt F) arg5.view (Rect.unit ![0, 0] ![256, 128] inb_S256x128_S256x128_0_0).toLoadRect (harg5.unread x2) = x2 :=
    (View.readAt_full arg5.view (harg5.unread x2) _).trans (harg5.read_unread x2)
  rw [ht]
  refine (loop2_read Variants.none c none i arg3 harg3 arg4 harg4 arg5 harg5 arg6 harg6 arg7 harg7 arg8 harg8 arg9 harg9 arg10 harg10 arg11 harg11 hc2 _ _ _ _ _ _).2.trans ?_
  unfold loop2Acc
  rw [h4, h5, harg6.read_unread, harg8.read_unread, harg9.read_unread, harg11.read_unread]
  rfl

/-- The last step after the past blocks: the block written out. -/
theorem out0_C_4_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : ¬cond0_0 i) (hc1 : ¬cond0_1 i) (hc2 : ¬cond0_2 i) (hc3 : cond0_3 i) (x0 : Vec F S256x2048 .f32) (x1 : Vec F S256x128 .f32) (x2 : Vec F S256x128 .f32) (x3 : Vec F S128x128 .bf16) (xs0 : Vec F S32x128x128 .bf16) (xs1 : Vec F S32x1x128 .f32) (xs3 : Vec F S32x128x128 .f32) : out0_C_4 (F := F) c i arg3 harg3 arg4 harg4 arg5 harg5 arg6 harg6 arg7 harg7 arg8 harg8 arg9 harg9 arg10 harg10 arg11 harg11 hc0 hc1 hc2 hc3 x0 x1 x2 x3 xs0 xs1 xs3 = outOf xs3 := by
  unfold out0_C_4 kernelRun0_C
  dsimp only
  sl_unfold_words
  refine (out_read VO0_4 VO0_4.junk arg11.view (harg11.unread xs3)).trans ?_
  rw [harg11.read_unread]

/-- The last step on a past block: the block written out. -/
theorem out0_E_4_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : ¬cond0_0 i) (hc1 : ¬cond0_1 i) (hc2 : cond0_2 i) (hc3 : cond0_3 i) (x0 : Vec F S256x2048 .f32) (x1 : Vec F S256x128 .f32) (x2 : Vec F S256x128 .f32) (x3 : Vec F S128x128 .bf16) (xs0 : Vec F S32x128x128 .bf16) (xs1 : Vec F S32x1x128 .f32) (xs3 : Vec F S32x128x128 .f32) : out0_E_4 (F := F) c i arg3 harg3 arg4 harg4 arg5 harg5 arg6 harg6 arg7 harg7 arg8 harg8 arg9 harg9 arg10 harg10 arg11 harg11 hc0 hc1 hc2 hc3 x0 x1 x2 x3 xs0 xs1 xs3 = outOf (stepAcc x1 x2 xs0 x3 xs1 xs3) := by
  unfold out0_E_4 kernelRun0_E
  dsimp only
  sl_unfold_words
  have ht : Scf.trips (0#32) (Scalar.addi 0#32 2#32) 1#32 = 2 := by decide +kernel
  have h4 : View.readAt (Elt F) arg4.view (Rect.unit ![0, 0] ![256, 128] inb_S256x128_S256x128_0_0).toLoadRect (harg4.unread x1) = x1 :=
    (View.readAt_full arg4.view (harg4.unread x1) _).trans (harg4.read_unread x1)
  have h5 : View.readAt (Elt F) arg5.view (Rect.unit ![0, 0] ![256, 128] inb_S256x128_S256x128_0_0).toLoadRect (harg5.unread x2) = x2 :=
    (View.readAt_full arg5.view (harg5.unread x2) _).trans (harg5.read_unread x2)
  refine (out_read VO0_4 VO0_4.junk arg11.view (arg11.view.writes (Elt F) (harg11.unread xs3) (pb_k0_t2 (F := F) Variants.none c none i arg3 harg3 arg4 harg4 arg5 harg5 arg6 harg6 arg7 harg7 arg8 harg8 arg9 harg9 arg10 harg10 arg11 harg11 hc2 _ _ _ _ _ _ (Scf.trips (0#32) (Scalar.addi 0#32 2#32) 1#32)).2)).trans ?_
  rw [ht]
  refine congrArg outOf ?_
  refine (loop2_read Variants.none c none i arg3 harg3 arg4 harg4 arg5 harg5 arg6 harg6 arg7 harg7 arg8 harg8 arg9 harg9 arg10 harg10 arg11 harg11 hc2 _ _ _ _ _ _).2.trans ?_
  unfold loop2Acc
  rw [h4, h5, harg6.read_unread, harg8.read_unread, harg9.read_unread, harg11.read_unread]
  rfl

end Cert.KernelIdeal.Gen

end
-- ==== Proof.Agree1.lean ====
module
public import proofs.«01_k».proof.Proof.Rows
public import Idealize.ShloMosaic.Lib.VecWindow
public import Idealize.ShloMosaic.Lib.WritesUnit
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

/-- The word of a tile's number. -/
theorem strict_word (k : Fin k0_t1_loop.trips) (s : Fin 16) (r : Fin 32) (hr : r.val = 16 * k.val + s.val) :
    Scalar.addi (Scalar.muli (Scf.iv 0#32 1#32 k) 16#32) (BitVec.ofNat 32 s.val) = BitVec.ofNat 32 r.val := by
  have h : ∀ (k : Fin k0_t1_loop.trips) (s : Fin 16),
      Scalar.addi (Scalar.muli (Scf.iv 0#32 1#32 k) 16#32) (BitVec.ofNat 32 s.val) = BitVec.ofNat 32 (16 * k.val + s.val) := by
    decide +kernel
  rw [h, hr]

section Loop1
variable (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (v0 : BitVec 32) (k0_h2 : k0_cond2 i = 1#1) (v15 : Vec F S256x128 .f32) (v16 : Vec F S256x128 .f32) (v17 : BitVec 32) (X_arg6 : BufTy.Contents (Elt F) arg6.view.ty) (X_arg8 : BufTy.Contents (Elt F) arg8.view.ty)
    (f9 : BufTy.Contents (Elt F) arg9.view.ty) (f11 : BufTy.Contents (Elt F) arg11.view.ty)

/-- What a diagonal block leaves in the carried rows, from what the block before left there. -/
def loop1Carry : S32x1x128.Idx → Elt F .f32 := fun y => diagCarry (strictAt v0 v17 (BitVec.ofNat 32 (y 0).val)) v15 (row128 (arg8.view.read (Elt F) X_arg8) (y 0)) (arg6.view.read (Elt F) X_arg6) (row1 (arg9.view.read (Elt F) f9) (y 0)) (loc1 y)

/-- What a diagonal block leaves in the accumulated tiles, from what the block before left there. -/
def loop1Acc : S32x128x128.Idx → Elt F .f32 := fun y => diagAcc (strictAt v0 v17 (BitVec.ofNat 32 (y 0).val)) v15 v16 (row128 (arg8.view.read (Elt F) X_arg8) (y 0)) (arg6.view.read (Elt F) X_arg6) (row1 (arg9.view.read (Elt F) f9) (y 0)) (row128 (arg11.view.read (Elt F) f11) (y 0)) (loc128 y)

/-- One trip's rows hold that function's values, where its own rows are still the entry's. -/
theorem trip1_carry_agree (k : Fin k0_t1_loop.trips) (g9 : BufTy.Contents (Elt F) arg9.view.ty) (g11 : BufTy.Contents (Elt F) arg11.view.ty)
    (hg : ∀ y : S32x1x128.Idx, 16 * k.val ≤ (y 0).val → (y 0).val < 16 * k.val + 16 → arg9.view.read (Elt F) g9 y = arg9.view.read (Elt F) f9 y) :
    ∃ w : ∀ s : Fin 16, (Rect.unit (s := S32x1x128) (k0_off1 k (BitVec.ofNat 32 s.val)) S1x1x128.size (k0_off1_inb i k k0_h2 s)).shape.Idx → Elt F .f32, (trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 k).1 g9 g11 = rows16.map (fun s => (⟨Rect.unit (s := S32x1x128) (k0_off1 k (BitVec.ofNat 32 s.val)) S1x1x128.size (k0_off1_inb i k k0_h2 s), w s⟩ : View.Piece (Elt F) S32x1x128 _))
      ∧ ∀ s x, w s x = loop1Carry arg6 arg8 arg9 v0 v15 v17 X_arg6 X_arg8 f9 ((Rect.unit (s := S32x1x128) (k0_off1 k (BitVec.ofNat 32 s.val)) S1x1x128.size (k0_off1_inb i k k0_h2 s)).emb x) := by
  refine ⟨_, trip1_carry 𝒱 c bd i arg3 harg3 arg4 harg4 arg5 harg5 arg6 harg6 arg7 harg7 arg8 harg8 arg9 harg9 arg10 harg10 arg11 harg11 v0 k0_h2 v15 v16 v17 X_arg6 X_arg8 k g9 g11, fun s x => ?_⟩
  have hk : k.val < 2 := Nat.lt_of_lt_of_le k.isLt k0_t1_abs.2.1
  obtain ⟨r, hr⟩ : ∃ r : Fin 32, r.val = 16 * k.val + s.val := ⟨⟨16 * k.val + s.val, by omega⟩, rfl⟩
  obtain ⟨h0, hl⟩ := emb_row1 (k0_off1_inb i k k0_h2 s) r (by rw [off1_eq, hr]) x
  have hm : row1 (arg9.view.read (Elt F) g9) r = row1 (arg9.view.read (Elt F) f9) r := funext fun y => hg _ (by show 16 * k.val ≤ r.val; omega) (by show r.val < 16 * k.val + 16; omega)
  rw [loop1Carry, h0, hl, readAt_row128 arg8.view X_arg8 _ r (by rw [off2_eq, hr]), View.readAt_full arg6.view X_arg6,
    readAt_row1 arg9.view g9 _ r (by rw [off1_eq, hr]), hm, strict_word k s r hr]

/-- One trip's tiles hold that function's values, where its own rows and tiles are still the entry's. -/
theorem trip1_acc_agree (k : Fin k0_t1_loop.trips) (g9 : BufTy.Contents (Elt F) arg9.view.ty) (g11 : BufTy.Contents (Elt F) arg11.view.ty)
    (hg : ∀ y : S32x1x128.Idx, 16 * k.val ≤ (y 0).val → (y 0).val < 16 * k.val + 16 → arg9.view.read (Elt F) g9 y = arg9.view.read (Elt F) f9 y)
    (hg' : ∀ y : S32x128x128.Idx, 16 * k.val ≤ (y 0).val → (y 0).val < 16 * k.val + 16 → arg11.view.read (Elt F) g11 y = arg11.view.read (Elt F) f11 y) :
    ∃ w : ∀ s : Fin 16, (Rect.unit (s := S32x128x128) (k0_off2 k (BitVec.ofNat 32 s.val)) S1x128x128.size (k0_off2_inb i k k0_h2 s)).shape.Idx → Elt F .f32, (trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 k).2.1 g9 g11 = rows16.map (fun s => (⟨Rect.unit (s := S32x128x128) (k0_off2 k (BitVec.ofNat 32 s.val)) S1x128x128.size (k0_off2_inb i k k0_h2 s), w s⟩ : View.Piece (Elt F) S32x128x128 _))
      ∧ ∀ s x, w s x = loop1Acc arg6 arg8 arg9 arg11 v0 v15 v16 v17 X_arg6 X_arg8 f9 f11 ((Rect.unit (s := S32x128x128) (k0_off2 k (BitVec.ofNat 32 s.val)) S1x128x128.size (k0_off2_inb i k k0_h2 s)).emb x) := by
  refine ⟨_, trip1_acc 𝒱 c bd i arg3 harg3 arg4 harg4 arg5 harg5 arg6 harg6 arg7 harg7 arg8 harg8 arg9 harg9 arg10 harg10 arg11 harg11 v0 k0_h2 v15 v16 v17 X_arg6 X_arg8 k g9 g11, fun s x => ?_⟩
  have hk : k.val < 2 := Nat.lt_of_lt_of_le k.isLt k0_t1_abs.2.1
  obtain ⟨r, hr⟩ : ∃ r : Fin 32, r.val = 16 * k.val + s.val := ⟨⟨16 * k.val + s.val, by omega⟩, rfl⟩
  obtain ⟨h0, hl⟩ := emb_row128 (k0_off2_inb i k k0_h2 s) r (by rw [off2_eq, hr]) x
  have hm : row1 (arg9.view.read (Elt F) g9) r = row1 (arg9.view.read (Elt F) f9) r := funext fun y => hg _ (by show 16 * k.val ≤ r.val; omega) (by show r.val < 16 * k.val + 16; omega)
  have ha : row128 (arg11.view.read (Elt F) g11) r = row128 (arg11.view.read (Elt F) f11) r := funext fun y => hg' _ (by show 16 * k.val ≤ r.val; omega) (by show r.val < 16 * k.val + 16; omega)
  rw [loop1Acc, h0, hl, readAt_row128 arg8.view X_arg8 _ r (by rw [off2_eq, hr]), View.readAt_full arg6.view X_arg6,
    readAt_row1 arg9.view g9 _ r (by rw [off1_eq, hr]), hm, readAt_row128 arg11.view g11 _ r (by rw [off2_eq, hr]), ha, strict_word k s r hr]

end Loop1

end Cert.KernelIdeal.Gen

end
-- ==== Proof.Loop1.lean ====
module
public import proofs.«01_k».proof.Proof.Agree1
public import Idealize.ShloMosaic.Lib.VecWindow
public import Idealize.ShloMosaic.Lib.WritesUnit
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

section Loop1
variable (𝒱 : Variants) (c : Dev nD) (bd : Option 𝒱.V) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (v0 : BitVec 32) (k0_h2 : k0_cond2 i = 1#1) (v15 : Vec F S256x128 .f32) (v16 : Vec F S256x128 .f32) (v17 : BitVec 32) (X_arg6 : BufTy.Contents (Elt F) arg6.view.ty) (X_arg8 : BufTy.Contents (Elt F) arg8.view.ty)
    (f9 : BufTy.Contents (Elt F) arg9.view.ty) (f11 : BufTy.Contents (Elt F) arg11.view.ty)

/-- What a whole diagonal block's loop leaves in the carried rows and in the accumulated tiles. -/
theorem loop1_read :
    arg9.view.read (Elt F) (arg9.view.writes (Elt F) f9 (pb_k0_t1 (F := F) 𝒱 c bd i arg3 harg3 arg4 harg4 arg5 harg5 arg6 harg6 arg7 harg7 arg8 harg8 arg9 harg9 arg10 harg10 arg11 harg11 v0 k0_h2 v15 v16 v17 X_arg6 X_arg8 f9 f11 2).1) = loop1Carry arg6 arg8 arg9 v0 v15 v17 X_arg6 X_arg8 f9
    ∧ arg11.view.read (Elt F) (arg11.view.writes (Elt F) f11 (pb_k0_t1 (F := F) 𝒱 c bd i arg3 harg3 arg4 harg4 arg5 harg5 arg6 harg6 arg7 harg7 arg8 harg8 arg9 harg9 arg10 harg10 arg11 harg11 v0 k0_h2 v15 v16 v17 X_arg6 X_arg8 f9 f11 2).2) = loop1Acc arg6 arg8 arg9 arg11 v0 v15 v16 v17 X_arg6 X_arg8 f9 f11 := by
  have ht : k0_t1_loop.trips = 2 := by decide +kernel
  have e1 := pb_k0_t1_succ (F := F) 𝒱 c bd i arg3 harg3 arg4 harg4 arg5 harg5 arg6 harg6 arg7 harg7 arg8 harg8 arg9 harg9 arg10 harg10 arg11 harg11 v0 k0_h2 v15 v16 v17 X_arg6 X_arg8 f9 f11 (⟨0, by omega⟩ : Fin k0_t1_loop.trips)
  have e2 := pb_k0_t1_succ (F := F) 𝒱 c bd i arg3 harg3 arg4 harg4 arg5 harg5 arg6 harg6 arg7 harg7 arg8 harg8 arg9 harg9 arg10 harg10 arg11 harg11 v0 k0_h2 v15 v16 v17 X_arg6 X_arg8 f9 f11 (⟨1, by omega⟩ : Fin k0_t1_loop.trips)
  simp only [Nat.zero_add, Nat.reduceAdd, pb_k0_t1.eq_1, View.writes_nil, List.append_nil] at e1 e2
  rw [e1] at e2
  obtain ⟨w0, p0, q0⟩ := trip1_carry_agree 𝒱 c bd i arg3 harg3 arg4 harg4 arg5 harg5 arg6 harg6 arg7 harg7 arg8 harg8 arg9 harg9 arg10 harg10 arg11 harg11 v0 k0_h2 v15 v16 v17 X_arg6 X_arg8 f9 (⟨0, by omega⟩ : Fin k0_t1_loop.trips) f9 f11 (fun _ _ _ => rfl)
  obtain ⟨u0, r0, t0⟩ := trip1_acc_agree 𝒱 c bd i arg3 harg3 arg4 harg4 arg5 harg5 arg6 harg6 arg7 harg7 arg8 harg8 arg9 harg9 arg10 harg10 arg11 harg11 v0 k0_h2 v15 v16 v17 X_arg6 X_arg8 f9 f11 (⟨0, by omega⟩ : Fin k0_t1_loop.trips) f9 f11 (fun _ _ _ => rfl) (fun _ _ _ => rfl)
  have hz9 : ∀ (k : Fin k0_t1_loop.trips) (s : Fin 16), k0_off1 k (BitVec.ofNat 32 s.val) 0 = 16 * k.val + s.val := fun k s => by rw [off1_eq]; rfl
  have hz11 : ∀ (k : Fin k0_t1_loop.trips) (s : Fin 16), k0_off2 k (BitVec.ofNat 32 s.val) 0 = 16 * k.val + s.val := fun k s => by rw [off2_eq]; rfl
  have ho9 : ∀ (k : Fin k0_t1_loop.trips) (s : Fin 16) (b : Fin 3), b ≠ 0 → k0_off1 k (BitVec.ofNat 32 s.val) b = 0 ∧ S1x1x128.size b = S32x1x128.size b := fun k s b hb => by
    rw [off1_eq]
    match b with
    | ⟨0, _⟩ => exact absurd rfl hb
    | ⟨1, _⟩ => exact ⟨rfl, rfl⟩
    | ⟨2, _⟩ => exact ⟨rfl, rfl⟩
  have ho11 : ∀ (k : Fin k0_t1_loop.trips) (s : Fin 16) (b : Fin 3), b ≠ 0 → k0_off2 k (BitVec.ofNat 32 s.val) b = 0 ∧ S1x128x128.size b = S32x128x128.size b := fun k s b hb => by
    rw [off2_eq]
    match b with
    | ⟨0, _⟩ => exact absurd rfl hb
    | ⟨1, _⟩ => exact ⟨rfl, rfl⟩
    | ⟨2, _⟩ => exact ⟨rfl, rfl⟩
  have m9 := fun (y : S32x1x128.Idx) => rows_miss (F := F) (0 : Fin S32x1x128.rank) arg9.view f9 0 _ w0 (hz9 _) rfl y
  have m11 := fun (y : S32x128x128.Idx) => rows_miss (F := F) (0 : Fin S32x128x128.rank) arg11.view f11 0 _ u0 (hz11 _) rfl y
  have h9 := fun (y : S32x1x128.Idx) => rows_hit (F := F) (0 : Fin S32x1x128.rank) arg9.view f9 0 _ w0 (hz9 _) rfl (ho9 _) _ q0 y
  have h11 := fun (y : S32x128x128.Idx) => rows_hit (F := F) (0 : Fin S32x128x128.rank) arg11.view f11 0 _ u0 (hz11 _) rfl (ho11 _) _ t0 y
  rw [← p0] at m9 h9
  rw [← r0] at m11 h11
  rw [e2]
  simp only [View.writes_append]
  generalize arg9.view.writes (Elt F) f9 ((trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 (⟨0, by omega⟩ : Fin k0_t1_loop.trips)).1 f9 f11) = g9 at *
  generalize arg11.view.writes (Elt F) f11 ((trip_k0_t1 (F := F) 𝒱 c bd i arg3 harg3 arg4 harg4 arg5 harg5 arg6 harg6 arg7 harg7 arg8 harg8 arg9 harg9 arg10 harg10 arg11 harg11 v0 k0_h2 v15 v16 v17 X_arg6 X_arg8 (⟨0, by omega⟩ : Fin k0_t1_loop.trips)).2.1 f9 f11) = g11 at *
  have P1 := trip1_carry_agree 𝒱 c bd i arg3 harg3 arg4 harg4 arg5 harg5 arg6 harg6 arg7 harg7 arg8 harg8 arg9 harg9 arg10 harg10 arg11 harg11 v0 k0_h2 v15 v16 v17 X_arg6 X_arg8 f9 (⟨1, by omega⟩ : Fin k0_t1_loop.trips) g9 g11
    (fun y h _ => m9 y (Or.inr (by simpa using h)))
  have R1 := trip1_acc_agree 𝒱 c bd i arg3 harg3 arg4 harg4 arg5 harg5 arg6 harg6 arg7 harg7 arg8 harg8 arg9 harg9 arg10 harg10 arg11 harg11 v0 k0_h2 v15 v16 v17 X_arg6 X_arg8 f9 f11 (⟨1, by omega⟩ : Fin k0_t1_loop.trips) g9 g11
    (fun y h _ => m9 y (Or.inr (by simpa using h))) (fun y h _ => m11 y (Or.inr (by simpa using h)))
  obtain ⟨w1, p1, q1⟩ := P1
  obtain ⟨u1, r1, t1⟩ := R1
  rw [p1, r1]
  refine ⟨funext fun y => ?_, funext fun y => ?_⟩
  · have hy : (y 0).val < 32 := (y 0).isLt
    by_cases h : (y 0).val < 16
    · exact (rows_miss (F := F) (0 : Fin S32x1x128.rank) arg9.view g9 1 _ w1 (hz9 _) rfl y (Or.inl (by simpa using h))).trans
        (h9 y (Nat.zero_le _) (by simpa using h))
    · exact rows_hit (F := F) (0 : Fin S32x1x128.rank) arg9.view g9 1 _ w1 (hz9 _) rfl (ho9 _) _ q1 y (by show 16 * 1 ≤ (y 0).val; omega) (by show (y 0).val < 16 * 1 + 16; omega)
  · have hy : (y 0).val < 32 := (y 0).isLt
    by_cases h : (y 0).val < 16
    · exact (rows_miss (F := F) (0 : Fin S32x128x128.rank) arg11.view g11 1 _ u1 (hz11 _) rfl y (Or.inl (by simpa using h))).trans
        (h11 y (Nat.zero_le _) (by simpa using h))
    · exact rows_hit (F := F) (0 : Fin S32x128x128.rank) arg11.view g11 1 _ u1 (hz11 _) rfl (ho11 _) _ t1 y (by show 16 * 1 ≤ (y 0).val; omega) (by show (y 0).val < 16 * 1 + 16; omega)

end Loop1

end Cert.KernelIdeal.Gen

end
-- ==== Proof.CaseA.lean ====
module
public import proofs.«01_k».proof.Proof.Loop1
public import proofs.«01_k».proof.Proof.Queries
public import proofs.«01_k».proof.Proof.Gen.KernelIdeal.Frame
public import Idealize.ShloMosaic.Lib.Pipeline.Value
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI
variable {F : FTy → Type} [FloatOps F] [Named F]

/-- The first step of a block of queries: the query tiles. -/
theorem sout0_A_0_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : cond0_0 i) (hc1 : cond0_1 i) (hc2 : ¬cond0_2 i) (hc3 : ¬cond0_3 i) (x0 : Vec F S256x2048 .f32) (x1 : Vec F S256x128 .f32) (x2 : Vec F S256x128 .f32) (x3 : Vec F S128x128 .bf16) : sout0_A_0 (F := F) c i arg3 harg3 arg4 harg4 arg5 harg5 arg6 harg6 arg7 harg7 arg8 harg8 arg9 harg9 arg10 harg10 arg11 harg11 hc0 hc1 hc2 hc3 x0 x1 x2 x3 = qTiles x0 := by
  unfold sout0_A_0 kernelRun0_A
  dsimp only
  sl_unfold_words
  refine (q_read VS0_0 VS0_0.junk arg3.view (harg3.unread x0)).trans ?_
  rw [harg3.read_unread]

/-- The first step of a block of queries: the carried rows. -/
theorem sout0_A_1_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : cond0_0 i) (hc1 : cond0_1 i) (hc2 : ¬cond0_2 i) (hc3 : ¬cond0_3 i) (x0 : Vec F S256x2048 .f32) (x1 : Vec F S256x128 .f32) (x2 : Vec F S256x128 .f32) (x3 : Vec F S128x128 .bf16) : sout0_A_1 (F := F) c i arg3 harg3 arg4 harg4 arg5 harg5 arg6 harg6 arg7 harg7 arg8 harg8 arg9 harg9 arg10 harg10 arg11 harg11 hc0 hc1 hc2 hc3 x0 x1 x2 x3 = firstCarry (Scalar.muli (BitVec.ofNat 32 (i 1).val) 256#32) x1 (qTiles x0) x3 := by
  unfold sout0_A_1 kernelRun0_A
  dsimp only
  have cov := scover0_A_1 (F := F) c i arg3 harg3 arg4 harg4 arg5 harg5 arg6 harg6 arg7 harg7 arg8 harg8 arg9 harg9 arg10 harg10 arg11 harg11 hc0 hc1 hc2 hc3 x0 x1 x2 x3
  unfold kernelRun0_A at cov
  dsimp only at cov
  have ht : Scf.trips (0#32) (Scalar.addi 0#32 2#32) 1#32 = 2 := by decide +kernel
  have h4 : View.readAt (Elt F) arg4.view (Rect.unit ![0, 0] ![256, 128] inb_S256x128_S256x128_0_0).toLoadRect (harg4.unread x1) = x1 :=
    (View.readAt_full arg4.view (harg4.unread x1) _).trans (harg4.read_unread x1)
  have h5 : View.readAt (Elt F) arg5.view (Rect.unit ![0, 0] ![256, 128] inb_S256x128_S256x128_0_0).toLoadRect (harg5.unread x2) = x2 :=
    (View.readAt_full arg5.view (harg5.unread x2) _).trans (harg5.read_unread x2)
  rw [View.read_writes_eq_canon _ _ _ cov]
  rw [← View.read_writes_eq_canon arg9.view arg9.view.junk _ cov]
  sl_unfold_words
  rw [ht, View.writes_append]
  refine (loop1_read Variants.none c none i arg3 harg3 arg4 harg4 arg5 harg5 arg6 harg6 arg7 harg7 arg8 harg8 arg9 harg9 arg10 harg10 arg11 harg11 (Scalar.muli (BitVec.ofNat 32 (i 1).val) 256#32) hc1 _ _ (Scalar.muli (BitVec.ofNat 32 (i 1).val) 256#32) _ _ _ _).1.trans ?_
  unfold loop1Carry
  rw [h4, harg6.read_unread, read_whole_first arg9.view arg9.view.junk]
  rw [show k0_pay1 (k0_pay63 (F := F)) = broadcast S32x1x128 (Scalar.ofBits .f32 0x00000000#32 : F .f32) from shapeCast_self _ _]
  exact congrArg (fun Q : Vec F S32x128x128 .bf16 => firstCarry (Scalar.muli (BitVec.ofNat 32 (i 1).val) 256#32) x1 Q x3)
    ((q_read arg8.view arg8.view.junk arg3.view (harg3.unread x0)).trans (congrArg qTiles (harg3.read_unread x0)))

/-- The first step of a block of queries: the accumulated tiles. -/
theorem sout0_A_3_eq (c : Dev nD) (i : grid0.Coords) (arg3 : Memref sig .tc .vmem S256x2048 .f32) (harg3 : arg3.IsWhole) (arg4 : Memref sig .tc .vmem S256x128 .f32) (harg4 : arg4.IsWhole) (arg5 : Memref sig .tc .vmem S256x128 .f32) (harg5 : arg5.IsWhole) (arg6 : Memref sig .tc .vmem S128x128 .bf16) (harg6 : arg6.IsWhole) (arg7 : Memref sig .tc .vmem S256x2048 .bf16) (harg7 : arg7.IsWhole) (arg8 : Memref sig .tc .vmem S32x128x128 .bf16) (harg8 : arg8.IsWhole) (arg9 : Memref sig .tc .vmem S32x1x128 .f32) (harg9 : arg9.IsWhole) (arg10 : Memref sig .tc .vmem S32x1x128 .f32) (harg10 : arg10.IsWhole) (arg11 : Memref sig .tc .vmem S32x128x128 .f32) (harg11 : arg11.IsWhole) (hc0 : cond0_0 i) (hc1 : cond0_1 i) (hc2 : ¬cond0_2 i) (hc3 : ¬cond0_3 i) (x0 : Vec F S256x2048 .f32) (x1 : Vec F S256x128 .f32) (x2 : Vec F S256x128 .f32) (x3 : Vec F S128x128 .bf16) : sout0_A_3 (F := F) c i arg3 harg3 arg4 harg4 arg5 harg5 arg6 harg6 arg7 harg7 arg8 harg8 arg9 harg9 arg10 harg10 arg11 harg11 hc0 hc1 hc2 hc3 x0 x1 x2 x3 = firstAcc (Scalar.muli (BitVec.ofNat 32 (i 1).val) 256#32) x1 x2 (qTiles x0) x3 := by
  unfold sout0_A_3 kernelRun0_A
  dsimp only
  have cov := scover0_A_3 (F := F) c i arg3 harg3 arg4 harg4 arg5 harg5 arg6 harg6 arg7 harg7 arg8 harg8 arg9 harg9 arg10 harg10 arg11 harg11 hc0 hc1 hc2 hc3 x0 x1 x2 x3
  unfold kernelRun0_A at cov
  dsimp only at cov
  have ht : Scf.trips (0#32) (Scalar.addi 0#32 2#32) 1#32 = 2 := by decide +kernel
  have h4 : View.readAt (Elt F) arg4.view (Rect.unit ![0, 0] ![256, 128] inb_S256x128_S256x128_0_0).toLoadRect (harg4.unread x1) = x1 :=
    (View.readAt_full arg4.view (harg4.unread x1) _).trans (harg4.read_unread x1)
  have h5 : View.readAt (Elt F) arg5.view (Rect.unit ![0, 0] ![256, 128] inb_S256x128_S256x128_0_0).toLoadRect (harg5.unread x2) = x2 :=
    (View.readAt_full arg5.view (harg5.unread x2) _).trans (harg5.read_unread x2)
  rw [View.read_writes_eq_canon _ _ _ cov]
  rw [← View.read_writes_eq_canon arg11.view arg11.view.junk _ cov]
  sl_unfold_words
  rw [ht, View.writes_append]
  refine (loop1_read Variants.none c none i arg3 harg3 arg4 harg4 arg5 harg5 arg6 harg6 arg7 harg7 arg8 harg8 arg9 harg9 arg10 harg10 arg11 harg11 (Scalar.muli (BitVec.ofNat 32 (i 1).val) 256#32) hc1 _ _ (Scalar.muli (BitVec.ofNat 32 (i 1).val) 256#32) _ _ _ _).2.trans ?_
  unfold loop1Acc
  rw [h4, h5, harg6.read_unread, read_whole_first arg9.view arg9.view.junk, read_whole_first arg11.view arg11.view.junk]
  rw [show k0_pay1 (k0_pay63 (F := F)) = broadcast S32x1x128 (Scalar.ofBits .f32 0x00000000#32 : F .f32) from shapeCast_self _ _,
    show k0_pay2 (F := F) = broadcast S32x128x128 (Scalar.ofBits .f32 0x00000000#32 : F .f32) from shapeCast_self _ _]
  exact congrArg (fun Q : Vec F S32x128x128 .bf16 => firstAcc (Scalar.muli (BitVec.ofNat 32 (i 1).val) 256#32) x1 x2 Q x3)
    ((q_read arg8.view arg8.view.junk arg3.view (harg3.unread x0)).trans (congrArg qTiles (harg3.read_unread x0)))

end Cert.KernelIdeal.Gen

end
-- ==== Proof.Points.lean ====
/- The grid: what the scratch arrays hold after each point, and the block each sweep over the keys writes out. -/
module
public import proofs.«01_k».proof.Proof.Inv
public import proofs.«01_k».proof.Proof.Blocks
public import proofs.«01_k».proof.Proof.Cases
public import proofs.«01_k».proof.Proof.CaseA
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI

open Cert.Soft

variable (m : (ℓ : Loc nD τ sig) → Buf (Elt Ideal) ℓ)

/-- A point takes a past block of keys when its third coordinate is positive and at most its second. -/
theorem past : ∀ t : Fin cfg0.N, cond0_2 (grid0.coords t) ↔ (0 < t.val % 8 ∧ t.val % 8 ≤ t.val % 64 / 8) :=
  (by decide +kernel : ∀ t : Fin grid0.N, _)

/-- The invariant after point `t`. -/
def InvAt (c : Dev nD) (t : Fin cfg0.N) (s : ℕ) (p : Vec Ideal S256x2048 .bf16 × Vec Ideal S32x128x128 .bf16 × Vec Ideal S32x1x128 .f32 × Vec Ideal S32x128x128 .f32) : Prop :=
  ∀ b : Fin 4, b.val = t.val / 64 → Inv (m (c.tc.loc main_arg0)) b (t.val % 64 / 8) s p.2.1 p.2.2.1 p.2.2.2

/-- The first point of a sweep. -/
theorem at_first (c : Dev nD) (hx : IsReal (m (c.tc.loc main_arg0))) (t : Fin cfg0.N) (h0 : t.val % 8 = 0) :
    InvAt m c t (256 * (t.val % 64 / 8 - t.val % 8)) (outsAt0 m c t.val t.isLt) := by
  intro b hb
  have h2 : ¬cond0_2 (grid0.coords t) := fun h => by have := (past t).1 h; omega
  have e := outsAt0_A m c t h0 h0 (fun h => h2 ((hcond0_2 t).mpr h)) (by omega)
  have e1 : (outsAt0 m c t.val t.isLt).2.1 = qTiles (F := Ideal) (X0_0 m c t) := (congrArg (fun p => p.2.1) e).trans (by dsimp only; exact sout0_A_0_eq ..)
  have e2 : (outsAt0 m c t.val t.isLt).2.2.1 = firstCarry (F := Ideal) (Scalar.muli (BitVec.ofNat 32 ((grid0.coords t) 1).val) 256#32) (iblk m c 1 t) (qTiles (F := Ideal) (X0_0 m c t)) (iblk m c 3 t) :=
    (congrArg (fun p => p.2.2.1) e).trans (by dsimp only; exact sout0_A_1_eq ..)
  have e3 : (outsAt0 m c t.val t.isLt).2.2.2 = firstAcc (F := Ideal) (Scalar.muli (BitVec.ofNat 32 ((grid0.coords t) 1).val) 256#32) (iblk m c 1 t) (iblk m c 2 t) (qTiles (F := Ideal) (X0_0 m c t)) (iblk m c 3 t) :=
    (congrArg (fun p => p.2.2.2) e).trans (by dsimp only; exact sout0_A_3_eq ..)
  rw [e1, e2, e3, first_pos t]
  exact inv_first (m (c.tc.loc main_arg0)) hx b (t.val % 64 / 8) (by omega) _ (iblk m c 1 t) (iblk m c 2 t) (keys m c t b hb) (vals m c t b hb) (iblk m c 3 t) (triangle m c t)
    (X0_0 m c t) (by omega) (queries m c t b hb)

/-- A point that takes no keys leaves the scratch arrays as they were. -/
theorem idle_kept (c : Dev nD) (t : Fin cfg0.N) (h0 : ¬t.val % 8 = 0) (h2 : ¬cond0_2 (grid0.coords t)) (h3 : ¬t.val % 8 = 7) :
    (outsAt0 m c t.val t.isLt).2 = (outsAt0 m c (t.val - 1) (Nat.lt_of_le_of_lt (Nat.sub_le _ _) t.isLt)).2 :=
  congrArg (fun p => p.2) (outsAt0_B m c t h0 h0 (fun h => h2 ((hcond0_2 t).mpr h)) h3)

/-- The step of a past block at point `t`. -/
theorem at_past (c : Dev nD) (hx : IsReal (m (c.tc.loc main_arg0))) (t : Fin cfg0.N) (h2 : cond0_2 (grid0.coords t))
    (p : Vec Ideal S256x2048 .bf16 × Vec Ideal S32x128x128 .bf16 × Vec Ideal S32x1x128 .f32 × Vec Ideal S32x128x128 .f32)
    (hp : InvAt m c t (256 * (t.val % 64 / 8 - (t.val - 1) % 8)) p) (b : Fin 4) (hb : b.val = t.val / 64) :
    Inv (m (c.tc.loc main_arg0)) b (t.val % 64 / 8) (256 * (t.val % 64 / 8 - t.val % 8)) p.2.1
      (stepCarry (F := Ideal) (iblk m c 1 t) p.2.1 (iblk m c 3 t) p.2.2.1)
      (stepAcc (F := Ideal) (iblk m c 1 t) (iblk m c 2 t) p.2.1 (iblk m c 3 t) p.2.2.1 p.2.2.2) := by
  have hp2 := (past t).1 h2
  refine inv_step (m (c.tc.loc main_arg0)) hx b (t.val % 64 / 8) (by omega) _ (iblk m c 1 t) (iblk m c 2 t) (keys m c t b hb) (vals m c t b hb) (iblk m c 3 t) (triangle m c t)
    p.2.1 p.2.2.1 p.2.2.2 (by omega) ?_
  rw [show 256 * (t.val % 64 / 8 - t.val % 8) + 256 = 256 * (t.val % 64 / 8 - (t.val - 1) % 8) from by omega]
  exact hp b hb

/-- The invariant after every point but a sweep's last. -/
theorem at_point (c : Dev nD) (hx : IsReal (m (c.tc.loc main_arg0))) : ∀ (n : ℕ) (hn : n < cfg0.N), n % 8 < 7 →
    InvAt m c ⟨n, hn⟩ (256 * (n % 64 / 8 - n % 8)) (outsAt0 m c n hn) := by
  intro n
  induction n with
  | zero => exact fun hn _ => at_first m c hx ⟨0, hn⟩ rfl
  | succ n ih =>
    intro hn h7
    by_cases h0 : (n + 1) % 8 = 0
    · exact at_first m c hx ⟨n + 1, hn⟩ h0
    have hi : InvAt m c ⟨n + 1, hn⟩ (256 * ((n + 1) % 64 / 8 - n % 8)) (outsAt0 m c n (by omega)) := by
      intro b hb
      have := ih (by omega) (by omega) b (by dsimp only at hb ⊢; omega)
      dsimp only at this ⊢
      rw [show (n + 1) % 64 / 8 = n % 64 / 8 from by omega]
      exact this
    by_cases h2 : cond0_2 (grid0.coords ⟨n + 1, hn⟩)
    · intro b hb
      have e := outsAt0_D m c ⟨n + 1, hn⟩ h0 h0 ((hcond0_2 _).mp h2) (by dsimp only; omega)
      have e1 : (outsAt0 m c (n + 1) hn).2.1 = (outsAt0 m c n (by omega)).2.1 := (congrArg (fun p => p.2.1) e).trans rfl
      have e2 : (outsAt0 m c (n + 1) hn).2.2.1 = stepCarry (F := Ideal) (iblk m c 1 ⟨n + 1, hn⟩) (outsAt0 m c n (by omega)).2.1 (iblk m c 3 ⟨n + 1, hn⟩) (outsAt0 m c n (by omega)).2.2.1 :=
        (congrArg (fun p => p.2.2.1) e).trans (by dsimp only; exact sout0_D_1_eq ..)
      have e3 : (outsAt0 m c (n + 1) hn).2.2.2 = stepAcc (F := Ideal) (iblk m c 1 ⟨n + 1, hn⟩) (iblk m c 2 ⟨n + 1, hn⟩) (outsAt0 m c n (by omega)).2.1 (iblk m c 3 ⟨n + 1, hn⟩) (outsAt0 m c n (by omega)).2.2.1 (outsAt0 m c n (by omega)).2.2.2 :=
        (congrArg (fun p => p.2.2.2) e).trans (by dsimp only; exact sout0_D_3_eq ..)
      rw [e1, e2, e3]
      exact at_past m c hx ⟨n + 1, hn⟩ h2 _ hi b hb
    · intro b hb
      have e : (outsAt0 m c (n + 1) hn).2 = (outsAt0 m c n (by omega)).2 := idle_kept m c ⟨n + 1, hn⟩ h0 h2 (by dsimp only; omega)
      rw [e]
      have hq : ¬(0 < (n + 1) % 8 ∧ (n + 1) % 8 ≤ (n + 1) % 64 / 8) := fun h => h2 ((past ⟨n + 1, hn⟩).2 h)
      have := hi b hb
      rw [show 256 * ((n + 1) % 64 / 8 - n % 8) = 256 * ((n + 1) % 64 / 8 - (n + 1) % 8) from by omega] at this
      exact this

/-- The block a sweep's last point writes out. -/
theorem at_last (c : Dev nD) (hx : IsReal (m (c.tc.loc main_arg0))) (n : ℕ) (hn : n < cfg0.N) (h7 : n % 8 = 7) (b : Fin 4) (hb : b.val = n / 64)
    (y : S256x2048.Idx) (hd : Fin 16) (d : Fin 128) (hy : (y 1).val = hd.val * 128 + d.val) :
    (outsAt0 m c n hn).1 y = attn (m (c.tc.loc main_arg0)) b hd (256 * (n % 64 / 8) + (y 0).val) d := by
  obtain ⟨k, rfl⟩ : ∃ k, n = k + 1 := ⟨n - 1, by omega⟩
  have h0 : ¬(k + 1) % 8 = 0 := by omega
  have hi : InvAt m c ⟨k + 1, hn⟩ (256 * ((k + 1) % 64 / 8 - k % 8)) (outsAt0 m c k (by omega)) := by
    intro b hb
    have := at_point m c hx k (by omega) (by omega) b (by dsimp only at hb ⊢; omega)
    dsimp only at this ⊢
    rw [show (k + 1) % 64 / 8 = k % 64 / 8 from by omega]
    exact this
  by_cases h2 : cond0_2 (grid0.coords ⟨k + 1, hn⟩)
  · have e : (outsAt0 m c (k + 1) hn).1 = outOf (F := Ideal) (stepAcc (F := Ideal) (iblk m c 1 ⟨k + 1, hn⟩) (iblk m c 2 ⟨k + 1, hn⟩) (outsAt0 m c k (by omega)).2.1 (iblk m c 3 ⟨k + 1, hn⟩) (outsAt0 m c k (by omega)).2.2.1 (outsAt0 m c k (by omega)).2.2.2) :=
      (congrArg (fun p => p.1) (outsAt0_E m c ⟨k + 1, hn⟩ h0 h0 ((hcond0_2 _).mp h2) h7)).trans (by dsimp only; exact out0_E_4_eq ..)
    have hs := at_past m c hx ⟨k + 1, hn⟩ h2 _ hi b hb
    rw [show 256 * ((⟨k + 1, hn⟩ : Fin cfg0.N).val % 64 / 8 - (⟨k + 1, hn⟩ : Fin cfg0.N).val % 8) = 0 from by dsimp only; omega] at hs
    rw [e]
    exact out_attn _ b _ _ _ _ hs y hd d hy
  · have e : (outsAt0 m c (k + 1) hn).1 = outOf (F := Ideal) (outsAt0 m c k (by omega)).2.2.2 :=
      (congrArg (fun p => p.1) (outsAt0_C m c ⟨k + 1, hn⟩ h0 h0 (fun h => h2 ((hcond0_2 _).mpr h)) h7)).trans (by dsimp only; exact out0_C_4_eq ..)
    have hq : ¬(0 < (k + 1) % 8 ∧ (k + 1) % 8 ≤ (k + 1) % 64 / 8) := fun h => h2 ((past ⟨k + 1, hn⟩).2 h)
    have hs := hi b hb
    rw [show 256 * ((k + 1) % 64 / 8 - k % 8) = 0 from by omega] at hs
    rw [e]
    exact out_attn _ b _ _ _ _ hs y hd d hy

end Cert.KernelIdeal.Gen

end
-- ==== Proof.Ref.lean ====
/- The reference's value, entry by entry: at a query's position the stick-breaking weights of the keys before it
   times their values. -/
module

public import proofs.«01_k».proof.Defs
public import proofs.«01_k».proof.Proof.Soft
public import proofs.«01_k».proof.Proof.Gen.ReferenceIdeal.Run
public import Idealize.ShloMosaic.Lib.Pointwise
public import Idealize.ShloMosaic.Lib.ValueIdx

@[expose] public section

set_option maxRecDepth 8192

noncomputable section

open Idealize.ShloMosaic Idealize.ShloMosaic.TcCoe Idealize.SL.Sem

namespace Cert.ReferenceIdeal.Stick

open Cert.ReferenceIdeal Cert.ReferenceIdeal.Gen Cert.Soft

/-- The reference's logits. -/
def zArr (x : FVec Ideal S8192x4608 .f32) : FVec Ideal S4x16x2048x2048 .f32 :=
  mulf (transpose S4x16x2048x2048 [0, 3, 2, 1] (Host.dotGeneral dot_S4x2048x128_S4x2048x16x128_S4x2048x2048x16_2_3_1_12_0_0 none (extractStridedSlice S4x2048x128 ![0, 0, 4352] (shapeCast _ x shapeCasts_S8192x4608_S4x2048x4608) slices_S4x2048x4608_S4x2048x128_0_0_4352) (shapeCast _ (extractStridedSlice S4x2048x2048 ![0, 0, 2048] (shapeCast _ x shapeCasts_S8192x4608_S4x2048x4608) slices_S4x2048x4608_S4x2048x2048_0_0_2048) shapeCasts_S4x2048x2048_S4x2048x16x128)) transposes_S4x2048x2048x16_S4x16x2048x2048_0_3_2_1) (broadcastInDim S4x16x2048x2048 ![] bcast_S_S4x16x2048x2048 (Host.rsqrt (constant S_ .f32 0x43000000#32)))

/-- The reference's logarithm of the sigmoid. -/
def lsArr (y : FVec Ideal S4x16x2048x2048 .f32) : FVec Ideal S4x16x2048x2048 .f32 :=
  Host.negf (select (cmpf .une (subf (Host.negf y) (broadcastInDim S4x16x2048x2048 ![] bcast_S_S4x16x2048x2048 (constant S_ .f32 0x00000000#32))) (subf (Host.negf y) (broadcastInDim S4x16x2048x2048 ![] bcast_S_S4x16x2048x2048 (constant S_ .f32 0x00000000#32)))) (addf (Host.negf y) (broadcastInDim S4x16x2048x2048 ![] bcast_S_S4x16x2048x2048 (constant S_ .f32 0x00000000#32))) (addf (maximumf (Host.negf y) (broadcastInDim S4x16x2048x2048 ![] bcast_S_S4x16x2048x2048 (constant S_ .f32 0x00000000#32))) (Host.log1p (Host.exp (Host.negf (Host.absf (subf (Host.negf y) (broadcastInDim S4x16x2048x2048 ![] bcast_S_S4x16x2048x2048 (constant S_ .f32 0x00000000#32)))))))))

/-- Which keys lie strictly before which queries. -/
def strictArr : IVec S4x16x2048x2048 1 :=
  broadcastInDim S4x16x2048x2048 ![2, 3] bcast_S2048x2048_S4x16x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The logarithms of what the keys before a query leave. -/
def restArr (x : FVec Ideal S8192x4608 .f32) : FVec Ideal S4x16x2048x2048 .f32 :=
  select strictArr (lsArr (Host.negf (zArr x))) (broadcastInDim S4x16x2048x2048 ![] bcast_S_S4x16x2048x2048 (id (constant S_ .f32 0x00000000#32)))

/-- The sums from each key on. -/
def sumArr (y : FVec Ideal S4x16x2048x2048 .f32) : FVec Ideal S4x16x2048x2048 .f32 :=
  Host.reduceWindowAdd ![1, 1, 1, 2048] ![1, 1, 1, 1] ![0, 0, 0, 0] ![0, 0, 0, 2047] y (broadcastInDim S_ ![] bcast_S_S_ (constant S_ .f32 0x00000000#32)) reduceWindows_S4x16x2048x2048_S4x16x2048x2048_w1s1p0_0_w1s1p0_0_w1s1p0_0_w2048s1p0_2047 h_S_

/-- The attention weights. -/
def weightArr (x : FVec Ideal S8192x4608 .f32) : FVec Ideal S4x16x2048x2048 .f32 :=
  select strictArr (Host.exp (addf (lsArr (zArr x)) (subf (sumArr (restArr x)) (restArr x)))) (broadcastInDim S4x16x2048x2048 ![] bcast_S_S4x16x2048x2048 (id (constant S_ .f32 0x00000000#32)))

/-- The reference's result. -/
def outArr (x : FVec Ideal S8192x4608 .f32) : FVec Ideal S8192x2048 .bf16 :=
  truncf .bf16 (shapeCast _ (transpose S4x2048x16x128 [0, 3, 2, 1] (Host.dotGeneral dot_S4x2048x128_S4x16x2048x2048_S4x128x16x2048_1_3_2_12_0_0 none (extractStridedSlice S4x2048x128 ![0, 0, 4480] (shapeCast _ x shapeCasts_S8192x4608_S4x2048x4608) slices_S4x2048x4608_S4x2048x128_0_0_4480) (weightArr x)) transposes_S4x128x16x2048_S4x2048x16x128_0_3_2_1) shapeCasts_S4x2048x16x128_S8192x2048) bitsLt_bf16_f32

/-- The reference's composed term is that result. -/
theorem res_eq (m : (ℓ : Loc nD τ sig) → Buf (Elt Ideal) ℓ) (c : Dev nD) :
    Cert.ReferenceIdeal.Value.res_main_v29 m c = outArr (m ((c.tc : Thread nD τ).loc main_arg0)) := by
  rfl

/-- A logit of the reference, spelt out. -/
theorem z_ix (x : FVec Ideal S8192x4608 .f32) (b : Fin 4) (h : Fin 16) (t s : Fin 2048) :
    zArr x (ix4 b h t s) = ((∑ d : Fin 128, x (ix2 ⟨b.val * 2048 + s.val, by omega⟩ ⟨4352 + d.val, by omega⟩)
      * x (ix2 ⟨b.val * 2048 + t.val, by omega⟩ ⟨2048 + (h.val * 128 + d.val), by omega⟩)) * Ideal.rsqrt (Ideal.ofBits .f32 0x43000000#32) : EReal) := by
  pointwise [zArr]

/-- The logarithm of the sigmoid of a real. -/
theorem ls_ix (y : FVec Ideal S4x16x2048x2048 .f32) (i : S4x16x2048x2048.Idx) (r : ℝ) (hr : y i = (r : EReal)) : lsArr y i = ((ls r : ℝ) : EReal) := by
  pointwise [lsArr]
  rw [if_neg (by simp), hr, ← ls_softplus]
  have ea : FloatOps.absf (F := Ideal) (φ := .f32) (-(r : EReal)) = ((max (-r - 0) (-(-r - 0)) : ℝ) : EReal) := by
    show max (-(r : EReal)) (-(-(r : EReal))) = _
    rw [← EReal.coe_neg, ← EReal.coe_neg, ← EReal.coe_strictMono.monotone.map_max, sub_zero]
  have hp : 0 < Real.exp (-(max (-r - 0) (-(-r - 0)))) := Real.exp_pos _
  rw [ea, ← EReal.coe_neg, ← EReal.coe_neg, Ideal.exp_coe]
  unfold Ideal.log1p
  rw [← EReal.coe_one, ← EReal.coe_add, Ideal.log_coe, if_neg (by linarith), ← EReal.coe_zero, ← EReal.coe_strictMono.monotone.map_max, ← EReal.coe_add,
    ← EReal.coe_neg]

/-- The mask, entry by entry. -/
theorem strict_ix (b : Fin 4) (h : Fin 16) (t s : Fin 2048) : strictArr (ix4 b h t s) = BitVec.ofBool ((BitVec.ofNat 32 s.val).slt (BitVec.ofNat 32 t.val)) := by
  pointwise [strictArr]
  rfl

/-- A masked logarithm. -/
theorem rest_ix (x : FVec Ideal S8192x4608 .f32) (i : S4x16x2048x2048.Idx) :
    restArr x i = (if strictArr i = 1#1 then lsArr (Host.negf (zArr x)) i else 0 : EReal) := by
  pointwise [restArr, id_eq]
  rfl

/-- A weight, spelt out. -/
theorem weight_ix (x : FVec Ideal S8192x4608 .f32) (i : S4x16x2048x2048.Idx) :
    weightArr x i = (if strictArr i = 1#1 then Ideal.exp (lsArr (zArr x) i + (sumArr (restArr x) i - restArr x i)) else 0 : EReal) := by
  pointwise [weightArr, id_eq]
  rfl

/-- An entry of the result, spelt out. -/
theorem out_ix (x : FVec Ideal S8192x4608 .f32) (i : S8192x2048.Idx) (b : Fin 4) (h : Fin 16) (t : Fin 2048) (d : Fin 128)
    (h0 : (i 0).val = b.val * 2048 + t.val) (h1 : (i 1).val = h.val * 128 + d.val) :
    outArr x i = (∑ s : Fin 2048, x (ix2 ⟨b.val * 2048 + s.val, by omega⟩ ⟨4480 + d.val, by omega⟩) * weightArr x (ix4 b h t s) : EReal) := by
  pointwise [outArr]
  refine Finset.sum_congr rfl fun s _ => ?_
  have e1 : (⟨(i 0).val / 2048, by omega⟩ : Fin 4) = b := Fin.ext (by show (i 0).val / 2048 = b.val; omega)
  have e2 : (⟨(i 1).val / 128, by omega⟩ : Fin 16) = h := Fin.ext (by show (i 1).val / 128 = h.val; omega)
  have e3 : (⟨(i 0).val % 2048, by omega⟩ : Fin 2048) = t := Fin.ext (by show (i 0).val % 2048 = t.val; omega)
  have e4 : (⟨(i 0).val / 2048 * 2048 + s.val, by omega⟩ : Fin 8192) = ⟨b.val * 2048 + s.val, by omega⟩ :=
    Fin.ext (by show (i 0).val / 2048 * 2048 + s.val = b.val * 2048 + s.val; omega)
  have e5 : (⟨4480 + (i 1).val % 128, by omega⟩ : Fin 4608) = ⟨4480 + d.val, by omega⟩ :=
    Fin.ext (by show 4480 + (i 1).val % 128 = 4480 + d.val; omega)
  rw [e1, e2, e3, e4, e5]

/-- A left fold of sums is the sum. -/
theorem fold_sum (N : ℕ) (f : Fin N → EReal) (v : EReal) : (List.finRange N).foldl (fun r n => r + f n) v = v + ∑ n : Fin N, f n := by
  have h : ∀ (l : List (Fin N)) (v : EReal), l.foldl (fun r n => r + f n) v = v + (l.map f).sum := fun l => by
    induction l with
    | nil => intro v; simp
    | cons a l ih => intro v; rw [List.foldl_cons, ih, List.map_cons, List.sum_cons, add_assoc]
  rw [h, Fin.sum_univ_def]

/-- The sums start at zero. -/
theorem zero_first : (broadcastInDim S_ ![] bcast_S_S_ (constant (F := Ideal) S_ .f32 0x00000000#32) (Shape.Idx.first h_S_) : EReal) = 0 := by
  pointwise

/-- One position of a row's window: an entry of the row, or zero after its end. -/
theorem read_row (y : FVec Ideal S4x16x2048x2048 .f32) (b : Fin 4) (h : Fin 16) (t s : Fin 2048) (g : ℕ → ℝ)
    (hy : ∀ j : Fin 2048, y (ix4 b h t j) = ((g j.val : ℝ) : EReal)) (n : ℕ) (p : Fin 4 → ℕ)
    (dec : Decidable (∀ a : Fin 4, (![0, 0, 0, 0] : Fin 4 → ℕ) a ≤ p a ∧ p a - (![0, 0, 0, 0] : Fin 4 → ℕ) a < S4x16x2048x2048.size a))
    (p0 : p 0 = b.val) (p1 : p 1 = h.val) (p2 : p 2 = t.val) (p3 : p 3 = s.val + n) :
    (@dite EReal (∀ a : Fin 4, (![0, 0, 0, 0] : Fin 4 → ℕ) a ≤ p a ∧ p a - (![0, 0, 0, 0] : Fin 4 → ℕ) a < S4x16x2048x2048.size a) dec
      (fun hin => y fun a => ⟨p a - (![0, 0, 0, 0] : Fin 4 → ℕ) a, (hin a).2⟩) (fun _ => (0 : EReal)))
      = (fun j => if j < 2048 then ((g j : ℝ) : EReal) else 0) (s.val + n) := by
  have hs := s.isLt
  have ht := t.isLt
  have hb := b.isLt
  have hh := h.isLt
  by_cases hn : s.val + n < 2048
  · rw [dif_pos fun a => by
      match a with
      | ⟨0, _⟩ => show 0 ≤ p 0 ∧ p 0 - 0 < 4; omega
      | ⟨1, _⟩ => show 0 ≤ p 1 ∧ p 1 - 0 < 16; omega
      | ⟨2, _⟩ => show 0 ≤ p 2 ∧ p 2 - 0 < 2048; omega
      | ⟨3, _⟩ => show 0 ≤ p 3 ∧ p 3 - 0 < 2048; omega]
    refine Eq.trans (congrArg y (funext fun a => Fin.ext ?_)) ((hy ⟨s.val + n, hn⟩).trans (if_pos hn).symm)
    match a with
    | ⟨0, _⟩ => show p 0 - 0 = b.val; omega
    | ⟨1, _⟩ => show p 1 - 0 = h.val; omega
    | ⟨2, _⟩ => show p 2 - 0 = t.val; omega
    | ⟨3, _⟩ => show p 3 - 0 = s.val + n; omega
  · rw [dif_neg fun hin => hn (by
      have h3 := (hin 3).2
      change p 3 - 0 < 2048 at h3
      omega)]
    exact (if_neg hn).symm

/-- The sum from a key on, of a row of reals. -/
theorem sum_ix (y : FVec Ideal S4x16x2048x2048 .f32) (b : Fin 4) (h : Fin 16) (t s : Fin 2048) (g : ℕ → ℝ)
    (hy : ∀ j : Fin 2048, y (ix4 b h t j) = ((g j.val : ℝ) : EReal)) :
    sumArr y (ix4 b h t s) = ((∑ j ∈ Finset.Ico s.val 2048, g j : ℝ) : EReal) := by
  have hN : (⟨4, ![1, 1, 1, 2048]⟩ : Shape).numel = 2048 := by decide
  have key : ∀ n : Fin (⟨4, ![1, 1, 1, 2048]⟩ : Shape).numel, ∀ a : Fin 4, (((⟨4, ![1, 1, 1, 2048]⟩ : Shape).rowMajor.symm n) a).val = if a = 3 then n.val else 0 := fun n a => by
    have e := Shape.rowMajor_val_four ((⟨4, ![1, 1, 1, 2048]⟩ : Shape).rowMajor.symm n)
    rw [Equiv.apply_symm_apply] at e
    have b0 := (((⟨4, ![1, 1, 1, 2048]⟩ : Shape).rowMajor.symm n) 0).isLt
    have b1 := (((⟨4, ![1, 1, 1, 2048]⟩ : Shape).rowMajor.symm n) 1).isLt
    have b2 := (((⟨4, ![1, 1, 1, 2048]⟩ : Shape).rowMajor.symm n) 2).isLt
    change _ < 1 at b0; change _ < 1 at b1; change _ < 1 at b2
    have c0 : (((⟨4, ![1, 1, 1, 2048]⟩ : Shape).rowMajor.symm n) 0).val = 0 := by omega
    have c1 : (((⟨4, ![1, 1, 1, 2048]⟩ : Shape).rowMajor.symm n) 1).val = 0 := by omega
    have c2 : (((⟨4, ![1, 1, 1, 2048]⟩ : Shape).rowMajor.symm n) 2).val = 0 := by omega
    rw [c0, c1, c2] at e
    fin_cases a
    · exact c0
    · exact c1
    · exact c2
    · show _ = n.val
      rw [e]; simp
  have hs := s.isLt
  have ht := t.isLt
  have hb := b.isLt
  have hh := h.isLt
  unfold sumArr Host.reduceWindowAdd
  rw [Ideal.hostReduceWindowAdd_def]
  unfold Ideal.hostReduceWindowAdd Host.reduceWindow
  dsimp only
  rw [fold_sum, zero_first, zero_add]
  refine (Finset.sum_congr rfl fun n _ => read_row y b h t s g hy n.val _ _ ?_ ?_ ?_ ?_).trans ?_
  · show b.val * 1 + _ = b.val
    rw [key n 0, if_neg (by decide), Nat.mul_one, Nat.add_zero]
  · show h.val * 1 + _ = h.val
    rw [key n 1, if_neg (by decide), Nat.mul_one, Nat.add_zero]
  · show t.val * 1 + _ = t.val
    rw [key n 2, if_neg (by decide), Nat.mul_one, Nat.add_zero]
  · show s.val * 1 + _ = s.val + n.val
    rw [key n 3, if_pos rfl, Nat.mul_one]
  rw [block_sum _ s.val (fun j => if j < 2048 then ((g j : ℝ) : EReal) else 0), hN, coe_sum, ← Finset.sum_Ico_consecutive _ (by omega : s.val ≤ 2048) (by omega : 2048 ≤ s.val + 2048),
    Finset.sum_congr rfl fun j hj => if_pos (Finset.mem_Ico.1 hj).2, Finset.sum_eq_zero fun j hj => if_neg (by have := (Finset.mem_Ico.1 hj).1; omega), add_zero]

/-- Dividing by 128 is multiplying by its reciprocal. -/
theorem div_128 (x : EReal) : Ideal.div x (Ideal.ofBits .f32 0x43000000#32) = x * Ideal.ofBits .f32 0x3C000000#32 := by
  have h : Ideal.ofBits .f32 0x43000000#32 = ((128 : ℝ) : EReal) := by
    simp [Ideal.ofBits, Ideal.ieee, -EReal.coe_mul]
    norm_num
  have h' : Ideal.ofBits .f32 0x3C000000#32 = (((128 : ℝ)⁻¹ : ℝ) : EReal) := by
    simp [Ideal.ofBits, Ideal.ieee, -EReal.coe_mul]
    norm_num
  rw [h, h', EReal.coe_inv]
  unfold Ideal.div
  rw [if_neg (by norm_num)]

/-- Dividing by 64 is multiplying by its reciprocal. -/
theorem div_64 (x : EReal) : Ideal.div x (Ideal.ofBits .f32 0x42800000#32) = x * Ideal.ofBits .f32 0x3C800000#32 := by
  have h : Ideal.ofBits .f32 0x42800000#32 = ((64 : ℝ) : EReal) := by
    simp [Ideal.ofBits, Ideal.ieee, -EReal.coe_mul]
    norm_num
  have h' : Ideal.ofBits .f32 0x3C800000#32 = (((64 : ℝ)⁻¹ : ℝ) : EReal) := by
    simp [Ideal.ofBits, Ideal.ieee, -EReal.coe_mul]
    norm_num
  rw [h, h', EReal.coe_inv]
  unfold Ideal.div
  rw [if_neg (by norm_num)]

/-- Dividing by 256 is multiplying by its reciprocal. -/
theorem div_256 (x : EReal) : Ideal.div x (Ideal.ofBits .f32 0x43800000#32) = x * Ideal.ofBits .f32 0x3B800000#32 := by
  have h : Ideal.ofBits .f32 0x43800000#32 = ((256 : ℝ) : EReal) := by
    simp [Ideal.ofBits, Ideal.ieee, -EReal.coe_mul]
    norm_num
  have h' : Ideal.ofBits .f32 0x3B800000#32 = (((256 : ℝ)⁻¹ : ℝ) : EReal) := by
    simp [Ideal.ofBits, Ideal.ieee, -EReal.coe_mul]
    norm_num
  rw [h, h', EReal.coe_inv]
  unfold Ideal.div
  rw [if_neg (by norm_num)]

/-- Dividing by 1024 is multiplying by its reciprocal. -/
theorem div_1024 (x : EReal) : Ideal.div x (Ideal.ofBits .f32 0x44800000#32) = x * Ideal.ofBits .f32 0x3A800000#32 := by
  have h : Ideal.ofBits .f32 0x44800000#32 = ((1024 : ℝ) : EReal) := by
    simp [Ideal.ofBits, Ideal.ieee, -EReal.coe_mul]
    norm_num
  have h' : Ideal.ofBits .f32 0x3A800000#32 = (((1024 : ℝ)⁻¹ : ℝ) : EReal) := by
    simp [Ideal.ofBits, Ideal.ieee, -EReal.coe_mul]
    norm_num
  rw [h, h', EReal.coe_inv]
  unfold Ideal.div
  rw [if_neg (by norm_num)]

/-- The scale of the logits. -/
theorem scale_eq : Ideal.rsqrt (Ideal.ofBits .f32 0x43000000#32) = (((Real.sqrt 128)⁻¹ : ℝ) : EReal) := by
  have h : Ideal.ofBits .f32 0x43000000#32 = ((128 : ℝ) : EReal) := by
    simp [Ideal.ofBits, Ideal.ieee, -EReal.coe_mul]
    norm_num
  rw [h, Ideal.rsqrt_coe, if_neg (by norm_num), if_neg (by norm_num)]

/-- A row's entry in range. -/
theorem rowAt_eq (x : FVec Ideal S8192x4608 .f32) (b : Fin 4) (s : Fin 2048) (c : Fin 4608) :
    rowAt x b s.val c = x (ix2 (⟨b.val * 2048 + s.val, by omega⟩ : Fin 8192) c) := dif_pos s.isLt

/-- The reference's logits are the real logits. -/
theorem z_real (x : FVec Ideal S8192x4608 .f32) (hx : IsReal x) (b : Fin 4) (h : Fin 16) (t s : Fin 2048) :
    zArr x (ix4 b h t s) = ((logit x b h t.val s.val : ℝ) : EReal) := by
  rw [z_ix, scale_eq]
  unfold logit
  rw [EReal.coe_mul, coe_sum]
  refine congrArg (fun a : EReal => a * (((Real.sqrt 128)⁻¹ : ℝ) : EReal)) (Finset.sum_congr rfl fun d _ => ?_)
  rw [EReal.coe_mul, ← key_real x hx, ← query_real x hx, rowAt_eq, rowAt_eq]
  rfl

/-- The mask compares positions. -/
theorem strict_iff (b : Fin 4) (h : Fin 16) (t s : Fin 2048) : strictArr (ix4 b h t s) = 1#1 ↔ s.val < t.val := by
  rw [strict_ix, slt_small _ _ (by omega) (by omega)]
  by_cases hst : s.val < t.val
  · simp [hst]
  · simp [hst]

/-- What the keys before a query leave. -/
theorem rest_real (x : FVec Ideal S8192x4608 .f32) (hx : IsReal x) (b : Fin 4) (h : Fin 16) (t s : Fin 2048) :
    restArr x (ix4 b h t s) = ((rest (logit x b h t.val) t.val s.val : ℝ) : EReal) := by
  rw [rest_ix]
  unfold rest
  by_cases hst : s.val < t.val
  · rw [if_pos ((strict_iff b h t s).2 hst), if_pos hst, ls_ix _ _ (-(logit x b h t.val s.val))]
    show (-(zArr x (ix4 b h t s)) : EReal) = _
    rw [z_real x hx, EReal.coe_neg]
  · rw [if_neg fun e => hst ((strict_iff b h t s).1 e), if_neg hst, EReal.coe_zero]

/-- The reference's weights. -/
theorem weight_real (x : FVec Ideal S8192x4608 .f32) (hx : IsReal x) (b : Fin 4) (h : Fin 16) (t s : Fin 2048) :
    weightArr x (ix4 b h t s) = ((weight (logit x b h t.val) t.val s.val : ℝ) : EReal) := by
  rw [weight_ix]
  unfold weight
  by_cases hst : s.val < t.val
  · rw [if_pos ((strict_iff b h t s).2 hst), if_pos hst, ls_ix _ _ _ (z_real x hx b h t s), rest_real x hx,
      sum_ix _ b h t s (rest (logit x b h t.val) t.val) (fun j => rest_real x hx b h t j), ← EReal.coe_sub, ← EReal.coe_add, Ideal.exp_coe,
      Finset.sum_eq_sum_Ico_succ_bot s.isLt, add_sub_cancel_left]
  · rw [if_neg fun e => hst ((strict_iff b h t s).1 e), if_neg hst, EReal.coe_zero]

/-- The reference's result, entry by entry. -/
theorem out_real (x : FVec Ideal S8192x4608 .f32) (hx : IsReal x) (i : S8192x2048.Idx) (b : Fin 4) (h : Fin 16) (t : Fin 2048) (d : Fin 128)
    (h0 : (i 0).val = b.val * 2048 + t.val) (h1 : (i 1).val = h.val * 128 + d.val) :
    outArr x i = attn x b h t.val d := by
  rw [out_ix x i b h t d h0 h1]
  unfold attn
  rw [← block_sum 2048 0 fun j => rowAt x b j (valCol d) * ((weight (logit x b h t.val) t.val j : ℝ) : EReal)]
  refine Finset.sum_congr rfl fun s _ => ?_
  rw [weight_real x hx, Nat.zero_add, rowAt_eq]
  rfl

end Cert.ReferenceIdeal.Stick

end
-- ==== Proof.Attn.lean ====
/- The attention: what the grid leaves in the result array is the stick-breaking attention of the queries, keys and
   values, and so is what the reference computes. -/
module
public import proofs.«01_k».proof.Defs
public import proofs.«01_k».proof.Proof.Points
public import proofs.«01_k».proof.Proof.Ref
public import proofs.«01_k».proof.Proof.Gen.KernelIdeal.Value
public import proofs.«01_k».proof.Proof.Gen.ReferenceIdeal.Run
public import Idealize.ShloMosaic.Lib.KernelVsHost
@[expose] public section
set_option maxRecDepth 65536
set_option maxHeartbeats 1000000
noncomputable section
namespace Cert.KernelIdeal.Gen
open Idealize.ShloMosaic Idealize.ShloMosaic.TcCoe Idealize.ShloMosaic.Tactic
open Idealize.SL Idealize.SL.RA Idealize.SL.BI Idealize.SL.Sem

open Cert.Soft Cert.KernelIdeal.Value

variable (m : (ℓ : Loc nD τ sig) → Buf (Elt Ideal) ℓ)

/-- The result array, entry by entry. -/
theorem result_attn (c : Dev nD) (hx : IsReal (m (c.tc.loc main_arg0))) (i : S8192x2048.Idx) (b : Fin 4) (hd : Fin 16) (t : Fin 2048) (d : Fin 128)
    (h0 : (i 0).val = b.val * 2048 + t.val) (h1 : (i 1).val = hd.val * 128 + d.val) :
    (show Vec Ideal S8192x2048 .bf16 from G4 m c) i = attn (m (c.tc.loc main_arg0)) b hd t.val d := by
  have hi0 : (i 0).val < 8192 := (i 0).isLt
  have hi1 : (i 1).val < 2048 := (i 1).isLt
  have hN : cfg0.N = 256 := N_0
  have hpt : pt4Of i = 8 * (1 * ((i 0).val / 256 - 0) + 1 * ((i 1).val / 2048 - 0)) + 7 := rfl
  have hp : pt4Of i < cfg0.N := by omega
  have e : (show Vec Ideal S8192x2048 .bf16 from G4 m c) i = (outsAt0 m c (pt4Of i) hp).1 (loc4Of i) := by
    rw [outsAt0_sweep m c (pt4Of i) hp]
    exact dif_pos hp
  have hl0 : (loc4Of i 0).val = (i 0).val % 256 := rfl
  have hl1 : (loc4Of i 1).val = (i 1).val % 2048 := rfl
  rw [e, at_last m c hx (pt4Of i) hp (by omega) b (by omega) (loc4Of i) hd d (by omega)]
  rw [show 256 * (pt4Of i % 64 / 8) + (loc4Of i 0).val = t.val from by omega]

end Cert.KernelIdeal.Gen

namespace Cert.Proof

open Idealize.ShloMosaic Idealize.ShloMosaic.TcCoe Idealize.SL.Sem

open Cert.Soft

/-- The facts the precondition states of its shapes. -/
theorem facts_pre : Cert.Pre_finite_queries_and_keys.Facts where
  slices_S8192x4608_S8192x2048_0_2048 := by decide
  bcast_S_S8192x2048 := by decide
  slices_S8192x4608_S8192x128_0_4352 := by decide
  bcast_S_S8192x128 := by decide

/-- A value whose absolute value is below infinity is a real. -/
theorem real_of_finite (x : Ideal .f32) (h : FloatOps.cmpf .olt (FloatOps.hostAbsf x) (FloatOps.ofBits (F := Ideal) .f32 0x7F800000#32) = 1#1) :
    (x : EReal) = ((x : EReal).toReal : EReal) := by
  rw [← Ideal.xori_weird_eq_hostAbsf_olt_inf] at h
  have hw : ¬((x : EReal) = ⊤ ∨ (x : EReal) = ⊥) := fun hx => by
    have e : FloatOps.weird x = 1#1 := by
      show BitVec.ofBool (decide ((x : EReal) = ⊤ ∨ (x : EReal) = ⊥)) = 1#1
      rw [decide_eq_true hx]; rfl
    rw [e] at h
    exact absurd h (by decide)
  exact (EReal.coe_toReal (fun e => hw (Or.inl e)) (fun e => hw (Or.inr e))).symm

/-- Under the precondition the queries and the keys are reals. -/
theorem isReal_of_pre [Cert.Pre_finite_queries_and_keys.Facts] (x : FVec Ideal Cert.Pre_finite_queries_and_keys.S8192x4608 .f32)
    (h1 : (Cert.Pre_finite_queries_and_keys.fn (F := Ideal) x).1 = fun _ => 1#1) (h2 : (Cert.Pre_finite_queries_and_keys.fn (F := Ideal) x).2 = fun _ => 1#1) :
    IsReal x := by
  constructor
  · intro r h d
    have hi := congrFun h1 (ix2 r (⟨h.val * 128 + d.val, by omega⟩ : Fin 2048))
    refine real_of_finite _ (Eq.trans ?_ hi)
    refine congrArg (fun a => FloatOps.cmpf .olt (FloatOps.hostAbsf (F := Ideal) (φ := .f32) a) _) (congrArg x (funext fun a => Fin.ext ?_))
    match a with
    | ⟨0, _⟩ => show r.val = 0 + r.val; omega
    | ⟨1, _⟩ => show 2048 + (h.val * 128 + d.val) = 2048 + (h.val * 128 + d.val); rfl
  · intro r d
    have hi := congrFun h2 (ix2 r d)
    refine real_of_finite _ (Eq.trans ?_ hi)
    refine congrArg (fun a => FloatOps.cmpf .olt (FloatOps.hostAbsf (F := Ideal) (φ := .f32) a) _) (congrArg x (funext fun a => Fin.ext ?_))
    match a with
    | ⟨0, _⟩ => show r.val = 0 + r.val; omega
    | ⟨1, _⟩ => show 4352 + d.val = 4352 + d.val; rfl

/-- The claim: kernel and reference compute the same attention over the extended reals. -/
theorem attention [Cert.Pre_finite_queries_and_keys.Facts] : Cert.algebraic_KernelIdeal_ReferenceIdeal_pre_finite_queries_and_keys := by
  intro m g m' g' hpre hm
  refine ⟨fun c => Cert.ReferenceIdeal.Stick.outArr (m (c.tc.loc Cert.KernelIdeal.main_arg0)), ?_, ?_⟩
  · refine (θ_run Cert.KernelIdeal.defs _ _).mono (fun r h c => ⟨(h c).1.trans ?_, (h c).2⟩) (Cert.KernelIdeal.Value.run m g)
    have hx := isReal_of_pre _ (hpre c).1 (hpre c).2
    funext i
    have hi0 : (i 0).val < 8192 := (i 0).isLt
    have hi1 : (i 1).val < 2048 := (i 1).isLt
    exact (Cert.KernelIdeal.Gen.result_attn m c hx i ⟨(i 0).val / 2048, by omega⟩ ⟨(i 1).val / 128, by omega⟩ ⟨(i 0).val % 2048, by omega⟩ ⟨(i 1).val % 128, by omega⟩
        (by dsimp only; omega) (by dsimp only; omega)).trans
      (Cert.ReferenceIdeal.Stick.out_real (m (c.tc.loc Cert.KernelIdeal.main_arg0)) hx i ⟨(i 0).val / 2048, by omega⟩ ⟨(i 1).val / 128, by omega⟩ ⟨(i 0).val % 2048, by omega⟩ ⟨(i 1).val % 128, by omega⟩
        (by dsimp only; omega) (by dsimp only; omega)).symm
  · refine (θ_run Cert.ReferenceIdeal.defs _ _).mono (fun r h c => ⟨(h c).1.trans ?_, (h c).2⟩) (Cert.ReferenceIdeal.Value.run m' g')
    rw [Cert.ReferenceIdeal.Stick.res_eq, hm c]

end Cert.Proof

end
-- ==== Proof.Up.lean ====
/- The value of the MLP's first product: every entry of the kernel's result array is the square of the positive
   part of the row of `h` times the column of the first layer of `w_up`, and so is the reference's. -/
module

public import proofs.«01_k».proof.Defs
public import proofs.«01_k».proof.Proof.Gen.Kernel2Ideal.Value
public import proofs.«01_k».proof.Proof.Gen.Reference2Ideal.Run
public import Idealize.ShloMosaic.Lib.Pipeline.Value
public import Idealize.ShloMosaic.Lib.Pointwise
public import Idealize.ShloMosaic.Lib.ValueIdx

@[expose] public section

noncomputable section

open Idealize.ShloMosaic Idealize.ShloMosaic.TcCoe Idealize.SL.Sem

namespace Cert.Kernel2Ideal.Up

open Cert.Kernel2Ideal Cert.Kernel2Ideal.Gen Cert.Kernel2Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The result the call leaves: the squared positive part of `h` times layer 0 of `w_up`. -/
def G (h : Vec Ideal S8192x4096 .bf16) (w : Vec Ideal S4x4096x16384 .f32) : Vec Ideal S8192x16384 .bf16 := fun i =>
  let s : EReal := ∑ k : Fin 4096, h (ix2 (i 0) k) * w (ix3 (0 : Fin 4) k (i 1))
  max s 0 * max s 0

/-- The blocks the grid visits: row block `t / 32`, column block `t % 32`. -/
theorem idx : ∀ t : Fin cfg0.N, (win0_0.index t (0 : Fin 2) = t.val / 32 ∧ win0_0.index t (1 : Fin 2) = 0)
    ∧ (win0_1.index t (0 : Fin 3) = 0 ∧ win0_1.index t (1 : Fin 3) = 0 ∧ win0_1.index t (2 : Fin 3) = t.val % 32)
    ∧ (win0_2.index t (0 : Fin 2) = t.val / 32 ∧ win0_2.index t (1 : Fin 2) = t.val % 32) :=
  (by decide +kernel : ∀ t : Fin grid0.N, _)

/-- A block of the result, entry by entry, from the block of rows and the block of columns. -/
theorem out_apply (x : Vec Ideal S1024x4096 .bf16) (w : Vec Ideal S1x4096x512 .f32) (y : S1024x512.Idx) :
    out0_2 x w y = (max (∑ k : Fin 4096, x (ix2 (y 0) k) * w (ix3 (0 : Fin 1) k (y 1))) 0
      * max (∑ k : Fin 4096, x (ix2 (y 0) k) * w (ix3 (0 : Fin 1) k (y 1))) 0 : EReal) := by
  unfold out0_2
  rw [View.canon_unit_zero zero2, View.ld_unit_zero (S := S1024x4096) zero2, View.ld_unit_zero (S := S1x4096x512) zero3]
  pointwise [k0_pay1]

/-- The block of rows at point `t`: rows `1024·(t / 32) …` of `h`. -/
theorem rows (c : Dev nD) (t : Fin cfg0.N) (y : S1024x4096.Idx) (i : Fin 8192) (hi : i.val = t.val / 32 * 1024 + (y 0).val) :
    iblk m c 0 t y = m ((c : Thread nD τ).loc main_arg0) (ix2 i (y 1)) := by
  obtain ⟨⟨e0, e1⟩, -, -⟩ := idx t
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 4096 + 1 * (y 1).val = (y 1).val; omega

/-- The block of columns at point `t`: columns `512·(t % 32) …` of layer 0 of `w_up`. -/
theorem cols (c : Dev nD) (t : Fin cfg0.N) (y : S1x4096x512.Idx) (j : Fin 16384) (hj : j.val = t.val % 32 * 512 + (y 2).val) :
    iblk m c 1 t y = m ((c : Thread nD τ).loc main_arg1) (ix3 (0 : Fin 4) (y 1) j) := by
  obtain ⟨-, ⟨e0, e1, e2⟩, -⟩ := idx t
  rw [← V_main_arg1 m c]
  show V m c main_arg1 (((cfg0.win 1).blk t).view.emb y) = _
  congr 1; funext a; apply Fin.ext
  have h0 : (y 0).val < 1 := (y 0).isLt
  match a with
  | ⟨0, _⟩ => show win0_1.index t (0 : Fin 3) * 1 + 1 * (y 0).val = 0; omega
  | ⟨1, _⟩ => show win0_1.index t (1 : Fin 3) * 4096 + 1 * (y 1).val = (y 1).val; omega
  | ⟨2, _⟩ => show win0_1.index t (2 : Fin 3) * 512 + 1 * (y 2).val = j.val; omega

/-- What each point writes back is its block of `G`. -/
theorem flushed_eq (c : Dev nD) (t : Fin cfg0.N) : (dats m 0 c).flushed 2 t
    = ((cfg0.win 2).blk t).view.read (Elt Ideal) (G (m ((c : Thread nD τ).loc main_arg0)) (m ((c : Thread nD τ).loc main_arg1))) := by
  rw [flushed2]
  funext y
  obtain ⟨-, -, e0, e1⟩ := idx t
  have h0 : (((cfg0.win 2).blk t).view.emb y 0).val = t.val / 32 * 1024 + (y 0).val := by
    show win0_2.index t (0 : Fin 2) * 1024 + 1 * (y 0).val = _; omega
  have h1 : (((cfg0.win 2).blk t).view.emb y 1).val = t.val % 32 * 512 + (y 1).val := by
    show win0_2.index t (1 : Fin 2) * 512 + 1 * (y 1).val = _; omega
  show out0_2 (iblk m c 0 t) (iblk m c 1 t) y = G _ _ (((cfg0.win 2).blk t).view.emb y)
  rw [out_apply]
  have e : ∀ k : Fin 4096, ((show Vec Ideal S1024x4096 .bf16 from iblk m c 0 t) (ix2 (y 0) k) * (show Vec Ideal S1x4096x512 .f32 from iblk m c 1 t) (ix3 (0 : Fin 1) k (y 1)) : EReal)
      = (show Vec Ideal S8192x4096 .bf16 from m ((c : Thread nD τ).loc main_arg0)) (ix2 (((cfg0.win 2).blk t).view.emb y 0) k)
        * (show Vec Ideal S4x4096x16384 .f32 from m ((c : Thread nD τ).loc main_arg1)) (ix3 (0 : Fin 4) k (((cfg0.win 2).blk t).view.emb y 1)) :=
    fun k => congrArg₂ (fun a b : EReal => a * b) (rows m c t (ix2 (y 0) k) _ h0) (cols m c t (ix3 (0 : Fin 1) k (y 1)) _ h1)
  show (max (∑ k : Fin 4096, _) 0 * max (∑ k : Fin 4096, _) 0 : EReal) = _
  rw [Finset.sum_congr rfl fun k _ => e k]
  rfl

/-- An entry is in point `t`'s block iff each coordinate is in the block's range. -/
theorem mem_blk (t : Fin cfg0.N) (i : S8192x16384.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- Every entry of the result array is in the block some point writes back. -/
theorem cover (i : S8192x16384.Idx) : ∃ t : Fin cfg0.N, (cfg0.win 2).flush t = true ∧ i ∈ ((cfg0.win 2).blk t).view.set := by
  have hi0 : (i 0).val < 8192 := (i 0).isLt
  have hi1 : (i 1).val < 16384 := (i 1).isLt
  have hN : cfg0.N = 256 := N_0
  refine ⟨⟨32 * ((i 0).val / 1024) + (i 1).val / 512, by omega⟩, flush0_2 _, ?_⟩
  obtain ⟨-, -, e0, e1⟩ := idx ⟨32 * ((i 0).val / 1024) + (i 1).val / 512, by omega⟩
  rw [mem_blk]
  intro a
  match a with
  | ⟨0, _⟩ => show win0_2.index _ (0 : Fin 2) * 1024 ≤ (i 0).val ∧ (i 0).val < win0_2.index _ (0 : Fin 2) * 1024 + 1024; rw [e0]; dsimp only; omega
  | ⟨1, _⟩ => show win0_2.index _ (1 : Fin 2) * 512 ≤ (i 1).val ∧ (i 1).val < win0_2.index _ (1 : Fin 2) * 512 + 512; rw [e1]; dsimp only; omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Cert.Kernel2Ideal.Up

namespace Cert.Proof

open Cert.Reference2Ideal Cert.Reference2Ideal.Gen

/-- The reference's result, entry by entry, is the same function of its arguments. -/
theorem up_ref (h : FVec Ideal S8192x4096 .bf16) (w : FVec Ideal S4x4096x16384 .f32)
    (i : S8192x16384.Idx) :
    (maximumf (F := Ideal) (φ := .f32) (Host.dotGeneral dot_S8192x4096_S4096x16384_S8192x16384_1_0_0_1_n_n none (extf .f32 h bitsLt_bf16_f32)
      (shapeCast _ (extractStridedSlice S1x4096x16384 ![0, 0, 0] w slices_S4x4096x16384_S1x4096x16384_0_0_0) shapeCasts_S1x4096x16384_S4096x16384))
      (broadcastInDim S8192x16384 ![] bcast_S_S8192x16384 (constant S_ .f32 0x00000000#32)) i : EReal)
    = (max (∑ k : Fin 4096, h (ix2 (i 0) k) * w (ix3 (0 : Fin 4) k (i 1))) 0 : EReal) := by
  pointwise

/-- The claim: kernel and reference compute the same array over the extended reals. -/
theorem up : Cert.algebraic_Kernel2Ideal_Reference2Ideal := by
  intro m g m' g' _ hm
  refine ⟨fun c => Cert.Kernel2Ideal.Up.G (m (c.tc.loc Cert.Kernel2Ideal.main_arg0)) (m (c.tc.loc Cert.Kernel2Ideal.main_arg1)), ?_, ?_⟩
  · exact (θ_run Cert.Kernel2Ideal.defs _ _).mono (fun r h c => ⟨(h c).1.trans (Cert.Kernel2Ideal.Up.final m c), (h c).2⟩)
      (Cert.Kernel2Ideal.Value.run_blocks m g)
  · refine (θ_run Cert.Reference2Ideal.defs _ _).mono (fun r h c => ⟨(h c).1.trans ?_, (h c).2⟩) (Cert.Reference2Ideal.Value.run m' g')
    rw [(hm c).1, (hm c).2]
    funext i
    exact congrArg₂ (fun a b : EReal => a * b) (up_ref _ _ i) (up_ref _ _ i)

end Cert.Proof
-- ==== Proof.Down.lean ====
/- The value of the MLP's second product with its gated residual: every entry of the kernel's result array is `x` plus
   the gate times the row of `u` times the column of the first layer of `w_down`, and so is the reference's. The kernel
   adds the product up in eight blocks of 2048 terms, over the scratch it carries. -/
module

public import proofs.«01_k».proof.Defs
public import proofs.«01_k».proof.Proof.Gen.Kernel3Ideal.Value
public import proofs.«01_k».proof.Proof.Gen.Reference3Ideal.Run
public import Idealize.ShloMosaic.Lib.Pipeline.Value
public import Idealize.ShloMosaic.Lib.Pointwise
public import Idealize.ShloMosaic.Lib.ValueIdx
public import Idealize.ShloMosaic.Lib.Tactic

@[expose] public section

noncomputable section

open Idealize.ShloMosaic Idealize.ShloMosaic.TcCoe Idealize.SL.Sem

namespace Cert.Kernel3Ideal.Down

open Cert.Kernel3Ideal Cert.Kernel3Ideal.Gen Cert.Kernel3Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The first point of a run of eight leaves the block product in the scratch. -/
theorem scratch_first (c : Dev nD) (i : grid0.Coords) (a3 : Memref sig .tc .vmem S1024x2048 .bf16) (h3 : a3.IsWhole) (a4 : Memref sig .tc .vmem S1x2048x1024 .bf16) (h4 : a4.IsWhole) (a5 : Memref sig .tc .vmem S1024x1024 .f32) (h5 : a5.IsWhole) (a6 : Memref sig .tc .vmem S1x1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i) (hc2 : ¬cond0_2 i)
    (x0 : Vec Ideal S1024x2048 .bf16) (x1 : Vec Ideal S1x2048x1024 .bf16) (x2 : Vec Ideal S1024x1024 .f32) (x3 : Vec Ideal S1x1x1024 .f32) :
    sout0_A_0 c i a3 h3 a4 h4 a5 h5 a6 h6 a7 h7 a8 h8 hc0 hc1 hc2 x0 x1 x2 x3 = k0_pay2 x0 x1 := by
  unfold sout0_A_0
  rw [View.read_writes_eq_canon _ _ _ (scover0_A_0 c i a3 h3 a4 h4 a5 h5 a6 h6 a7 h7 a8 h8 hc0 hc1 hc2 x0 x1 x2 x3)]
  unfold kernelRun0_A
  dsimp only
  rw [View.canon_unit_zero zero2]
  simp only [View.readAt_eq_ld, h3.read_unread, h4.read_unread, View.ld_unit_zero (S := S1024x2048) zero2, View.ld_unit_zero (S := S1x2048x1024) zero3]

/-- A later point adds its block product to the scratch. -/
theorem scratch_next (c : Dev nD) (i : grid0.Coords) (a3 : Memref sig .tc .vmem S1024x2048 .bf16) (h3 : a3.IsWhole) (a4 : Memref sig .tc .vmem S1x2048x1024 .bf16) (h4 : a4.IsWhole) (a5 : Memref sig .tc .vmem S1024x1024 .f32) (h5 : a5.IsWhole) (a6 : Memref sig .tc .vmem S1x1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (hc2 : ¬cond0_2 i)
    (x0 : Vec Ideal S1024x2048 .bf16) (x1 : Vec Ideal S1x2048x1024 .bf16) (x2 : Vec Ideal S1024x1024 .f32) (x3 : Vec Ideal S1x1x1024 .f32) (xs : Vec Ideal S1024x1024 .f32) :
    sout0_B_0 c i a3 h3 a4 h4 a5 h5 a6 h6 a7 h7 a8 h8 hc0 hc1 hc2 x0 x1 x2 x3 xs = k0_pay3 x0 x1 xs := by
  unfold sout0_B_0
  rw [View.read_writes_eq_canon _ _ _ (scover0_B_0 c i a3 h3 a4 h4 a5 h5 a6 h6 a7 h7 a8 h8 hc0 hc1 hc2 x0 x1 x2 x3 xs)]
  unfold kernelRun0_B
  dsimp only
  rw [View.canon_unit_zero zero2]
  simp only [View.readAt_eq_ld, h3.read_unread, h4.read_unread, h8.read_unread, View.ld_unit_zero (S := S1024x2048) zero2, View.ld_unit_zero (S := S1024x1024) zero2, View.ld_unit_zero (S := S1x2048x1024) zero3]

/-- The last point of a run writes the residual plus the gate times the completed product. -/
theorem out_last (c : Dev nD) (i : grid0.Coords) (a3 : Memref sig .tc .vmem S1024x2048 .bf16) (h3 : a3.IsWhole) (a4 : Memref sig .tc .vmem S1x2048x1024 .bf16) (h4 : a4.IsWhole) (a5 : Memref sig .tc .vmem S1024x1024 .f32) (h5 : a5.IsWhole) (a6 : Memref sig .tc .vmem S1x1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i) (hc2 : cond0_2 i)
    (x0 : Vec Ideal S1024x2048 .bf16) (x1 : Vec Ideal S1x2048x1024 .bf16) (x2 : Vec Ideal S1024x1024 .f32) (x3 : Vec Ideal S1x1x1024 .f32) (xs : Vec Ideal S1024x1024 .f32) :
    out0_C_4 c i a3 h3 a4 h4 a5 h5 a6 h6 a7 h7 a8 h8 hc0 hc1 hc2 x0 x1 x2 x3 xs = k0_pay4 (k0_pay3 x0 x1 xs) x2 x3 := by
  unfold out0_C_4
  rw [View.read_writes_eq_canon _ _ _ (cover0_C_4 c i a3 h3 a4 h4 a5 h5 a6 h6 a7 h7 a8 h8 hc0 hc1 hc2 x0 x1 x2 x3 xs)]
  unfold kernelRun0_C
  dsimp only
  sl_unfold_words
  rw [View.canon_unit_zero zero2, View.readCov_unit_zero (S := S1024x1024) _ zero2]
  simp only [View.readAt_eq_ld, h3.read_unread, h4.read_unread, h5.read_unread, h6.read_unread, h8.read_unread, View.ld_unit_zero (S := S1024x2048) zero2, View.ld_unit_zero (S := S1024x1024) zero2, View.ld_unit_zero (S := S1x2048x1024) zero3, View.ld_unit_zero (S := S1x1x1024) zero3]

/-- The blocks the grid visits. -/
theorem idx : ∀ t : Fin cfg0.N, (win0_0.index t (0 : Fin 2) = t.val / 32 ∧ win0_0.index t (1 : Fin 2) = t.val % 8)
    ∧ (win0_1.index t (0 : Fin 3) = 0 ∧ win0_1.index t (1 : Fin 3) = t.val % 8 ∧ win0_1.index t (2 : Fin 3) = t.val / 8 % 4)
    ∧ (win0_2.index t (0 : Fin 2) = t.val / 32 ∧ win0_2.index t (1 : Fin 2) = t.val / 8 % 4)
    ∧ (win0_3.index t (0 : Fin 3) = t.val / 32 / 2 * 6 + 5 ∧ win0_3.index t (1 : Fin 3) = 0 ∧ win0_3.index t (2 : Fin 3) = t.val / 8 % 4)
    ∧ (win0_4.index t (0 : Fin 2) = t.val / 32 ∧ win0_4.index t (1 : Fin 2) = t.val / 8 % 4) :=
  (by decide +kernel : ∀ t : Fin grid0.N, _)

abbrev uArr (c : Dev nD) : Vec Ideal S8192x16384 .bf16 := m ((c : Thread nD τ).loc main_arg0)
abbrev wArr (c : Dev nD) : Vec Ideal S4x16384x4096 .bf16 := m ((c : Thread nD τ).loc main_arg1)
abbrev xArr (c : Dev nD) : Vec Ideal S8192x4096 .f32 := m ((c : Thread nD τ).loc main_arg2)
abbrev gArr (c : Dev nD) : Vec Ideal S24x1x4096 .f32 := m ((c : Thread nD τ).loc main_arg3)

/-- Term `k` of the product at row `a`, column `b`. -/
def term (u : Vec Ideal S8192x16384 .bf16) (w : Vec Ideal S4x16384x4096 .bf16) (a : Fin 8192) (b : Fin 4096) (k : ℕ) : EReal :=
  if h : k < 16384 then u (ix2 a ⟨k, h⟩) * w (ix3 (0 : Fin 4) ⟨k, h⟩ b) else 0

/-- The result the call leaves: the residual plus the gate (chunk 5 of the batch's six) times `u` times layer 0 of `w_down`. -/
def G (u : Vec Ideal S8192x16384 .bf16) (w : Vec Ideal S4x16384x4096 .bf16) (x : Vec Ideal S8192x4096 .f32) (g : Vec Ideal S24x1x4096 .f32) :
    Vec Ideal S8192x4096 .f32 := fun i =>
  (x i + g (ix3 (⟨(i 0).val / 2048 * 6 + 5, by have : (i 0).val < 8192 := (i 0).isLt; omega⟩ : Fin 24) (0 : Fin 1) (i 1))
    * ∑ k : Fin 16384, u (ix2 (i 0) k) * w (ix3 (0 : Fin 4) k (i 1)) : EReal)

/-- A point's block of rows and columns, as entries of the arrays. -/
theorem rows (c : Dev nD) (t : Fin cfg0.N) (y : S1024x2048.Idx) (i : Fin 8192) (k : Fin 16384)
    (hi : i.val = t.val / 32 * 1024 + (y 0).val) (hk : k.val = t.val % 8 * 2048 + (y 1).val) :
    iblk m c 0 t y = uArr m c (ix2 i k) := by
  obtain ⟨⟨e0, e1⟩, -⟩ := idx t
  unfold uArr
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 2048 + 1 * (y 1).val = k.val; omega

theorem cols (c : Dev nD) (t : Fin cfg0.N) (y : S1x2048x1024.Idx) (k : Fin 16384) (j : Fin 4096)
    (hk : k.val = t.val % 8 * 2048 + (y 1).val) (hj : j.val = t.val / 8 % 4 * 1024 + (y 2).val) :
    iblk m c 1 t y = wArr m c (ix3 (0 : Fin 4) k j) := by
  obtain ⟨-, ⟨e0, e1, e2⟩, -⟩ := idx t
  unfold wArr
  rw [← V_main_arg1 m c]
  show V m c main_arg1 (((cfg0.win 1).blk t).view.emb y) = _
  congr 1; funext a; apply Fin.ext
  have h0 : (y 0).val < 1 := (y 0).isLt
  match a with
  | ⟨0, _⟩ => show win0_1.index t (0 : Fin 3) * 1 + 1 * (y 0).val = 0; omega
  | ⟨1, _⟩ => show win0_1.index t (1 : Fin 3) * 2048 + 1 * (y 1).val = k.val; omega
  | ⟨2, _⟩ => show win0_1.index t (2 : Fin 3) * 1024 + 1 * (y 2).val = j.val; omega

theorem resid (c : Dev nD) (t : Fin cfg0.N) (y : S1024x1024.Idx) (i : S8192x4096.Idx)
    (hi : (i 0).val = t.val / 32 * 1024 + (y 0).val) (hj : (i 1).val = t.val / 8 % 4 * 1024 + (y 1).val) :
    iblk m c 2 t y = xArr m c i := by
  obtain ⟨-, -, ⟨e0, e1⟩, -⟩ := idx t
  unfold xArr
  rw [← V_main_arg2 m c]
  show V m c main_arg2 (((cfg0.win 2).blk t).view.emb y) = _
  congr 1; funext a; apply Fin.ext
  match a with
  | ⟨0, _⟩ => show win0_2.index t (0 : Fin 2) * 1024 + 1 * (y 0).val = (i 0).val; omega
  | ⟨1, _⟩ => show win0_2.index t (1 : Fin 2) * 1024 + 1 * (y 1).val = (i 1).val; omega

theorem gate (c : Dev nD) (t : Fin cfg0.N) (y : S1x1x1024.Idx) (b : Fin 24) (j : Fin 4096)
    (hb : b.val = t.val / 32 / 2 * 6 + 5) (hj : j.val = t.val / 8 % 4 * 1024 + (y 2).val) :
    iblk m c 3 t y = gArr m c (ix3 b (0 : Fin 1) j) := by
  obtain ⟨-, -, -, ⟨e0, e1, e2⟩, -⟩ := idx t
  unfold gArr
  rw [← V_main_arg3 m c]
  show V m c main_arg3 (((cfg0.win 3).blk t).view.emb y) = _
  congr 1; funext a; apply Fin.ext
  have h0 : (y 0).val < 1 := (y 0).isLt
  have h1 : (y 1).val < 1 := (y 1).isLt
  match a with
  | ⟨0, _⟩ => show win0_3.index t (0 : Fin 3) * 1 + 1 * (y 0).val = b.val; omega
  | ⟨1, _⟩ => show win0_3.index t (1 : Fin 3) * 1 + 1 * (y 1).val = 0; omega
  | ⟨2, _⟩ => show win0_3.index t (2 : Fin 3) * 1024 + 1 * (y 2).val = j.val; omega

/-- The block product, entry by entry. -/
theorem prod_apply (x : Vec Ideal S1024x2048 .bf16) (w : Vec Ideal S1x2048x1024 .bf16) (y : S1024x1024.Idx) :
    k0_pay1 x w y = (∑ k : Fin 2048, x (ix2 (y 0) k) * w (ix3 (0 : Fin 1) k (y 1)) : EReal) := by
  pointwise [k0_pay1]

/-- The block product at point `t` is the run of 2048 terms its place in the run of eight names. -/
theorem prod_blk (c : Dev nD) (t : Fin cfg0.N) (y : S1024x1024.Idx) (a : Fin 8192) (b : Fin 4096)
    (ha : a.val = t.val / 32 * 1024 + (y 0).val) (hb : b.val = t.val / 8 % 4 * 1024 + (y 1).val) :
    k0_pay1 (iblk m c 0 t) (iblk m c 1 t) y = ∑ k ∈ Finset.range 2048, term (uArr m c) (wArr m c) a b (t.val % 8 * 2048 + k) := by
  rw [prod_apply, ← Fin.sum_univ_eq_sum_range]
  refine Finset.sum_congr rfl fun k _ => ?_
  have hk : t.val % 8 * 2048 + k.val < 16384 := by have := k.isLt; omega
  unfold term
  rw [dif_pos hk]
  exact congrArg₂ (fun p q : EReal => p * q) (rows m c t (ix2 (y 0) k) a ⟨_, hk⟩ ha rfl) (cols m c t (ix3 (0 : Fin 1) k (y 1)) ⟨_, hk⟩ b rfl hb)

/-- A sum over consecutive runs is the sum over all of them. -/
theorem sum_runs (f : ℕ → EReal) (n : ℕ) (q : ℕ) :
    ∑ s ∈ Finset.range q, ∑ k ∈ Finset.range n, f (s * n + k) = ∑ k ∈ Finset.range (q * n), f k := by
  induction q with
  | zero => simp
  | succ q ih => rw [Finset.sum_range_succ, ih, Nat.succ_mul, Finset.sum_range_add]

/-- The scratch after a run's first point. -/
theorem first_blk (c : Dev nD) (t : Fin cfg0.N) (h0 : t.val % 8 = 0) (y : S1024x1024.Idx) (a : Fin 8192) (b : Fin 4096)
    (ha : a.val = t.val / 32 * 1024 + (y 0).val) (hb : b.val = t.val / 8 % 4 * 1024 + (y 1).val) :
    (outsAt0 m c t.val t.isLt).2 y = ∑ s ∈ Finset.range (t.val % 8 + 1), ∑ k ∈ Finset.range 2048, term (uArr m c) (wArr m c) a b (s * 2048 + k) := by
  rw [outsAt0_A m c t h0 (by omega) (by omega)]
  dsimp only
  rw [scratch_first]
  unfold k0_pay2
  simp only [shapeCast_self]
  rw [prod_blk m c t y a b ha hb, h0, Finset.sum_range_one]

/-- The scratch a point hands on, with the point's own product added, is the terms up to the point's. -/
theorem next_blk (c : Dev nD) (t : Fin cfg0.N) (h0 : t.val % 8 ≠ 0) (xs : Vec Ideal S1024x1024 .f32) (y : S1024x1024.Idx) (a : Fin 8192) (b : Fin 4096)
    (ha : a.val = t.val / 32 * 1024 + (y 0).val) (hb : b.val = t.val / 8 % 4 * 1024 + (y 1).val)
    (hx : xs y = ∑ s ∈ Finset.range (t.val % 8), ∑ k ∈ Finset.range 2048, term (uArr m c) (wArr m c) a b (s * 2048 + k)) :
    k0_pay3 (iblk m c 0 t) (iblk m c 1 t) xs y
      = ∑ s ∈ Finset.range (t.val % 8 + 1), ∑ k ∈ Finset.range 2048, term (uArr m c) (wArr m c) a b (s * 2048 + k) := by
  unfold k0_pay3
  simp only [shapeCast_self]
  show (xs y + k0_pay1 (iblk m c 0 t) (iblk m c 1 t) y : EReal) = _
  rw [hx, prod_blk m c t y a b ha hb]
  exact (Finset.sum_range_succ _ (t.val % 8)).symm

/-- What the scratch holds after each point short of a run's last: the terms added so far. -/
theorem scratch_eq (c : Dev nD) : ∀ (n : ℕ) (h : n < cfg0.N) (_ : n % 8 ≠ 7) (y : S1024x1024.Idx) (a : Fin 8192) (b : Fin 4096)
    (_ : a.val = n / 32 * 1024 + (y 0).val) (_ : b.val = n / 8 % 4 * 1024 + (y 1).val),
    (outsAt0 m c n h).2 y = ∑ s ∈ Finset.range (n % 8 + 1), ∑ k ∈ Finset.range 2048, term (uArr m c) (wArr m c) a b (s * 2048 + k) := by
  intro n
  induction n with
  | zero => exact fun h _ y a b ha hb => first_blk m c ⟨0, h⟩ rfl y a b ha hb
  | succ n ih =>
    intro h h7 y a b ha hb
    by_cases h0 : (n + 1) % 8 = 0
    · exact first_blk m c ⟨n + 1, h⟩ h0 y a b ha hb
    · rw [outsAt0_B m c ⟨n + 1, h⟩ h0 (by dsimp only; omega) h7]
      dsimp only
      rw [scratch_next]
      refine next_blk m c ⟨n + 1, h⟩ h0 _ y a b ha hb ?_
      dsimp only
      rw [show (n + 1) % 8 = n % 8 + 1 by omega]
      exact ih (by omega) (by omega) y a b (by omega) (by omega)

/-- What a run's last point writes out. -/
theorem last_blk (c : Dev nD) (t : Fin cfg0.N) (h7 : t.val % 8 = 7) (y : S1024x1024.Idx) (i : S8192x4096.Idx)
    (hi : (i 0).val = t.val / 32 * 1024 + (y 0).val) (hj : (i 1).val = t.val / 8 % 4 * 1024 + (y 1).val) :
    (outsAt0 m c t.val t.isLt).1 y = G (uArr m c) (wArr m c) (xArr m c) (gArr m c) i := by
  rw [outsAt0_C m c t (by omega) (by omega) h7]
  dsimp only
  rw [out_last]
  have hs := next_blk m c t (by omega) (outsAt0 m c (t.val - 1) (Nat.lt_of_le_of_lt (Nat.sub_le _ _) t.isLt)).2 y (i 0) (i 1) hi hj (by
    rw [scratch_eq m c (t.val - 1) _ (by omega) y (i 0) (i 1) (by omega) (by omega), show (t.val - 1) % 8 + 1 = t.val % 8 by omega])
  have hx := resid m c t y i hi hj
  have hg := gate m c t (ix3 (0 : Fin 1) (0 : Fin 1) (y 1)) ⟨(i 0).val / 2048 * 6 + 5, by have : (i 0).val < 8192 := (i 0).isLt; omega⟩ (i 1)
    (by have h := (y 0).isLt; change (y 0).val < 1024 at h; dsimp only; omega) hj
  have hp : k0_pay4 (k0_pay3 (iblk m c 0 t) (iblk m c 1 t) (outsAt0 m c (t.val - 1) (Nat.lt_of_le_of_lt (Nat.sub_le _ _) t.isLt)).2) (iblk m c 2 t) (iblk m c 3 t) y
      = ((show Vec Ideal S1024x1024 .f32 from iblk m c 2 t) y + (show Vec Ideal S1x1x1024 .f32 from iblk m c 3 t) (ix3 (0 : Fin 1) (0 : Fin 1) (y 1)) * k0_pay3 (iblk m c 0 t) (iblk m c 1 t) (outsAt0 m c (t.val - 1) (Nat.lt_of_le_of_lt (Nat.sub_le _ _) t.isLt)).2 y : EReal) := by
    generalize k0_pay3 (iblk m c 0 t) (iblk m c 1 t) _ = z
    generalize iblk m c 2 t = p
    generalize iblk m c 3 t = q
    pointwise [k0_pay4]
  refine hp.trans ?_
  rw [hs, h7, sum_runs, ← Fin.sum_univ_eq_sum_range]
  refine congrArg₂ (fun p q : EReal => p + q) hx (congrArg₂ (fun p q : EReal => p * q) hg (Finset.sum_congr rfl fun k _ => ?_))
  exact dif_pos k.isLt

/-- The run of eight points that ends at an entry's block, and the entry's place in the block. -/
theorem final (c : Dev nD) : Value.G4 m c = G (uArr m c) (wArr m c) (xArr m c) (gArr m c) := by
  funext i
  have h0 : (i 0).val < 8192 := (i 0).isLt
  have h1 : (i 1).val < 4096 := (i 1).isLt
  have hN : cfg0.N = 256 := N_0
  have hp : pt4Of i < cfg0.N := by rw [hN]; show 8 * (4 * ((i 0).val / 1024 - 0) + 1 * ((i 1).val / 1024 - 0)) + 7 < 256; omega
  unfold Value.G4
  rw [dif_pos hp]
  have e := outsAt0_sweep m c (pt4Of i) hp
  rw [← show _ = _ from congrArg (fun p : Vec Ideal S1024x1024 .f32 × Vec Ideal S1024x1024 .f32 => p.1 (loc4Of i)) e]
  refine last_blk m c ⟨pt4Of i, hp⟩ ?_ (loc4Of i) i ?_ ?_
  · show (8 * (4 * ((i 0).val / 1024 - 0) + 1 * ((i 1).val / 1024 - 0)) + 7) % 8 = 7; omega
  · show (i 0).val = (8 * (4 * ((i 0).val / 1024 - 0) + 1 * ((i 1).val / 1024 - 0)) + 7) / 32 * 1024 + (i 0).val % 1024; omega
  · show (i 1).val = (8 * (4 * ((i 0).val / 1024 - 0) + 1 * ((i 1).val / 1024 - 0)) + 7) / 8 % 4 * 1024 + (i 1).val % 1024; omega

end Cert.Kernel3Ideal.Down

namespace Cert.Proof

open Cert.Reference3Ideal Cert.Reference3Ideal.Gen

/-- The reference's result, entry by entry. -/
theorem down_ref (u : FVec Ideal S8192x16384 .bf16) (w : FVec Ideal S4x16384x4096 .bf16) (x : FVec Ideal S8192x4096 .f32) (g : FVec Ideal S24x1x4096 .f32) :
    shapeCast S8192x4096 (addf (F := Ideal) (φ := .f32) (shapeCast S4x2048x4096 x shapeCasts_S8192x4096_S4x2048x4096)
      (mulf (broadcastInDim S4x2048x4096 ![0, 1, 2] bcast_S4x1x4096_S4x2048x4096_0_1_2 (broadcastInDim S4x1x4096 ![0, 2] bcast_S4x4096_S4x1x4096_0_2
          (shapeCast S4x4096 (extractStridedSlice S4x1x4096 ![0, 5, 0] (shapeCast S4x6x4096 g shapeCasts_S24x1x4096_S4x6x4096) slices_S4x6x4096_S4x1x4096_0_5_0) shapeCasts_S4x1x4096_S4x4096)))
        (shapeCast S4x2048x4096 (Host.dotGeneral dot_S8192x16384_S16384x4096_S8192x4096_1_0_0_1_n_n none (extf .f32 u bitsLt_bf16_f32)
          (extf .f32 (shapeCast S16384x4096 (extractStridedSlice S1x16384x4096 ![0, 0, 0] w slices_S4x16384x4096_S1x16384x4096_0_0_0) shapeCasts_S1x16384x4096_S16384x4096) bitsLt_bf16_f32)) shapeCasts_S8192x4096_S4x2048x4096)))
      shapeCasts_S4x2048x4096_S8192x4096 = Cert.Kernel3Ideal.Down.G u w x g := by
  funext i
  pointwise [Cert.Kernel3Ideal.Down.G]

/-- The claim: kernel and reference compute the same array over the extended reals. -/
theorem down : Cert.algebraic_Kernel3Ideal_Reference3Ideal := by
  intro m g m' g' _ hm
  refine ⟨fun c => Cert.Kernel3Ideal.Down.G (m (c.tc.loc Cert.Kernel3Ideal.main_arg0)) (m (c.tc.loc Cert.Kernel3Ideal.main_arg1)) (m (c.tc.loc Cert.Kernel3Ideal.main_arg2)) (m (c.tc.loc Cert.Kernel3Ideal.main_arg3)), ?_, ?_⟩
  · exact (θ_run Cert.Kernel3Ideal.defs _ _).mono (fun r h c => ⟨(h c).1.trans (Cert.Kernel3Ideal.Down.final m c), (h c).2⟩)
      (Cert.Kernel3Ideal.Value.run m g)
  · refine (θ_run Cert.Reference3Ideal.defs _ _).mono (fun r h c => ⟨(h c).1.trans ?_, (h c).2⟩) (Cert.Reference3Ideal.Value.run m' g')
    rw [(hm c).1, (hm c).2.1, (hm c).2.2.1, (hm c).2.2.2]
    exact down_ref _ _ _ _

end Cert.Proof
-- ==== Proof.OutProj.lean ====
/- The value of the output projection with its gated residual: every entry of the kernel's result array is `x` plus the
   gate times the row of the two mixers' outputs, laid side by side, times the column of the first layer of `w_out`, and
   so is the reference's. The kernel multiplies each mixer's output with its own half of the weight's rows. -/
module

public import proofs.«01_k».proof.Defs
public import proofs.«01_k».proof.Proof.Gen.Kernel4Ideal.Value
public import proofs.«01_k».proof.Proof.Gen.Reference4Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

noncomputable section

open Idealize.ShloMosaic Idealize.ShloMosaic.TcCoe Idealize.SL.Sem

namespace Cert.Kernel4Ideal.OutProj

open Cert.Kernel4Ideal Cert.Kernel4Ideal.Gen Cert.Kernel4Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The blocks the grid visits: row block `t / 8`, column block `t % 8`, the gate of the row block's sequence. -/
theorem idx : ∀ t : Fin cfg0.N, (win0_0.index t (0 : Fin 2) = t.val / 8 ∧ win0_0.index t (1 : Fin 2) = 0)
    ∧ (win0_1.index t (0 : Fin 2) = t.val / 8 ∧ win0_1.index t (1 : Fin 2) = 0)
    ∧ (win0_2.index t (0 : Fin 3) = 0 ∧ win0_2.index t (1 : Fin 3) = 0 ∧ win0_2.index t (2 : Fin 3) = t.val % 8)
    ∧ (win0_3.index t (0 : Fin 2) = t.val / 8 ∧ win0_3.index t (1 : Fin 2) = t.val % 8)
    ∧ (win0_4.index t (0 : Fin 3) = t.val / 8 / 2 * 6 + 2 ∧ win0_4.index t (1 : Fin 3) = 0 ∧ win0_4.index t (2 : Fin 3) = t.val % 8)
    ∧ (win0_5.index t (0 : Fin 2) = t.val / 8 ∧ win0_5.index t (1 : Fin 2) = t.val % 8) :=
  (by decide +kernel : ∀ t : Fin grid0.N, _)

abbrev oArr (c : Dev nD) : Vec Ideal S8192x2048 .bf16 := m ((c : Thread nD τ).loc main_arg0)
abbrev pArr (c : Dev nD) : Vec Ideal S8192x2048 .bf16 := m ((c : Thread nD τ).loc main_arg1)
abbrev wArr (c : Dev nD) : Vec Ideal S2x4096x4096 .f32 := m ((c : Thread nD τ).loc main_arg2)
abbrev xArr (c : Dev nD) : Vec Ideal S8192x4096 .f32 := m ((c : Thread nD τ).loc main_arg3)
abbrev gArr (c : Dev nD) : Vec Ideal S24x1x4096 .f32 := m ((c : Thread nD τ).loc main_arg4)

/-- The result the call leaves: `x` plus gate chunk 2 of the row's sequence times the two products' sum. -/
def G (o p : Vec Ideal S8192x2048 .bf16) (w : Vec Ideal S2x4096x4096 .f32) (x : Vec Ideal S8192x4096 .f32) (g : Vec Ideal S24x1x4096 .f32) :
    Vec Ideal S8192x4096 .f32 := fun i =>
  (x i + g (ix3 (⟨(i 0).val / 2048 * 6 + 2, by have h : (i 0).val < 8192 := (i 0).isLt; omega⟩ : Fin 24) (0 : Fin 1) (i 1))
    * ((∑ k : Fin 2048, o (ix2 (i 0) k) * w (ix3 (0 : Fin 2) (⟨k.val, by have := k.isLt; omega⟩ : Fin 4096) (i 1)))
      + ∑ k : Fin 2048, p (ix2 (i 0) k) * w (ix3 (0 : Fin 2) (⟨2048 + k.val, by have := k.isLt; omega⟩ : Fin 4096) (i 1))) : EReal)

/-- The weight's array when the region is entered: the argument, its rounding the identity over the extended reals. -/
theorem V_w (c : Dev nD) : V m c main_v0 = (truncf (F := Ideal) .bf16 (wArr m c) bitsLt_bf16_f32 : Vec Ideal S2x4096x4096 .bf16) := by
  unfold_abbrev_sides
  after_results

/-- A block of the first mixer's output. -/
theorem rows (c : Dev nD) (t : Fin cfg0.N) (y : S1024x2048.Idx) (i : Fin 8192) (hi : i.val = t.val / 8 * 1024 + (y 0).val) :
    iblk m c 0 t y = oArr m c (ix2 i (y 1)) := by
  obtain ⟨⟨e0, e1⟩, -⟩ := idx t
  unfold oArr
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 2048 + 1 * (y 1).val = (y 1).val; omega

/-- A block of the second mixer's output. -/
theorem rows' (c : Dev nD) (t : Fin cfg0.N) (y : S1024x2048.Idx) (i : Fin 8192) (hi : i.val = t.val / 8 * 1024 + (y 0).val) :
    iblk m c 1 t y = pArr m c (ix2 i (y 1)) := by
  obtain ⟨-, ⟨e0, e1⟩, -⟩ := idx t
  unfold pArr
  rw [← V_main_arg1 m c]
  show V m c main_arg1 (((cfg0.win 1).blk t).view.emb y) = _
  congr 1; funext a; apply Fin.ext
  match a with
  | ⟨0, _⟩ => show win0_1.index t (0 : Fin 2) * 1024 + 1 * (y 0).val = i.val; omega
  | ⟨1, _⟩ => show win0_1.index t (1 : Fin 2) * 2048 + 1 * (y 1).val = (y 1).val; omega

/-- A block of columns of layer 0 of `w_out`. -/
theorem cols (c : Dev nD) (t : Fin cfg0.N) (y : S1x4096x512.Idx) (k j : Fin 4096) (hk : k.val = (y 1).val)
    (hj : j.val = t.val % 8 * 512 + (y 2).val) :
    iblk m c 2 t y = wArr m c (ix3 (0 : Fin 2) k j) := by
  obtain ⟨-, -, ⟨e0, e1, e2⟩, -⟩ := idx t
  show V m c main_v0 (((cfg0.win 2).blk t).view.emb y) = _
  rw [V_w m c]
  show wArr m c (((cfg0.win 2).blk t).view.emb y) = _
  congr 1; funext a; apply Fin.ext
  have h0 : (y 0).val < 1 := (y 0).isLt
  match a with
  | ⟨0, _⟩ => show win0_2.index t (0 : Fin 3) * 1 + 1 * (y 0).val = 0; omega
  | ⟨1, _⟩ => show win0_2.index t (1 : Fin 3) * 4096 + 1 * (y 1).val = k.val; omega
  | ⟨2, _⟩ => show win0_2.index t (2 : Fin 3) * 512 + 1 * (y 2).val = j.val; omega

/-- A block of the residual. -/
theorem resid (c : Dev nD) (t : Fin cfg0.N) (y : S1024x512.Idx) (i : S8192x4096.Idx)
    (hi : (i 0).val = t.val / 8 * 1024 + (y 0).val) (hj : (i 1).val = t.val % 8 * 512 + (y 1).val) :
    iblk m c 3 t y = xArr m c i := by
  obtain ⟨-, -, -, ⟨e0, e1⟩, -⟩ := idx t
  unfold xArr
  rw [← V_main_arg3 m c]
  show V m c main_arg3 (((cfg0.win 3).blk t).view.emb y) = _
  congr 1; funext a; apply Fin.ext
  match a with
  | ⟨0, _⟩ => show win0_3.index t (0 : Fin 2) * 1024 + 1 * (y 0).val = (i 0).val; omega
  | ⟨1, _⟩ => show win0_3.index t (1 : Fin 2) * 512 + 1 * (y 1).val = (i 1).val; omega

/-- A block of the gates. -/
theorem gate (c : Dev nD) (t : Fin cfg0.N) (y : S1x1x512.Idx) (b : Fin 24) (j : Fin 4096)
    (hb : b.val = t.val / 8 / 2 * 6 + 2) (hj : j.val = t.val % 8 * 512 + (y 2).val) :
    iblk m c 4 t y = gArr m c (ix3 b (0 : Fin 1) j) := by
  obtain ⟨-, -, -, -, ⟨e0, e1, e2⟩, -⟩ := idx t
  unfold gArr
  rw [← V_main_arg4 m c]
  show V m c main_arg4 (((cfg0.win 4).blk t).view.emb y) = _
  congr 1; funext a; apply Fin.ext
  have h0 : (y 0).val < 1 := (y 0).isLt
  have h1 : (y 1).val < 1 := (y 1).isLt
  match a with
  | ⟨0, _⟩ => show win0_4.index t (0 : Fin 3) * 1 + 1 * (y 0).val = b.val; omega
  | ⟨1, _⟩ => show win0_4.index t (1 : Fin 3) * 1 + 1 * (y 1).val = 0; omega
  | ⟨2, _⟩ => show win0_4.index t (2 : Fin 3) * 512 + 1 * (y 2).val = j.val; omega

/-- The payload of the one store, entry by entry. -/
theorem pay_apply (x : Vec Ideal S1024x2048 .bf16) (w : Vec Ideal S1x2048x512 .bf16) (x' : Vec Ideal S1024x2048 .bf16) (w' : Vec Ideal S1x2048x512 .bf16)
    (r : Vec Ideal S1024x512 .f32) (g : Vec Ideal S1x1x512 .f32) (y : S1024x512.Idx) :
    k0_pay1 x w x' w' r g y = (r y + g (ix3 (0 : Fin 1) (0 : Fin 1) (y 1))
      * ((∑ k : Fin 2048, x (ix2 (y 0) k) * w (ix3 (0 : Fin 1) k (y 1))) + ∑ k : Fin 2048, x' (ix2 (y 0) k) * w' (ix3 (0 : Fin 1) k (y 1))) : EReal) := by
  pointwise [k0_pay1]

/-- What each point writes back is its block of `G`. -/
theorem flushed_eq (c : Dev nD) (t : Fin cfg0.N) : (dats m 0 c).flushed 5 t
    = ((cfg0.win 5).blk t).view.read (Elt Ideal) (G (oArr m c) (pArr m c) (wArr m c) (xArr m c) (gArr m c)) := by
  rw [flushed5]
  funext y
  obtain ⟨-, -, -, -, -, e0, e1⟩ := idx t
  have h0 : (((cfg0.win 5).blk t).view.emb y 0).val = t.val / 8 * 1024 + (y 0).val := by
    show win0_5.index t (0 : Fin 2) * 1024 + 1 * (y 0).val = _; omega
  have h1 : (((cfg0.win 5).blk t).view.emb y 1).val = t.val % 8 * 512 + (y 1).val := by
    show win0_5.index t (1 : Fin 2) * 512 + 1 * (y 1).val = _; omega
  have hy : (y 0).val < 1024 := (y 0).isLt
  show out0_5 (iblk m c 0 t) (iblk m c 1 t) (iblk m c 2 t) (iblk m c 3 t) (iblk m c 4 t) y = G _ _ _ _ _ (((cfg0.win 5).blk t).view.emb y)
  unfold out0_5
  rw [View.canon_unit_zero zero2, View.ld_unit_zero (S := S1024x2048) zero2, View.ld_unit_zero (S := S1024x2048) zero2,
    View.ld_unit_zero (S := S1024x512) zero2, View.ld_unit_zero (S := S1x1x512) zero3, pay_apply]
  unfold G
  refine congrArg₂ (fun p q : EReal => p + q) (resid m c t y _ h0 h1) (congrArg₂ (fun p q : EReal => p * q)
    (gate m c t (ix3 (0 : Fin 1) (0 : Fin 1) (y 1)) _ _ ?_ h1) (congrArg₂ (fun p q : EReal => p + q)
      (Finset.sum_congr rfl fun k _ => congrArg₂ (fun p q : EReal => p * q) (rows m c t (ix2 (y 0) k) _ h0) ?_)
      (Finset.sum_congr rfl fun k _ => congrArg₂ (fun p q : EReal => p * q) (rows' m c t (ix2 (y 0) k) _ h0) ?_)))
  · show (((cfg0.win 5).blk t).view.emb y 0).val / 2048 * 6 + 2 = t.val / 8 / 2 * 6 + 2; omega
  · refine cols m c t (r0_1.idx (ix3 (0 : Fin 1) k (y 1))) _ _ ?_ ?_
    · show k.val = 0 + 1 * k.val; omega
    · rw [h1]; show _ = t.val % 8 * 512 + (0 + 1 * (y 1).val); omega
  · refine cols m c t (r0_2.idx (ix3 (0 : Fin 1) k (y 1))) _ _ ?_ ?_
    · show 2048 + k.val = 2048 + 1 * k.val; omega
    · rw [h1]; show _ = t.val % 8 * 512 + (0 + 1 * (y 1).val); omega

/-- An entry is in point `t`'s block iff each coordinate is in the block's range. -/
theorem mem_blk (t : Fin cfg0.N) (i : S8192x4096.Idx) :
    i ∈ ((cfg0.win 5).blk t).view.set ↔ ∀ a : Fin 2, win0_5.index t a * S1024x512.size a ≤ (i a).val ∧ (i a).val < win0_5.index t a * S1024x512.size a + S1024x512.size a := by
  show i ∈ ((View.whole main_v1).slice (win0_5.rect t)).set ↔ _
  rw [View.set_slice_whole, Rect.mem_set_unit]
  exact Iff.rfl

/-- Every entry of the result array is in the block some point writes back. -/
theorem cover (i : S8192x4096.Idx) : ∃ t : Fin cfg0.N, (cfg0.win 5).flush t = true ∧ i ∈ ((cfg0.win 5).blk t).view.set := by
  have hi0 : (i 0).val < 8192 := (i 0).isLt
  have hi1 : (i 1).val < 4096 := (i 1).isLt
  have hN : cfg0.N = 64 := N_0
  refine ⟨⟨8 * ((i 0).val / 1024) + (i 1).val / 512, by omega⟩, flush0_5 _, ?_⟩
  obtain ⟨-, -, -, -, -, e0, e1⟩ := idx ⟨8 * ((i 0).val / 1024) + (i 1).val / 512, by omega⟩
  rw [mem_blk]
  intro a
  match a with
  | ⟨0, _⟩ => show win0_5.index _ (0 : Fin 2) * 1024 ≤ (i 0).val ∧ (i 0).val < win0_5.index _ (0 : Fin 2) * 1024 + 1024; rw [e0]; dsimp only; omega
  | ⟨1, _⟩ => show win0_5.index _ (1 : Fin 2) * 512 ≤ (i 1).val ∧ (i 1).val < win0_5.index _ (1 : Fin 2) * 512 + 512; rw [e1]; dsimp only; omega

/-- The array after the run is `G` of the arguments. -/
theorem final (c : Dev nD) : (dats m 0 c).arrAt 5 cfg0.N = G (oArr m c) (pArr m c) (wArr m c) (xArr m c) (gArr m c) :=
  (dats m 0 c).arrAt_eq_of_cover 5 _ (fun t _ => flushed_eq m c t) cover

end Cert.Kernel4Ideal.OutProj

namespace Cert.Proof

open Cert.Reference4Ideal Cert.Reference4Ideal.Gen

/-- The reference's result, entry by entry: its one sum over both outputs is the sum of the two halves. -/
theorem out_ref (o p : FVec Ideal S8192x2048 .bf16) (w : FVec Ideal S2x4096x4096 .f32) (x : FVec Ideal S8192x4096 .f32) (g : FVec Ideal S24x1x4096 .f32) :
    shapeCast S8192x4096 (addf (F := Ideal) (φ := .f32) (shapeCast S4x2048x4096 x shapeCasts_S8192x4096_S4x2048x4096)
      (mulf (broadcastInDim S4x2048x4096 ![0, 1, 2] bcast_S4x1x4096_S4x2048x4096_0_1_2 (broadcastInDim S4x1x4096 ![0, 2] bcast_S4x4096_S4x1x4096_0_2
          (shapeCast S4x4096 (extractStridedSlice S4x1x4096 ![0, 2, 0] (shapeCast S4x6x4096 g shapeCasts_S24x1x4096_S4x6x4096) slices_S4x6x4096_S4x1x4096_0_2_0) shapeCasts_S4x1x4096_S4x4096)))
        (Host.dotGeneral dot_S4x2048x4096_S4096x4096_S4x2048x4096_2_0_01_1_n_n none
          (concatenate S4x2048x4096 2 [⟨S4x2048x2048, shapeCast S4x2048x2048 (extf .f32 o bitsLt_bf16_f32) shapeCasts_S8192x2048_S4x2048x2048⟩,
            ⟨S4x2048x2048, shapeCast S4x2048x2048 (extf .f32 p bitsLt_bf16_f32) shapeCasts_S8192x2048_S4x2048x2048⟩] concatenates_S4x2048x2048_S4x2048x2048_S4x2048x4096_d2)
          (shapeCast S4096x4096 (extractStridedSlice S1x4096x4096 ![0, 0, 0] w slices_S2x4096x4096_S1x4096x4096_0_0_0) shapeCasts_S1x4096x4096_S4096x4096))))
      shapeCasts_S4x2048x4096_S8192x4096 = Cert.Kernel4Ideal.OutProj.G o p w x g := by
  funext i
  pointwise [Cert.Kernel4Ideal.OutProj.G]

/-- The claim: kernel and reference compute the same array over the extended reals. -/
theorem out_projection : Cert.algebraic_Kernel4Ideal_Reference4Ideal := by
  intro m g m' g' _ hm
  refine ⟨fun c => Cert.Kernel4Ideal.OutProj.G (m (c.tc.loc Cert.Kernel4Ideal.main_arg0)) (m (c.tc.loc Cert.Kernel4Ideal.main_arg1)) (m (c.tc.loc Cert.Kernel4Ideal.main_arg2)) (m (c.tc.loc Cert.Kernel4Ideal.main_arg3)) (m (c.tc.loc Cert.Kernel4Ideal.main_arg4)), ?_, ?_⟩
  · exact (θ_run Cert.Kernel4Ideal.defs _ _).mono (fun r h c => ⟨(h c).1.trans (Cert.Kernel4Ideal.OutProj.final m c), (h c).2⟩)
      (Cert.Kernel4Ideal.Value.run_blocks m g)
  · refine (θ_run Cert.Reference4Ideal.defs _ _).mono (fun r h c => ⟨(h c).1.trans ?_, (h c).2⟩) (Cert.Reference4Ideal.Value.run m' g')
    rw [(hm c).1, (hm c).2.1, (hm c).2.2.1, (hm c).2.2.2.1, (hm c).2.2.2.2]
    exact out_ref _ _ _ _ _

end Cert.Proof
-- ==== Proof.InOdd.lean ====
/- The value of the odd layers' input projection: every entry of the kernel's result array is the row of `h` times a
   column of the first layer of `w_in_odd`, the columns in the order the attention kernels read them, and so is the
   reference's. The kernel reorders the weight's columns, the reference the product's. -/
module

public import proofs.«01_k».proof.Defs
public import proofs.«01_k».proof.Proof.Gen.Kernel5Ideal.Value
public import proofs.«01_k».proof.Proof.Gen.Reference5Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

noncomputable section

open Idealize.ShloMosaic Idealize.ShloMosaic.TcCoe Idealize.SL.Sem

namespace Cert.Kernel5Ideal.InOdd

open Cert.Kernel5Ideal Cert.Kernel5Ideal.Gen Cert.Kernel5Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The weight's column that result column `j` takes: both mixers' queries first, then their keys and values. -/
def col (j : Fin 4608) : Fin 4608 :=
  if _ : j.val < 2048 then j
  else if _ : j.val < 4096 then ⟨j.val + 256, by omega⟩
  else if _ : j.val < 4352 then ⟨j.val - 2048, by omega⟩
  else j

theorem col_val (j : Fin 4608) : (j.val < 2048 ∧ (col j).val = j.val) ∨ (2048 ≤ j.val ∧ j.val < 4096 ∧ (col j).val = j.val + 256)
    ∨ (4096 ≤ j.val ∧ j.val < 4352 ∧ (col j).val = j.val - 2048) ∨ (4352 ≤ j.val ∧ (col j).val = j.val) := by
  unfold col
  split
  · omega
  split
  · dsimp only; omega
  split
  · dsimp only; omega
  · omega

/-- The result the call leaves. -/
def G (h : Vec Ideal S8192x4096 .bf16) (w : Vec Ideal S2x4096x4608 .f32) : Vec Ideal S8192x4608 .f32 := fun i =>
  (∑ k : Fin 4096, h (ix2 (i 0) k) * w (ix3 (0 : Fin 2) k (col (i 1))) : EReal)

/-- The weight with its columns in the result's order. -/
def wcat (w : Vec Ideal S2x4096x4608 .f32) : Vec Ideal S2x4096x4608 .bf16 :=
  truncf (F := Ideal) .bf16 (concatenate S2x4096x4608 2 [⟨S2x4096x2048, extractStridedSlice S2x4096x2048 ![0, 0, 0] w slices_S2x4096x4608_S2x4096x2048_0_0_0⟩,
    ⟨S2x4096x2048, extractStridedSlice S2x4096x2048 ![0, 0, 2304] w slices_S2x4096x4608_S2x4096x2048_0_0_2304⟩,
    ⟨S2x4096x256, extractStridedSlice S2x4096x256 ![0, 0, 2048] w slices_S2x4096x4608_S2x4096x256_0_0_2048⟩,
    ⟨S2x4096x256, extractStridedSlice S2x4096x256 ![0, 0, 4352] w slices_S2x4096x4608_S2x4096x256_0_0_4352⟩]
    concatenates_S2x4096x2048_S2x4096x2048_S2x4096x256_S2x4096x256_S2x4096x4608_d2 : FVec Ideal S2x4096x4608 .f32) bitsLt_bf16_f32

/-- The weight's array when the region is entered. -/
theorem V_w (c : Dev nD) : V m c main_v5 = wcat (m ((c : Thread nD τ).loc main_arg1)) := by
  unfold_abbrev_sides
  after_results
  rfl

/-- The reordered weight, entry by entry. -/
theorem wcat_apply (w : Vec Ideal S2x4096x4608 .f32) (l : Fin 2) (k : Fin 4096) (j : Fin 4608) :
    wcat w (ix3 l k j) = w (ix3 l k (col j)) := by
  pointwise [wcat]
  split_ifs <;> exact congrArg (fun q => w (ix3 l k q)) (Fin.ext (by have := col_val j; first | omega | (dsimp only; omega)))

/-- The blocks the grid visits: row block `t / 6`, column block `t % 6`. -/
theorem idx : ∀ t : Fin cfg0.N, (win0_0.index t (0 : Fin 2) = t.val / 6 ∧ win0_0.index t (1 : Fin 2) = 0)
    ∧ (win0_1.index t (0 : Fin 3) = 0 ∧ win0_1.index t (1 : Fin 3) = 0 ∧ win0_1.index t (2 : Fin 3) = t.val % 6)
    ∧ (win0_2.index t (0 : Fin 2) = t.val / 6 ∧ win0_2.index t (1 : Fin 2) = t.val % 6) :=
  (by decide +kernel : ∀ t : Fin grid0.N, _)

/-- A block of the result, entry by entry, from the block of rows and the block of columns. -/
theorem out_apply (x : Vec Ideal S1024x4096 .bf16) (w : Vec Ideal S1x4096x768 .bf16) (y : S1024x768.Idx) :
    out0_2 x w y = (∑ k : Fin 4096, x (ix2 (y 0) k) * w (ix3 (0 : Fin 1) k (y 1)) : EReal) := by
  unfold out0_2
  rw [View.canon_unit_zero zero2, View.ld_unit_zero (S := S1024x4096) zero2, View.ld_unit_zero (S := S1x4096x768) zero3]
  pointwise [k0_pay1]

/-- The block of rows at point `t`. -/
theorem rows (c : Dev nD) (t : Fin cfg0.N) (y : S1024x4096.Idx) (i : Fin 8192) (hi : i.val = t.val / 6 * 1024 + (y 0).val) :
    iblk m c 0 t y = m ((c : Thread nD τ).loc main_arg0) (ix2 i (y 1)) := by
  obtain ⟨⟨e0, e1⟩, -, -⟩ := idx t
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 4096 + 1 * (y 1).val = (y 1).val; omega

/-- The block of columns at point `t`. -/
theorem cols (c : Dev nD) (t : Fin cfg0.N) (k : Fin 4096) (q : Fin 768) (j : Fin 4608) (hj : j.val = t.val % 6 * 768 + q.val) :
    iblk m c 1 t (ix3 (0 : Fin 1) k q : S1x4096x768.Idx) = wcat (m ((c : Thread nD τ).loc main_arg1)) (ix3 (0 : Fin 2) k j) := by
  obtain ⟨-, ⟨e0, e1, e2⟩, -⟩ := idx t
  rw [← V_w m c]
  show V m c main_v5 (((cfg0.win 1).blk t).view.emb (ix3 (0 : Fin 1) k q : S1x4096x768.Idx)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 768 + 1 * q.val = j.val; omega

/-- What each point writes back is its block of `G`. -/
theorem flushed_eq (c : Dev nD) (t : Fin cfg0.N) : (dats m 0 c).flushed 2 t
    = ((cfg0.win 2).blk t).view.read (Elt Ideal) (G (m ((c : Thread nD τ).loc main_arg0)) (m ((c : Thread nD τ).loc main_arg1))) := by
  rw [flushed2]
  funext y
  obtain ⟨-, -, e0, e1⟩ := idx t
  have h0 : (((cfg0.win 2).blk t).view.emb y 0).val = t.val / 6 * 1024 + (y 0).val := by
    show win0_2.index t (0 : Fin 2) * 1024 + 1 * (y 0).val = _; omega
  have h1 : (((cfg0.win 2).blk t).view.emb y 1).val = t.val % 6 * 768 + (y 1).val := by
    show win0_2.index t (1 : Fin 2) * 768 + 1 * (y 1).val = _; omega
  show out0_2 (iblk m c 0 t) (iblk m c 1 t) y = G _ _ (((cfg0.win 2).blk t).view.emb y)
  rw [out_apply]
  unfold G
  exact Finset.sum_congr rfl fun k _ => congrArg₂ (fun a b : EReal => a * b) (rows m c t (ix2 (y 0) k) _ h0)
    ((cols m c t k (y 1) _ h1).trans (wcat_apply _ _ _ _))

/-- An entry is in point `t`'s block iff each coordinate is in the block's range. -/
theorem mem_blk (t : Fin cfg0.N) (i : S8192x4608.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v6).slice (win0_2.rect t)).set ↔ _
  rw [View.set_slice_whole, Rect.mem_set_unit]
  exact Iff.rfl

/-- Every entry of the result array is in the block some point writes back. -/
theorem cover (i : S8192x4608.Idx) : ∃ t : Fin cfg0.N, (cfg0.win 2).flush t = true ∧ i ∈ ((cfg0.win 2).blk t).view.set := by
  have hi0 : (i 0).val < 8192 := (i 0).isLt
  have hi1 : (i 1).val < 4608 := (i 1).isLt
  have hN : cfg0.N = 48 := N_0
  refine ⟨⟨6 * ((i 0).val / 1024) + (i 1).val / 768, by omega⟩, flush0_2 _, ?_⟩
  obtain ⟨-, -, e0, e1⟩ := idx ⟨6 * ((i 0).val / 1024) + (i 1).val / 768, by omega⟩
  rw [mem_blk]
  intro a
  match a with
  | ⟨0, _⟩ => show win0_2.index _ (0 : Fin 2) * 1024 ≤ (i 0).val ∧ (i 0).val < win0_2.index _ (0 : Fin 2) * 1024 + 1024; rw [e0]; dsimp only; omega
  | ⟨1, _⟩ => show win0_2.index _ (1 : Fin 2) * 768 ≤ (i 1).val ∧ (i 1).val < win0_2.index _ (1 : Fin 2) * 768 + 768; rw [e1]; dsimp only; omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Cert.Kernel5Ideal.InOdd

namespace Cert.Proof

open Cert.Reference5Ideal Cert.Reference5Ideal.Gen

/-- The reference's product, entry by entry. -/
theorem in_odd_prod (h : FVec Ideal S8192x4096 .bf16) (w : FVec Ideal S2x4096x4608 .f32) (i : Fin 8192) (j : Fin 4608) :
    Host.dotGeneral (F := Ideal) dot_S8192x4096_S4096x4608_S8192x4608_1_0_0_1_n_n none (extf .f32 h bitsLt_bf16_f32)
      (shapeCast _ (extractStridedSlice S1x4096x4608 ![0, 0, 0] w slices_S2x4096x4608_S1x4096x4608_0_0_0) shapeCasts_S1x4096x4608_S4096x4608) (ix2 i j)
    = (∑ k : Fin 4096, h (ix2 i k) * w (ix3 (0 : Fin 2) k j) : EReal) := by
  pointwise

/-- Cutting the product into its six pieces and joining them in the kernel's order is reading it at `col`. -/
theorem in_odd_cut (z : FVec Ideal S8192x4608 .f32) (i : Fin 8192) (j : Fin 4608) :
    (concatenate S8192x4608 1 [⟨S8192x2048, extractStridedSlice S8192x2048 ![0, 0] z slices_S8192x4608_S8192x2048_0_0⟩,
      ⟨S8192x2048, extractStridedSlice S8192x2048 ![0, 2304] z slices_S8192x4608_S8192x2048_0_2304⟩,
      ⟨S8192x128, extractStridedSlice S8192x128 ![0, 2048] z slices_S8192x4608_S8192x128_0_2048⟩,
      ⟨S8192x128, extractStridedSlice S8192x128 ![0, 2176] z slices_S8192x4608_S8192x128_0_2176⟩,
      ⟨S8192x128, extractStridedSlice S8192x128 ![0, 4352] z slices_S8192x4608_S8192x128_0_4352⟩,
      ⟨S8192x128, extractStridedSlice S8192x128 ![0, 4480] z slices_S8192x4608_S8192x128_0_4480⟩]
      concatenates_S8192x2048_S8192x2048_S8192x128_S8192x128_S8192x128_S8192x128_S8192x4608_d1 : FVec Ideal S8192x4608 .f32) (ix2 i j)
    = z (ix2 i (Cert.Kernel5Ideal.InOdd.col j)) := by
  pointwise
  split_ifs <;> exact congrArg (fun q => z (ix2 i q)) (Fin.ext (by have := Cert.Kernel5Ideal.InOdd.col_val j; first | omega | (dsimp only; omega)))

/-- The claim: kernel and reference compute the same array over the extended reals. -/
theorem in_odd : Cert.algebraic_Kernel5Ideal_Reference5Ideal := by
  intro m g m' g' _ hm
  refine ⟨fun c => Cert.Kernel5Ideal.InOdd.G (m (c.tc.loc Cert.Kernel5Ideal.main_arg0)) (m (c.tc.loc Cert.Kernel5Ideal.main_arg1)), ?_, ?_⟩
  · exact (θ_run Cert.Kernel5Ideal.defs _ _).mono (fun r h c => ⟨(h c).1.trans (Cert.Kernel5Ideal.InOdd.final m c), (h c).2⟩)
      (Cert.Kernel5Ideal.Value.run_blocks m g)
  · refine (θ_run Cert.Reference5Ideal.defs _ _).mono (fun r h c => ⟨(h c).1.trans ?_, (h c).2⟩) (Cert.Reference5Ideal.Value.run m' g')
    rw [(hm c).1, (hm c).2]
    funext i
    exact (congrArg _ (eq_ix2 i)).trans ((in_odd_cut _ (i 0) (i 1)).trans (in_odd_prod _ _ _ _))

end Cert.Proof
-- ==== Proof.InEven.lean ====
/- The value of the even layers' input projection: every entry of the kernel's result array is the row of `h` times a
   column of the first layer of `w_in_even`, the columns in the order the attention kernels read them and zeros behind
   them, and so is the reference's. The kernel reorders and widens the weight, the reference the product. -/
module

public import proofs.«01_k».proof.Defs
public import proofs.«01_k».proof.Proof.Gen.Kernel6Ideal.Value
public import proofs.«01_k».proof.Proof.Gen.Reference6Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

noncomputable section

open Idealize.ShloMosaic Idealize.ShloMosaic.TcCoe Idealize.SL.Sem

namespace Cert.Kernel6Ideal.InEven

open Cert.Kernel6Ideal Cert.Kernel6Ideal.Gen Cert.Kernel6Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The weight's column that result column `j` takes (below 3648; the columns behind are zeros): the queries and the
    query latents first, then the keys, values and latents. -/
def col (j : Fin 3840) : Fin 3648 :=
  if _ : j.val < 2048 then ⟨j.val, by omega⟩
  else if _ : j.val < 3072 then ⟨j.val + 256, by omega⟩
  else if _ : j.val < 3328 then ⟨j.val - 1024, by omega⟩
  else if _ : j.val < 3648 then ⟨j.val, by omega⟩
  else ⟨0, by omega⟩

theorem col_val (j : Fin 3840) (hj : j.val < 3648) : (j.val < 2048 ∧ (col j).val = j.val) ∨ (2048 ≤ j.val ∧ j.val < 3072 ∧ (col j).val = j.val + 256)
    ∨ (3072 ≤ j.val ∧ j.val < 3328 ∧ (col j).val = j.val - 1024) ∨ (3328 ≤ j.val ∧ (col j).val = j.val) := by
  unfold col
  split
  · dsimp only; omega
  split
  · dsimp only; omega
  split
  · dsimp only; omega
  · dsimp only; omega

/-- The result the call leaves. -/
def G (h : Vec Ideal S8192x4096 .bf16) (w : Vec Ideal S2x4096x3648 .f32) : Vec Ideal S8192x3840 .f32 := fun i =>
  if (i 1).val < 3648 then (∑ k : Fin 4096, h (ix2 (i 0) k) * w (ix3 (0 : Fin 2) k (col (i 1))) : EReal) else (0 : EReal)

/-- The weight with its columns in the result's order, widened by zeros. -/
def wcat (w : Vec Ideal S2x4096x3648 .f32) : Vec Ideal S2x4096x3840 .bf16 :=
  truncf (F := Ideal) .bf16 (concatenate S2x4096x3840 2 [⟨S2x4096x2048, extractStridedSlice S2x4096x2048 ![0, 0, 0] w slices_S2x4096x3648_S2x4096x2048_0_0_0⟩,
    ⟨S2x4096x1024, extractStridedSlice S2x4096x1024 ![0, 0, 2304] w slices_S2x4096x3648_S2x4096x1024_0_0_2304⟩,
    ⟨S2x4096x256, extractStridedSlice S2x4096x256 ![0, 0, 2048] w slices_S2x4096x3648_S2x4096x256_0_0_2048⟩,
    ⟨S2x4096x320, extractStridedSlice S2x4096x320 ![0, 0, 3328] w slices_S2x4096x3648_S2x4096x320_0_0_3328⟩,
    ⟨S2x4096x192, broadcastInDim S2x4096x192 ![] bcast_S_S2x4096x192 (constant S_ .f32 0x00000000#32)⟩]
    concatenates_S2x4096x2048_S2x4096x1024_S2x4096x256_S2x4096x320_S2x4096x192_S2x4096x3840_d2 : FVec Ideal S2x4096x3840 .f32) bitsLt_bf16_f32

/-- The weight's array when the region is entered. -/
theorem V_w (c : Dev nD) : V m c main_v6 = wcat (m ((c : Thread nD τ).loc main_arg1)) := by
  unfold_abbrev_sides
  after_results
  rfl

/-- The reordered weight, entry by entry. -/
theorem wcat_apply (w : Vec Ideal S2x4096x3648 .f32) (l : Fin 2) (k : Fin 4096) (j : Fin 3840) :
    wcat w (ix3 l k j) = if j.val < 3648 then w (ix3 l k (col j)) else (0 : EReal) := by
  pointwise [wcat]
  by_cases hj : j.val < 3648
  · rw [if_pos hj]
    split_ifs <;> first | exact congrArg (fun q => w (ix3 l k q)) (Fin.ext (by have := col_val j hj; first | omega | (dsimp only; omega))) | omega
  · rw [if_neg hj]
    split_ifs <;> first | rfl | omega

/-- The blocks the grid visits: row block `t / 5`, column block `t % 5`. -/
theorem idx : ∀ t : Fin cfg0.N, (win0_0.index t (0 : Fin 2) = t.val / 5 ∧ win0_0.index t (1 : Fin 2) = 0)
    ∧ (win0_1.index t (0 : Fin 3) = 0 ∧ win0_1.index t (1 : Fin 3) = 0 ∧ win0_1.index t (2 : Fin 3) = t.val % 5)
    ∧ (win0_2.index t (0 : Fin 2) = t.val / 5 ∧ win0_2.index t (1 : Fin 2) = t.val % 5) :=
  (by decide +kernel : ∀ t : Fin grid0.N, _)

/-- A block of the result, entry by entry, from the block of rows and the block of columns. -/
theorem out_apply (x : Vec Ideal S1024x4096 .bf16) (w : Vec Ideal S1x4096x768 .bf16) (y : S1024x768.Idx) :
    out0_2 x w y = (∑ k : Fin 4096, x (ix2 (y 0) k) * w (ix3 (0 : Fin 1) k (y 1)) : EReal) := by
  unfold out0_2
  rw [View.canon_unit_zero zero2, View.ld_unit_zero (S := S1024x4096) zero2, View.ld_unit_zero (S := S1x4096x768) zero3]
  pointwise [k0_pay1]

/-- The block of rows at point `t`. -/
theorem rows (c : Dev nD) (t : Fin cfg0.N) (y : S1024x4096.Idx) (i : Fin 8192) (hi : i.val = t.val / 5 * 1024 + (y 0).val) :
    iblk m c 0 t y = m ((c : Thread nD τ).loc main_arg0) (ix2 i (y 1)) := by
  obtain ⟨⟨e0, e1⟩, -, -⟩ := idx t
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 4096 + 1 * (y 1).val = (y 1).val; omega

/-- The block of columns at point `t`. -/
theorem cols (c : Dev nD) (t : Fin cfg0.N) (k : Fin 4096) (q : Fin 768) (j : Fin 3840) (hj : j.val = t.val % 5 * 768 + q.val) :
    iblk m c 1 t (ix3 (0 : Fin 1) k q : S1x4096x768.Idx) = wcat (m ((c : Thread nD τ).loc main_arg1)) (ix3 (0 : Fin 2) k j) := by
  obtain ⟨-, ⟨e0, e1, e2⟩, -⟩ := idx t
  rw [← V_w m c]
  show V m c main_v6 (((cfg0.win 1).blk t).view.emb (ix3 (0 : Fin 1) k q : S1x4096x768.Idx)) = _
  congr 1; funext a; apply Fin.ext
  match a with
  | ⟨0, _⟩ => show win0_1.index t (0 : Fin 3) * 1 + 1 * 0 = 0; omega
  | ⟨1, _⟩ => show win0_1.index t (1 : Fin 3) * 4096 + 1 * k.val = k.val; omega
  | ⟨2, _⟩ => show win0_1.index t (2 : Fin 3) * 768 + 1 * q.val = j.val; omega

/-- What each point writes back is its block of `G`. -/
theorem flushed_eq (c : Dev nD) (t : Fin cfg0.N) : (dats m 0 c).flushed 2 t
    = ((cfg0.win 2).blk t).view.read (Elt Ideal) (G (m ((c : Thread nD τ).loc main_arg0)) (m ((c : Thread nD τ).loc main_arg1))) := by
  rw [flushed2]
  funext y
  obtain ⟨-, -, e0, e1⟩ := idx t
  have h0 : (((cfg0.win 2).blk t).view.emb y 0).val = t.val / 5 * 1024 + (y 0).val := by
    show win0_2.index t (0 : Fin 2) * 1024 + 1 * (y 0).val = _; omega
  have h1 : (((cfg0.win 2).blk t).view.emb y 1).val = t.val % 5 * 768 + (y 1).val := by
    show win0_2.index t (1 : Fin 2) * 768 + 1 * (y 1).val = _; omega
  show out0_2 (iblk m c 0 t) (iblk m c 1 t) y = G _ _ (((cfg0.win 2).blk t).view.emb y)
  rw [out_apply]
  have e : (∑ k : Fin 4096, (show Vec Ideal S1024x4096 .bf16 from iblk m c 0 t) (ix2 (y 0) k) * (show Vec Ideal S1x4096x768 .bf16 from iblk m c 1 t) (ix3 (0 : Fin 1) k (y 1)) : EReal) = _ :=
    Finset.sum_congr rfl fun k _ => congrArg₂ (fun a b : EReal => a * b) (rows m c t (ix2 (y 0) k) _ h0)
      ((cols m c t k (y 1) _ h1).trans (wcat_apply _ _ _ _))
  refine e.trans ?_
  unfold G
  by_cases hj : (((cfg0.win 2).blk t).view.emb y 1).val < 3648
  · simp only [if_pos hj]; rfl
  · simp only [if_neg hj, mul_zero, Finset.sum_const_zero]

/-- An entry is in point `t`'s block iff each coordinate is in the block's range. -/
theorem mem_blk (t : Fin cfg0.N) (i : S8192x3840.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v7).slice (win0_2.rect t)).set ↔ _
  rw [View.set_slice_whole, Rect.mem_set_unit]
  exact Iff.rfl

/-- Every entry of the result array is in the block some point writes back. -/
theorem cover (i : S8192x3840.Idx) : ∃ t : Fin cfg0.N, (cfg0.win 2).flush t = true ∧ i ∈ ((cfg0.win 2).blk t).view.set := by
  have hi0 : (i 0).val < 8192 := (i 0).isLt
  have hi1 : (i 1).val < 3840 := (i 1).isLt
  have hN : cfg0.N = 40 := N_0
  refine ⟨⟨5 * ((i 0).val / 1024) + (i 1).val / 768, by omega⟩, flush0_2 _, ?_⟩
  obtain ⟨-, -, e0, e1⟩ := idx ⟨5 * ((i 0).val / 1024) + (i 1).val / 768, by omega⟩
  rw [mem_blk]
  intro a
  match a with
  | ⟨0, _⟩ => show win0_2.index _ (0 : Fin 2) * 1024 ≤ (i 0).val ∧ (i 0).val < win0_2.index _ (0 : Fin 2) * 1024 + 1024; rw [e0]; dsimp only; omega
  | ⟨1, _⟩ => show win0_2.index _ (1 : Fin 2) * 768 ≤ (i 1).val ∧ (i 1).val < win0_2.index _ (1 : Fin 2) * 768 + 768; rw [e1]; dsimp only; omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Cert.Kernel6Ideal.InEven

namespace Cert.Proof

open Cert.Reference6Ideal Cert.Reference6Ideal.Gen

/-- The reference's product, entry by entry. -/
theorem in_even_prod (h : FVec Ideal S8192x4096 .bf16) (w : FVec Ideal S2x4096x3648 .f32) (i : Fin 8192) (j : Fin 3648) :
    Host.dotGeneral (F := Ideal) dot_S8192x4096_S4096x3648_S8192x3648_1_0_0_1_n_n none (extf .f32 h bitsLt_bf16_f32)
      (shapeCast _ (extractStridedSlice S1x4096x3648 ![0, 0, 0] w slices_S2x4096x3648_S1x4096x3648_0_0_0) shapeCasts_S1x4096x3648_S4096x3648) (ix2 i j)
    = (∑ k : Fin 4096, h (ix2 i k) * w (ix3 (0 : Fin 2) k j) : EReal) := by
  pointwise

/-- Cutting the product into its six pieces and joining them in the kernel's order, zeros behind, is reading it at `col`. -/
theorem in_even_cut (z : FVec Ideal S8192x3648 .f32) (i : Fin 8192) (j : Fin 3840) :
    (concatenate S8192x3840 1 [⟨S8192x2048, extractStridedSlice S8192x2048 ![0, 0] z slices_S8192x3648_S8192x2048_0_0⟩,
      ⟨S8192x1024, extractStridedSlice S8192x1024 ![0, 2304] z slices_S8192x3648_S8192x1024_0_2304⟩,
      ⟨S8192x128, extractStridedSlice S8192x128 ![0, 2048] z slices_S8192x3648_S8192x128_0_2048⟩,
      ⟨S8192x128, extractStridedSlice S8192x128 ![0, 2176] z slices_S8192x3648_S8192x128_0_2176⟩,
      ⟨S8192x256, extractStridedSlice S8192x256 ![0, 3328] z slices_S8192x3648_S8192x256_0_3328⟩,
      ⟨S8192x64, extractStridedSlice S8192x64 ![0, 3584] z slices_S8192x3648_S8192x64_0_3584⟩,
      ⟨S8192x192, broadcastInDim S8192x192 ![] bcast_S_S8192x192 (constant S_ .f32 0x00000000#32)⟩]
      concatenates_S8192x2048_S8192x1024_S8192x128_S8192x128_S8192x256_S8192x64_S8192x192_S8192x3840_d1 : FVec Ideal S8192x3840 .f32) (ix2 i j)
    = if j.val < 3648 then z (ix2 i (Cert.Kernel6Ideal.InEven.col j)) else (0 : EReal) := by
  pointwise
  by_cases hj : j.val < 3648
  · rw [if_pos hj]
    split_ifs <;> first | exact congrArg (fun q => z (ix2 i q)) (Fin.ext (by have := Cert.Kernel6Ideal.InEven.col_val j hj; first | omega | (dsimp only; omega))) | omega
  · rw [if_neg hj]
    split_ifs <;> first | rfl | omega

/-- The claim: kernel and reference compute the same array over the extended reals. -/
theorem in_even : Cert.algebraic_Kernel6Ideal_Reference6Ideal := by
  intro m g m' g' _ hm
  refine ⟨fun c => Cert.Kernel6Ideal.InEven.G (m (c.tc.loc Cert.Kernel6Ideal.main_arg0)) (m (c.tc.loc Cert.Kernel6Ideal.main_arg1)), ?_, ?_⟩
  · exact (θ_run Cert.Kernel6Ideal.defs _ _).mono (fun r h c => ⟨(h c).1.trans (Cert.Kernel6Ideal.InEven.final m c), (h c).2⟩)
      (Cert.Kernel6Ideal.Value.run_blocks m g)
  · refine (θ_run Cert.Reference6Ideal.defs _ _).mono (fun r h c => ⟨(h c).1.trans ?_, (h c).2⟩) (Cert.Reference6Ideal.Value.run m' g')
    rw [(hm c).1, (hm c).2]
    funext i
    refine (congrArg _ (eq_ix2 i)).trans ((in_even_cut _ (i 0) (i 1)).trans ?_)
    unfold Cert.Kernel6Ideal.InEven.G
    exact if_congr Iff.rfl (in_even_prod _ _ _ _) rfl

end Cert.Proof
-- ==== Proof.QUp.lean ====
/- The value of the latent queries' up-projection: every entry of the kernel's result array is the row of the latents times
   a head's column of the first layer of `b_w_q_up`, with zeros past the head's 192 channels, and so is the reference's. The
   kernel pads the weight, the reference the product. -/
module

public import proofs.«01_k».proof.Defs
public import proofs.«01_k».proof.Proof.Gen.Kernel7Ideal.Value
public import proofs.«01_k».proof.Proof.Gen.Reference7Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

noncomputable section

open Idealize.ShloMosaic Idealize.ShloMosaic.TcCoe Idealize.SL.Sem

namespace Cert.Kernel7Ideal.QUp

open Cert.Kernel7Ideal Cert.Kernel7Ideal.Gen Cert.Kernel7Ideal.Value

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The weight of result column `j`: head `j / 256`, channel `j % 256`, and zero past the head's 192 channels. -/
def col (w : Vec Ideal S2x1024x16x192 .f32) (k : Fin 1024) (j : Fin 4096) : EReal :=
  if h : j.val % 256 < 192 then w (ix4 (0 : Fin 2) k (⟨j.val / 256, by omega⟩ : Fin 16) (⟨j.val % 256, h⟩ : Fin 192)) else 0

/-- The result the call leaves. -/
def G (h : Vec Ideal S8192x1024 .bf16) (w : Vec Ideal S2x1024x16x192 .f32) : Vec Ideal S8192x4096 .f32 := fun i =>
  (∑ k : Fin 1024, h (ix2 (i 0) k) * col w k (i 1) : EReal)

/-- The weight with each head filled up with zeros to 256 channels. -/
def wpad (w : Vec Ideal S2x1024x16x192 .f32) : Vec Ideal S2x1024x4096 .bf16 :=
  truncf (F := Ideal) .bf16 (shapeCast S2x1024x4096 (pad S2x1024x16x256 ![0, 0, 0, 0] ![0, 0, 0, 64] ![0, 0, 0, 0] w
    (sitofp (F := Ideal) .f32 (constantI S_ 32 0#32)) pads_S2x1024x16x192_S2x1024x16x256_000_000_000_0640 h_S_)
    shapeCasts_S2x1024x16x256_S2x1024x4096 : FVec Ideal S2x1024x4096 .f32) bitsLt_bf16_f32

/-- The weight's array when the region is entered. -/
theorem V_w (c : Dev nD) : V m c main_v2 = wpad (m ((c : Thread nD τ).loc main_arg1)) := by
  show StableHlo.after (List.flatten [hostOps0, hostOps0_1, hostOps0_2]) _ _ = _
  simp only [hostOps0, hostOps0_1, hostOps0_2, List.flatten_cons, List.flatten_nil, List.append_nil, List.cons_append, List.nil_append,
    StableHlo.TRef.unary, StableHlo.TRef.binary, StableHlo.TRef.toBuf, StableHlo.TRef.ofBuf, cast_eq]
  after_results
  rfl

/-- The padding value is zero. -/
theorem zero_pad : (FloatOps.sitofp (F := Ideal) .f32 (0#32 : BitVec 32) : EReal) = 0 := by
  show (((0#32 : BitVec 32).toInt : ℝ) : EReal) = 0
  simp

/-- The padded weight, entry by entry. -/
theorem wpad_apply (w : Vec Ideal S2x1024x16x192 .f32) (k : Fin 1024) (j : Fin 4096) :
    wpad w (ix3 (0 : Fin 2) k j) = col w k j := by
  pointwise [wpad, col]
  by_cases hj : j.val % 256 < 192
  · rw [dif_pos hj, dif_pos ⟨by omega, hj⟩]
  · rw [dif_neg hj, dif_neg fun h => hj h.2, zero_pad]

/-- The blocks the grid visits: row block `t / 4`, column block `t % 4`. -/
theorem idx : ∀ t : Fin cfg0.N, (win0_0.index t (0 : Fin 2) = t.val / 4 ∧ win0_0.index t (1 : Fin 2) = 0)
    ∧ (win0_1.index t (0 : Fin 3) = 0 ∧ win0_1.index t (1 : Fin 3) = 0 ∧ win0_1.index t (2 : Fin 3) = t.val % 4)
    ∧ (win0_2.index t (0 : Fin 2) = t.val / 4 ∧ win0_2.index t (1 : Fin 2) = t.val % 4) :=
  (by decide +kernel : ∀ t : Fin grid0.N, _)

/-- A block of the result, entry by entry, from the block of rows and the block of columns. -/
theorem out_apply (x : Vec Ideal S1024x1024 .bf16) (w : Vec Ideal S1x1024x1024 .bf16) (y : S1024x1024.Idx) :
    out0_2 x w y = (∑ k : Fin 1024, x (ix2 (y 0) k) * w (ix3 (0 : Fin 1) k (y 1)) : EReal) := by
  unfold out0_2
  rw [View.canon_unit_zero zero2, View.ld_unit_zero (S := S1024x1024) zero2, View.ld_unit_zero (S := S1x1024x1024) zero3]
  pointwise [k0_pay1]

/-- The block of rows at point `t`. -/
theorem rows (c : Dev nD) (t : Fin cfg0.N) (y : S1024x1024.Idx) (i : Fin 8192) (hi : i.val = t.val / 4 * 1024 + (y 0).val) :
    iblk m c 0 t y = m ((c : Thread nD τ).loc main_arg0) (ix2 i (y 1)) := by
  obtain ⟨⟨e0, e1⟩, -, -⟩ := idx t
  rw [← V_main_arg0 m c]
  show V m c main_arg0 (((cfg0.win 0).blk t).view.emb y) = _
  congr 1; funext a; apply Fin.ext
  match a with
  | ⟨0, _⟩ => show win0_0.index t (0 : Fin 2) * 1024 + 1 * (y 0).val = i.val; omega
  | ⟨1, _⟩ => show win0_0.index t (1 : Fin 2) * 1024 + 1 * (y 1).val = (y 1).val; omega

/-- The block of columns at point `t`. -/
theorem cols (c : Dev nD) (t : Fin cfg0.N) (k : Fin 1024) (q : Fin 1024) (j : Fin 4096) (hj : j.val = t.val % 4 * 1024 + q.val) :
    iblk m c 1 t (ix3 (0 : Fin 1) k q : S1x1024x1024.Idx) = wpad (m ((c : Thread nD τ).loc main_arg1)) (ix3 (0 : Fin 2) k j) := by
  obtain ⟨-, ⟨e0, e1, e2⟩, -⟩ := idx t
  rw [← V_w m c]
  show V m c main_v2 (((cfg0.win 1).blk t).view.emb (ix3 (0 : Fin 1) k q : S1x1024x1024.Idx)) = _
  congr 1; funext a; apply Fin.ext
  match a with
  | ⟨0, _⟩ => show win0_1.index t (0 : Fin 3) * 1 + 1 * 0 = 0; omega
  | ⟨1, _⟩ => show win0_1.index t (1 : Fin 3) * 1024 + 1 * k.val = k.val; omega
  | ⟨2, _⟩ => show win0_1.index t (2 : Fin 3) * 1024 + 1 * q.val = j.val; omega

/-- What each point writes back is its block of `G`. -/
theorem flushed_eq (c : Dev nD) (t : Fin cfg0.N) : (dats m 0 c).flushed 2 t
    = ((cfg0.win 2).blk t).view.read (Elt Ideal) (G (m ((c : Thread nD τ).loc main_arg0)) (m ((c : Thread nD τ).loc main_arg1))) := by
  rw [flushed2]
  funext y
  obtain ⟨-, -, e0, e1⟩ := idx t
  have h0 : (((cfg0.win 2).blk t).view.emb y 0).val = t.val / 4 * 1024 + (y 0).val := by
    show win0_2.index t (0 : Fin 2) * 1024 + 1 * (y 0).val = _; omega
  have h1 : (((cfg0.win 2).blk t).view.emb y 1).val = t.val % 4 * 1024 + (y 1).val := by
    show win0_2.index t (1 : Fin 2) * 1024 + 1 * (y 1).val = _; omega
  show out0_2 (iblk m c 0 t) (iblk m c 1 t) y = G _ _ (((cfg0.win 2).blk t).view.emb y)
  rw [out_apply]
  unfold G
  exact Finset.sum_congr rfl fun k _ => congrArg₂ (fun a b : EReal => a * b) (rows m c t (ix2 (y 0) k) _ h0)
    ((cols m c t k (y 1) _ h1).trans (wpad_apply _ _ _))

/-- An entry is in point `t`'s block iff each coordinate is in the block's range. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- Every entry of the result array is in the block some point writes back. -/
theorem cover (i : S8192x4096.Idx) : ∃ t : Fin cfg0.N, (cfg0.win 2).flush t = true ∧ i ∈ ((cfg0.win 2).blk t).view.set := by
  have hi0 : (i 0).val < 8192 := (i 0).isLt
  have hi1 : (i 1).val < 4096 := (i 1).isLt
  have hN : cfg0.N = 32 := N_0
  refine ⟨⟨4 * ((i 0).val / 1024) + (i 1).val / 1024, by omega⟩, flush0_2 _, ?_⟩
  obtain ⟨-, -, e0, e1⟩ := idx ⟨4 * ((i 0).val / 1024) + (i 1).val / 1024, by omega⟩
  rw [mem_blk]
  intro a
  match a with
  | ⟨0, _⟩ => show win0_2.index _ (0 : Fin 2) * 1024 ≤ (i 0).val ∧ (i 0).val < win0_2.index _ (0 : Fin 2) * 1024 + 1024; rw [e0]; dsimp only; omega
  | ⟨1, _⟩ => show win0_2.index _ (1 : Fin 2) * 1024 ≤ (i 1).val ∧ (i 1).val < win0_2.index _ (1 : Fin 2) * 1024 + 1024; rw [e1]; dsimp only; omega

/-- The array after the run is `G` of the arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

end Cert.Kernel7Ideal.QUp

namespace Cert.Proof

open Cert.Reference7Ideal Cert.Reference7Ideal.Gen

/-- The reference's result, entry by entry. -/
theorem q_up_ref (h : FVec Ideal S8192x1024 .bf16) (w : FVec Ideal S2x1024x16x192 .f32) (i : Fin 8192) (j : Fin 4096) :
    (shapeCast S8192x4096 (pad S8192x16x256 ![0, 0, 0] ![0, 0, 64] ![0, 0, 0] (Host.dotGeneral (F := Ideal) dot_S8192x1024_S1024x16x192_S8192x16x192_1_0_0_12_n_n none
      (extf .f32 h bitsLt_bf16_f32) (shapeCast _ (extractStridedSlice S1x1024x16x192 ![0, 0, 0, 0] w slices_S2x1024x16x192_S1x1024x16x192_0_0_0_0) shapeCasts_S1x1024x16x192_S1024x16x192))
      (sitofp .f32 (constantI S_ 32 0#32)) pads_S8192x16x192_S8192x16x256_000_000_0640 h_S_) shapeCasts_S8192x16x256_S8192x4096 : FVec Ideal S8192x4096 .f32) (ix2 i j)
    = (∑ k : Fin 1024, h (ix2 i k) * Cert.Kernel7Ideal.QUp.col w k j : EReal) := by
  pointwise [Cert.Kernel7Ideal.QUp.col]
  by_cases hj : j.val % 256 < 192
  · rw [dif_pos ⟨by omega, hj⟩]
    exact Finset.sum_congr rfl fun k _ => by rw [dif_pos hj]
  · rw [dif_neg fun h => hj h.2, Cert.Kernel7Ideal.QUp.zero_pad]
    exact (Finset.sum_eq_zero fun k _ => by rw [dif_neg hj]; exact mul_zero (h (ix2 i k) : EReal)).symm

/-- The claim: kernel and reference compute the same array over the extended reals. -/
theorem q_up : Cert.algebraic_Kernel7Ideal_Reference7Ideal := by
  intro m g m' g' _ hm
  refine ⟨fun c => Cert.Kernel7Ideal.QUp.G (m (c.tc.loc Cert.Kernel7Ideal.main_arg0)) (m (c.tc.loc Cert.Kernel7Ideal.main_arg1)), ?_, ?_⟩
  · exact (θ_run Cert.Kernel7Ideal.defs _ _).mono (fun r h c => ⟨(h c).1.trans (Cert.Kernel7Ideal.QUp.final m c), (h c).2⟩)
      (Cert.Kernel7Ideal.Value.run_blocks m g)
  · refine (θ_run Cert.Reference7Ideal.defs _ _).mono (fun r h c => ⟨(h c).1.trans ?_, (h c).2⟩) (Cert.Reference7Ideal.Value.run m' g')
    rw [(hm c).1, (hm c).2]
    funext i
    exact (congrArg _ (eq_ix2 i)).trans (q_up_ref _ _ (i 0) (i 1))

end Cert.Proof
-- ==== Proof.Gathers.lean ====
/- A gather of columns: `x[:, idx]` reads, at row `t` and lane `j`, the row's entry in the column that `idx` holds at `j`. -/
module

public import Idealize.ShloMosaic.Lib.ValueIdx

@[expose] public section

open Idealize.ShloMosaic Idealize.ShloMosaic.ValueIdx

namespace Cert.Gathers

/-- The dimension numbers of a gather of columns of an `N` by `C` array at `B` places. -/
abbrev colDims (N C B : Nat)
    (wf : GatherDims.WF ⟨2, ![N, C]⟩ ⟨2, ![B, 1]⟩ ⟨2, ![N, B]⟩ [0] [1] [] [1] [] 1 ![N, 1]) :
    GatherDims ⟨2, ![N, C]⟩ ⟨2, ![B, 1]⟩ ⟨2, ![N, B]⟩ where
  offsetDims := [0]
  collapsedSliceDims := [1]
  operandBatchingDims := []
  startIndicesBatchingDims := []
  startIndexMap := [1]
  indexVectorDim := 1
  sliceSizes := ![N, 1]
  wf := wf

/-- A gather of columns, entry by entry, where the place's index is a column's number. -/
theorem cols_apply {α : Type} {N C B : Nat}
    (wf : GatherDims.WF ⟨2, ![N, C]⟩ ⟨2, ![B, 1]⟩ ⟨2, ![N, B]⟩ [0] [1] [] [1] [] 1 ![N, 1])
    (x : (⟨2, ![N, C]⟩ : Shape).Idx → α) (idx : IVec ⟨2, ![B, 1]⟩ 32) (t : Fin N) (j : Fin B) (k : Fin C)
    (hk : (idx (ix2 j (0 : Fin 1))).toInt = k.val) :
    Host.gather (colDims N C B wf) x idx (ix2 t j) = x (ix2 t k) := by
  unfold Host.gather
  refine congrArg x (funext fun a => Fin.ext ?_)
  show (colDims N C B wf).start (ix2 t j) idx a + (colDims N C B wf).batchCoord (ix2 t j) a + (colDims N C B wf).offCoord (ix2 t j) a = _
  rw [GatherDims.batchCoord_eq_zero _ _ _ List.not_mem_nil]
  match a with
  | ⟨0, _⟩ =>
    have hs : (colDims N C B wf).start (ix2 t j) idx (0 : Fin 2) = 0 := by
      unfold GatherDims.start
      rw [dif_neg (fun h => absurd (congrArg Fin.val (List.mem_singleton.mp h)) Nat.zero_ne_one)]
    have ho : (colDims N C B wf).offCoord (ix2 t j) (0 : Fin 2) = t.val := by
      unfold GatherDims.offCoord
      rw [dif_pos ((GatherDims.mem_sKept _ _).mpr ⟨fun h => absurd (congrArg Fin.val (List.mem_singleton.mp h)) Nat.zero_ne_one, List.not_mem_nil⟩)]
      rfl
    show (colDims N C B wf).start (ix2 t j) idx (0 : Fin 2) + 0 + (colDims N C B wf).offCoord (ix2 t j) (0 : Fin 2) = t.val
    rw [hs, ho]; omega
  | ⟨1, _⟩ =>
    have ho : (colDims N C B wf).offCoord (ix2 t j) (1 : Fin 2) = 0 :=
      GatherDims.offCoord_eq_zero _ _ _ (fun h => ((GatherDims.mem_sKept _ _).mp h).1 (List.mem_singleton.mpr rfl))
    have hm : (1 : Fin 2) ∈ (colDims N C B wf).startIndexMap := List.mem_singleton.mpr rfl
    have hsi : (colDims N C B wf).siIdx (ix2 t j) ⟨List.idxOf (1 : Fin 2) (colDims N C B wf).startIndexMap, List.idxOf_lt_length_iff.2 hm⟩
        = ix2 j (0 : Fin 1) := by
      funext b
      match b with
      | ⟨0, _⟩ => rfl
      | ⟨1, _⟩ => rfl
    have hs : (colDims N C B wf).start (ix2 t j) idx (1 : Fin 2) = k.val := by
      unfold GatherDims.start
      rw [dif_pos hm, hsi, hk]
      show min (Int.toNat (k.val : Int)) (C - 1) = k.val
      have := k.isLt
      omega
    show (colDims N C B wf).start (ix2 t j) idx (1 : Fin 2) + 0 + (colDims N C B wf).offCoord (ix2 t j) (1 : Fin 2) = k.val
    rw [hs, ho]; omega

end Cert.Gathers
-- ==== Proof.PrepOdd.lean ====
/- The value of the odd layers' key preparation: every row of the kernel's result is the row's 128 shared key columns of `z`,
   root-mean-square normed with the first layer's gain, the first 32 of them rotated by the row's position, and so is the
   reference's. The kernel multiplies by tables over all lanes and rotates lanes, the reference rotates the two halves. -/
module

public import proofs.«01_k».proof.Defs
public import proofs.«01_k».proof.Proof.Ref
public import proofs.«01_k».proof.Proof.Gathers
public import proofs.«01_k».proof.Proof.Gen.Kernel8Ideal.Value
public import proofs.«01_k».proof.Proof.Gen.Reference8Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Kernel8Ideal.PrepOdd

open Cert.Kernel8Ideal Cert.Kernel8Ideal.Gen Cert.Kernel8Ideal.Value

variable (m : (ℓ : Loc nD τ sig) → Buf (Elt Ideal) ℓ) (ρ : Dev nD → PrngReg)

/-- The two zeros, as a function. -/
theorem zero2 : (![0, 0] : Fin 2 → Nat) = fun _ => 0 := funext fun a => by fin_cases a <;> rfl

/-- The table's columns, by lane. -/
def lanes : IVec S128x1 32 :=
  broadcastInDim S128x1 ![0] bcast_S128_S128x1_0 (select (constantI S128 1 0#1)
    (addi (fun i => lit0 (S128.rowMajor i)) (broadcastInDim S128 ![] bcast_S_S128 (constantI S_ 32 16#32))) (fun i => lit0 (S128.rowMajor i)))

/-- The angles, by position and frequency. -/
def ang : FVec Ideal S2048x16 .f32 :=
  mulf (broadcastInDim S2048x16 ![0, 1] bcast_S2048x1_S2048x16_0_1 (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x48F42400#32))
        (Host.divf (mulf (Host.negf (sitofp .f32 (iotaInDim S16 32 0))) (broadcastInDim S16 ![] bcast_S_S16 (constant S_ .f32 0x40000000#32)))
          (broadcastInDim S16 ![] bcast_S_S16 (constant S_ .f32 0x42000000#32))))))

/-- A table over the lanes: `x` where the mask is set, the constant elsewhere. -/
def tab (mask : Fin 128 → BitVec 1) (x : FVec Ideal S2048x128 .f32) (c : BitVec 32) : FVec Ideal S2048x128 .f32 :=
  shapeCast S2048x128 (broadcastInDim S1x2048x1x128 ![0, 1, 2, 3] bcast_S1x2048x1x128_S1x2048x1x128_0_1_2_3
    (shapeCast S1x2048x1x128 (select (broadcastInDim S2048x128 ![0, 1] bcast_S1x128_S2048x128_0_1 (broadcastInDim S1x128 ![1] bcast_S128_S1x128_1 (fun i => mask (S128.rowMajor i))))
      x (broadcastInDim S2048x128 ![] bcast_S_S2048x128 (id (constant S_ .f32 c)))) shapeCasts_S2048x128_S1x2048x1x128)) shapeCasts_S1x2048x1x128_S2048x128

/-- A table's columns, spread over the lanes. -/
def spread (x : FVec Ideal S2048x16 .f32) : FVec Ideal S2048x128 .f32 :=
  Host.gather gather_S2048x16_S128x1_S2048x128_0_1_n_n_1_1_20481 x lanes

/-- The gain's array. -/
def gain (g : FVec Ideal S2x128 .f32) : FVec Ideal S1x128 .f32 :=
  shapeCast S1x128 (extractStridedSlice S1x1x128 ![0, 0, 0] (broadcastInDim S2x1x128 ![0, 2] bcast_S2x128_S2x1x128_0_2 g) slices_S2x1x128_S1x1x128_0_0_0) shapeCasts_S1x1x128_S1x128

/-- What the operations before the region leave in an array. -/
theorem V_all (c : Dev nD) : V m c main_v45 = gain (m ((c : Thread nD τ).loc main_arg1)) ∧ V m c main_v36 = tab lit1 (spread (Host.cos ang)) 0x3F800000#32
    ∧ V m c main_v39 = tab lit2 (Host.negf (spread (Host.sin ang))) 0x00000000#32 ∧ V m c main_v42 = tab lit3 (spread (Host.sin ang)) 0x00000000#32 := by
  refine ⟨?_, ?_, ?_, ?_⟩
  all_goals
    show StableHlo.after (List.flatten [hostOps0, hostOps0_1, hostOps0_2, hostOps0_3, hostOps0_4, hostOps0_5, hostOps0_6]) _ _ = _
    simp only [hostOps0, hostOps0_1, hostOps0_2, hostOps0_3, hostOps0_4, hostOps0_5, hostOps0_6, List.flatten_cons, List.flatten_nil, List.append_nil,
      List.cons_append, List.nil_append, StableHlo.TRef.unary, StableHlo.TRef.ternary, StableHlo.TRef.toBuf, StableHlo.TRef.ofBuf, cast_eq]
    after_results
    rfl

/-- The angle at position `t` for frequency `i`. -/
def angle (t i : Nat) : EReal :=
  FloatOps.sitofp (F := Ideal) .f32 (BitVec.ofNat 32 t) * Ideal.pow (Ideal.ofBits .f32 0x48F42400#32)
    (Ideal.div (-FloatOps.sitofp (F := Ideal) .f32 (BitVec.ofNat 32 i) * Ideal.ofBits .f32 0x40000000#32) (Ideal.ofBits .f32 0x42000000#32))

/-- A row's key, normed, at a channel. -/
def normed (z : Vec Ideal S8192x4608 .f32) (g : Vec Ideal S2x128 .f32) (r : Fin 8192) (j : Fin 128) : EReal :=
  z (ix2 r ⟨4096 + j.val, by omega⟩) * Ideal.rsqrt ((∑ x : Fin 128, z (ix2 r ⟨4096 + x.val, by omega⟩) * z (ix2 r ⟨4096 + x.val, by omega⟩) : EReal)
    * Ideal.ofBits .f32 0x3C000000#32 + Ideal.ofBits .f32 0x358637BD#32) * g (ix2 (0 : Fin 2) j)

/-- The result the call leaves. -/
def G (z : Vec Ideal S8192x4608 .f32) (g : Vec Ideal S2x128 .f32) : Vec Ideal S8192x128 .f32 := fun i =>
  let r : Fin 8192 := i 0
  let j : Fin 128 := i 1
  if _ : j.val < 16 then normed z g r j * Ideal.cos (angle (r.val % 2048) j.val) - normed z g r ⟨16 + j.val, by omega⟩ * Ideal.sin (angle (r.val % 2048) j.val)
  else if _ : j.val < 32 then normed z g r j * Ideal.cos (angle (r.val % 2048) (j.val - 16)) + normed z g r ⟨j.val - 16, by omega⟩ * Ideal.sin (angle (r.val % 2048) (j.val - 16))
  else normed z g r j

/-- The result at a row and a channel. -/
theorem G_ix (z : Vec Ideal S8192x4608 .f32) (g : Vec Ideal S2x128 .f32) (r : Fin 8192) (j : Fin 128) : G z g (ix2 r j) =
    if _ : j.val < 16 then normed z g r j * Ideal.cos (angle (r.val % 2048) j.val) - normed z g r ⟨16 + j.val, by omega⟩ * Ideal.sin (angle (r.val % 2048) j.val)
    else if _ : j.val < 32 then normed z g r j * Ideal.cos (angle (r.val % 2048) (j.val - 16)) + normed z g r ⟨j.val - 16, by omega⟩ * Ideal.sin (angle (r.val % 2048) (j.val - 16))
    else normed z g r j := rfl

/-- The frequency that a lane takes. -/
def lane (j : Fin 128) : Fin 16 := if h : j.val < 16 then ⟨j.val, h⟩ else if h : j.val < 32 then ⟨j.val - 16, by omega⟩ else 0

/-- The literal tables, by lane. -/
theorem lits : ∀ j : Fin 128, (lit0 j).toInt = (lane j).val ∧ lit1 j = (if j.val < 32 then 1#1 else 0#1)
    ∧ lit2 j = (if j.val < 16 then 1#1 else 0#1) ∧ lit3 j = (if 16 ≤ j.val ∧ j.val < 32 then 1#1 else 0#1) := by
  decide +kernel

/-- A vector's row-major position is its coordinate. -/
theorem pos (j : Fin 128) : S128.rowMajor (ix1 j) = j := Fin.ext (Shape.rowMajor_val_one _)

/-- A spread table, entry by entry. -/
theorem spread_apply (x : FVec Ideal S2048x16 .f32) (t : Fin 2048) (j : Fin 128) : spread x (ix2 t j) = x (ix2 t (lane j)) := by
  refine Cert.Gathers.cols_apply _ x lanes t j (lane j) ?_
  have e : lanes (ix2 j (0 : Fin 1)) = lit0 (S128.rowMajor (ix1 j)) := by pointwise [lanes]
  exact (congrArg BitVec.toInt (e.trans (congrArg lit0 (pos j)))).trans (lits j).1

/-- A masked table, entry by entry. -/
theorem tab_apply (mask : Fin 128 → BitVec 1) (x : FVec Ideal S2048x128 .f32) (c : BitVec 32) (t : Fin 2048) (j : Fin 128) :
    tab mask x c (ix2 t j) = if mask j = 1#1 then x (ix2 t j) else Ideal.ofBits .f32 c := by
  have e : tab mask x c (ix2 t j) = Scalar.select (mask (S128.rowMajor (ix1 j))) (x (ix2 t j)) (id (constant (F := Ideal) S_ .f32 c) ix0) := by pointwise [tab]
  rw [e, pos]
  rfl

/-- The angles, entry by entry. -/
theorem ang_apply (t : Fin 2048) (i : Fin 16) : ang (ix2 t i) = angle t.val i.val := by
  pointwise [ang]
  rfl

/-- The table of the cosines. -/
theorem cos_apply (t : Fin 2048) (j : Fin 128) : tab lit1 (spread (Host.cos ang)) 0x3F800000#32 (ix2 t j)
    = if j.val < 32 then Ideal.cos (angle t.val (lane j).val) else 1 := by
  rw [tab_apply, (lits j).2.1, spread_apply]
  split <;> rename_i h
  · rw [if_pos rfl, ← ang_apply]; rfl
  · rw [if_neg (by decide), Ideal.ofBits_one_f32]

/-- The table of the negated sines. -/
theorem left_apply (t : Fin 2048) (j : Fin 128) : tab lit2 (Host.negf (spread (Host.sin ang))) 0x00000000#32 (ix2 t j)
    = if j.val < 16 then -Ideal.sin (angle t.val (lane j).val) else 0 := by
  rw [tab_apply, (lits j).2.2.1]
  split <;> rename_i h
  · rw [if_pos rfl, ← ang_apply]
    show -(spread (Host.sin ang) (ix2 t j)) = _
    rw [spread_apply]; rfl
  · rw [if_neg (by decide), Ideal.ofBits_zero_f32]

/-- The table of the sines. -/
theorem right_apply (t : Fin 2048) (j : Fin 128) : tab lit3 (spread (Host.sin ang)) 0x00000000#32 (ix2 t j)
    = if 16 ≤ j.val ∧ j.val < 32 then Ideal.sin (angle t.val (lane j).val) else 0 := by
  rw [tab_apply, (lits j).2.2.2, spread_apply]
  split <;> rename_i h
  · rw [if_pos rfl, ← ang_apply]; rfl
  · rw [if_neg (by decide), Ideal.ofBits_zero_f32]

/-- The blocks the grid visits: row block `t` of `z` and of the result, row block `t % 8` of the tables. -/
theorem idx : ∀ t : Fin cfg0.N, (win0_0.index t (0 : Fin 2) = t.val ∧ win0_0.index t (1 : Fin 2) = 32)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 2) = t.val % 8 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

/-- A block's row, normed, at a channel. -/
def bnorm (x : Vec Ideal S256x128 .f32) (g : Vec Ideal S1x128 .f32) (i : Fin 256) (j : Fin 128) : EReal :=
  x (ix2 i j) * Ideal.rsqrt ((∑ q : Fin 128, x (ix2 i q) * x (ix2 i q) : EReal) * Ideal.ofBits .f32 0x3C000000#32 + Ideal.ofBits .f32 0x358637BD#32)
    * g (ix2 (0 : Fin 1) j)

/-- A block of the result, entry by entry. -/
theorem out_apply (x a b c : Vec Ideal S256x128 .f32) (g : Vec Ideal S1x128 .f32) (i : Fin 256) (j : Fin 128) :
    out0_5 x a b c g (ix2 i j) = (bnorm x g i j * a (ix2 i j) + bnorm x g i ⟨(j.val + 128 - 112) % 128, by omega⟩ * b (ix2 i j)
      + bnorm x g i ⟨(j.val + 128 - 16) % 128, by omega⟩ * c (ix2 i j) : EReal) := by
  unfold out0_5
  rw [View.canon_unit_zero zero2]
  simp only [View.ld_unit_zero (S := S256x128) zero2, View.ld_unit_zero (S := S1x128) zero2]
  pointwise [k0_pay1, bnorm]

/-- The block of rows at point `t`. -/
theorem rows (c : Dev nD) (t : Fin cfg0.N) (i : Fin 256) (j : Fin 128) (r : Fin 8192) (hr : r.val = t.val * 256 + i.val) :
    iblk m c 0 t (ix2 i j : S256x128.Idx) = m ((c : Thread nD τ).loc main_arg0) (ix2 r (⟨4096 + j.val, by omega⟩ : Fin 4608)) := by
  obtain ⟨⟨e0, e1⟩, -⟩ := idx t
  rw [← V_main_arg0 m c]
  show V m c main_arg0 (((cfg0.win 0).blk t).view.emb (ix2 i j : S256x128.Idx)) = _
  congr 1; funext a; apply Fin.ext
  match a with
  | ⟨0, _⟩ => show win0_0.index t (0 : Fin 2) * 256 + 1 * i.val = r.val; omega
  | ⟨1, _⟩ => show win0_0.index t (1 : Fin 2) * 128 + 1 * j.val = 4096 + j.val; omega

/-- The block of the cosines at point `t`. -/
theorem tab1 (c : Dev nD) (t : Fin cfg0.N) (i : Fin 256) (j : Fin 128) (p : Fin 2048) (hp : p.val = t.val % 8 * 256 + i.val) :
    iblk m c 1 t (ix2 i j : S256x128.Idx) = tab lit1 (spread (Host.cos ang)) 0x3F800000#32 (ix2 p j) := by
  obtain ⟨-, ⟨e0, e1⟩, -⟩ := idx t
  refine Eq.trans ?_ (congrFun (V_all m c).2.1 (ix2 p j))
  show V m c main_v36 (((cfg0.win 1).blk t).view.emb (ix2 i j : S256x128.Idx)) = _
  congr 1; funext a; apply Fin.ext
  match a with
  | ⟨0, _⟩ => show win0_1.index t (0 : Fin 2) * 256 + 1 * i.val = p.val; omega
  | ⟨1, _⟩ => show win0_1.index t (1 : Fin 2) * 128 + 1 * j.val = j.val; omega

/-- The block of the negated sines at point `t`. -/
theorem tab2 (c : Dev nD) (t : Fin cfg0.N) (i : Fin 256) (j : Fin 128) (p : Fin 2048) (hp : p.val = t.val % 8 * 256 + i.val) :
    iblk m c 2 t (ix2 i j : S256x128.Idx) = tab lit2 (Host.negf (spread (Host.sin ang))) 0x00000000#32 (ix2 p j) := by
  obtain ⟨-, -, ⟨e0, e1⟩, -⟩ := idx t
  refine Eq.trans ?_ (congrFun (V_all m c).2.2.1 (ix2 p j))
  show V m c main_v39 (((cfg0.win 2).blk t).view.emb (ix2 i j : S256x128.Idx)) = _
  congr 1; funext a; apply Fin.ext
  match a with
  | ⟨0, _⟩ => show win0_2.index t (0 : Fin 2) * 256 + 1 * i.val = p.val; omega
  | ⟨1, _⟩ => show win0_2.index t (1 : Fin 2) * 128 + 1 * j.val = j.val; omega

/-- The block of the sines at point `t`. -/
theorem tab3 (c : Dev nD) (t : Fin cfg0.N) (i : Fin 256) (j : Fin 128) (p : Fin 2048) (hp : p.val = t.val % 8 * 256 + i.val) :
    iblk m c 3 t (ix2 i j : S256x128.Idx) = tab lit3 (spread (Host.sin ang)) 0x00000000#32 (ix2 p j) := by
  obtain ⟨-, -, -, ⟨e0, e1⟩, -⟩ := idx t
  refine Eq.trans ?_ (congrFun (V_all m c).2.2.2 (ix2 p j))
  show V m c main_v42 (((cfg0.win 3).blk t).view.emb (ix2 i j : S256x128.Idx)) = _
  congr 1; funext a; apply Fin.ext
  match a with
  | ⟨0, _⟩ => show win0_3.index t (0 : Fin 2) * 256 + 1 * i.val = p.val; omega
  | ⟨1, _⟩ => show win0_3.index t (1 : Fin 2) * 128 + 1 * j.val = j.val; omega

/-- The gain's block at point `t`. -/
theorem gains (c : Dev nD) (t : Fin cfg0.N) (j : Fin 128) :
    iblk m c 4 t (ix2 (0 : Fin 1) j : S1x128.Idx) = m ((c : Thread nD τ).loc main_arg1) (ix2 (0 : Fin 2) j) := by
  obtain ⟨-, -, -, -, ⟨e0, e1⟩, -⟩ := idx t
  have e : gain (m ((c : Thread nD τ).loc main_arg1)) (ix2 (0 : Fin 1) j) = m ((c : Thread nD τ).loc main_arg1) (ix2 (0 : Fin 2) j) := by pointwise [gain]
  refine Eq.trans ?_ ((congrFun (V_all m c).1 (ix2 (0 : Fin 1) j)).trans e)
  show V m c main_v45 (((cfg0.win 4).blk t).view.emb (ix2 (0 : Fin 1) j : S1x128.Idx)) = _
  congr 1; funext a; apply Fin.ext
  match a with
  | ⟨0, _⟩ => show win0_4.index t (0 : Fin 2) * 1 + 1 * 0 = 0; omega
  | ⟨1, _⟩ => show win0_4.index t (1 : Fin 2) * 128 + 1 * j.val = j.val; omega

/-- A block's normed row is the row's. -/
theorem bnorm_eq (c : Dev nD) (t : Fin cfg0.N) (i : Fin 256) (j : Fin 128) (r : Fin 8192) (hr : r.val = t.val * 256 + i.val) :
    bnorm (iblk m c 0 t) (iblk m c 4 t) i j = normed (m ((c : Thread nD τ).loc main_arg0)) (m ((c : Thread nD τ).loc main_arg1)) r j := by
  unfold bnorm normed
  simp only [gains m c t j, rows m c t i _ r hr]

/-- What each point writes back is its block of `G`. -/
theorem flushed_eq (c : Dev nD) (t : Fin cfg0.N) : (dats m 0 c).flushed 5 t
    = ((cfg0.win 5).blk t).view.read (Elt Ideal) (G (m ((c : Thread nD τ).loc main_arg0)) (m ((c : Thread nD τ).loc main_arg1))) := by
  rw [flushed5]
  funext y
  obtain ⟨i, j, rfl⟩ : ∃ (i : Fin 256) (j : Fin 128), y = (ix2 i j : S256x128.Idx) := ⟨y 0, y 1, eq_ix2 y⟩
  obtain ⟨-, -, -, -, -, e0, e1⟩ := idx t
  have hN : t.val < 32 := t.isLt.trans_eq N_0
  have h : ((cfg0.win 5).blk t).view.emb (ix2 i j : S256x128.Idx) = (ix2 (⟨t.val * 256 + i.val, by omega⟩ : Fin 8192) j : S8192x128.Idx) := by
    funext a; apply Fin.ext
    match a with
    | ⟨0, _⟩ => show win0_5.index t (0 : Fin 2) * 256 + 1 * i.val = t.val * 256 + i.val; omega
    | ⟨1, _⟩ => show win0_5.index t (1 : Fin 2) * 128 + 1 * j.val = j.val; omega
  show out0_5 (iblk m c 0 t) (iblk m c 1 t) (iblk m c 2 t) (iblk m c 3 t) (iblk m c 4 t) (ix2 i j) = G _ _ (((cfg0.win 5).blk t).view.emb (ix2 i j : S256x128.Idx))
  rw [h, out_apply]
  have hp : (t.val * 256 + i.val) % 2048 = t.val % 8 * 256 + i.val := by omega
  rw [tab1 m c t i j ⟨_, Nat.mod_lt (t.val * 256 + i.val) (by decide)⟩ hp, tab2 m c t i j ⟨_, Nat.mod_lt (t.val * 256 + i.val) (by decide)⟩ hp,
    tab3 m c t i j ⟨_, Nat.mod_lt (t.val * 256 + i.val) (by decide)⟩ hp, cos_apply, left_apply, right_apply, bnorm_eq m c t i j ⟨t.val * 256 + i.val, by omega⟩ rfl,
    bnorm_eq m c t i _ ⟨t.val * 256 + i.val, by omega⟩ rfl, bnorm_eq m c t i _ ⟨t.val * 256 + i.val, by omega⟩ rfl]
  rw [G_ix]
  by_cases ha : j.val < 16
  · have hl : (lane j).val = j.val := by unfold lane; rw [dif_pos ha]
    rw [dif_pos ha, if_pos (by omega), if_pos ha, if_neg (by omega), hl, mul_zero, add_zero, mul_neg, ← sub_eq_add_neg]
    rw [show (⟨(j.val + 128 - 112) % 128, by omega⟩ : Fin 128) = ⟨16 + j.val, by omega⟩ from Fin.ext (by dsimp only; omega)]
  · rw [dif_neg ha]
    by_cases hb : j.val < 32
    · have hl : (lane j).val = j.val - 16 := by unfold lane; rw [dif_neg ha, dif_pos hb]
      rw [dif_pos hb, if_pos hb, if_neg ha, if_pos ⟨by omega, hb⟩, hl, mul_zero, add_zero]
      rw [show (⟨(j.val + 128 - 16) % 128, by omega⟩ : Fin 128) = ⟨j.val - 16, by omega⟩ from Fin.ext (by dsimp only; omega)]
    · rw [dif_neg hb, if_neg hb, if_neg ha, if_neg (by omega), mul_zero, mul_zero, add_zero, add_zero, mul_one]

/-- An entry is in point `t`'s block iff each coordinate is in the block's range. -/
theorem mem_blk (t : Fin cfg0.N) (i : S8192x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v46).slice (win0_5.rect t)).set ↔ _
  rw [View.set_slice_whole, Rect.mem_set_unit]
  exact Iff.rfl

/-- Every entry of the result array is in the block some point writes back. -/
theorem cover (i : S8192x128.Idx) : ∃ t : Fin cfg0.N, (cfg0.win 5).flush t = true ∧ i ∈ ((cfg0.win 5).blk t).view.set := by
  have hi0 : (i 0).val < 8192 := (i 0).isLt
  have hi1 : (i 1).val < 128 := (i 1).isLt
  have hN : cfg0.N = 32 := N_0
  refine ⟨⟨(i 0).val / 256, by omega⟩, flush0_5 _, ?_⟩
  obtain ⟨-, -, -, -, -, e0, e1⟩ := idx ⟨(i 0).val / 256, by omega⟩
  rw [mem_blk]
  intro a
  match a with
  | ⟨0, _⟩ => show win0_5.index _ (0 : Fin 2) * 256 ≤ (i 0).val ∧ (i 0).val < win0_5.index _ (0 : Fin 2) * 256 + 256; rw [e0]; dsimp only; omega
  | ⟨1, _⟩ => show win0_5.index _ (1 : Fin 2) * 128 ≤ (i 1).val ∧ (i 1).val < win0_5.index _ (1 : Fin 2) * 128 + 128; rw [e1]; omega

/-- The array after the run is `G` of the arguments. -/
theorem final (c : Dev nD) : (dats m 0 c).arrAt 5 cfg0.N
    = G (m ((c : Thread nD τ).loc main_arg0)) (m ((c : Thread nD τ).loc main_arg1)) :=
  (dats m 0 c).arrAt_eq_of_cover 5 _ (fun t _ => flushed_eq m c t) cover

end Cert.Kernel8Ideal.PrepOdd

namespace Cert.Proof

open Cert.Reference8Ideal Cert.Reference8Ideal.Gen Cert.Kernel8Ideal.PrepOdd

/-- The reference's result, entry by entry, is the same function of its arguments. -/
theorem prep_odd_ref (m : (ℓ : Loc nD τ sig) → Buf (Elt Ideal) ℓ) (c : Dev nD) (i : Fin 8192) (j : Fin 128) :
    Cert.Reference8Ideal.Value.res_main_v50 m c (ix2 i j) = G (m (c.tc.loc main_arg0)) (m (c.tc.loc main_arg1)) (ix2 i j) := by
  refine Eq.trans ?_ (G_ix _ _ i j).symm
  have ez : ∃ z : Vec Ideal S8192x4608 .f32, z = m (c.tc.loc main_arg0) := ⟨_, rfl⟩
  have eg : ∃ g : Vec Ideal S2x128 .f32, g = m (c.tc.loc main_arg1) := ⟨_, rfl⟩
  obtain ⟨z, hz⟩ := ez
  obtain ⟨g, hg⟩ := eg
  unfold Cert.Reference8Ideal.Value.res_main_v50
  rw [← hz, ← hg]
  clear hz hg
  pointwise []
  simp only [Cert.ReferenceIdeal.Stick.div_128]
  by_cases ha : j.val < 16
  · refine (dif_pos ha).trans (Eq.trans ?_ (dif_pos ha).symm)
    unfold normed angle
    rfl
  · refine (dif_neg ha).trans (Eq.trans ?_ (dif_neg ha).symm)
    by_cases hb : j.val < 32
    · refine (dif_pos (show j.val - 16 < 16 by omega)).trans (Eq.trans ?_ (dif_pos hb).symm)
      have e : 16 + (j.val - 16) = j.val := by omega
      simp only [e]
      unfold normed angle
      rfl
    · refine (dif_neg (show ¬ j.val - 16 < 16 by omega)).trans (Eq.trans ?_ (dif_neg hb).symm)
      have e : 32 + (j.val - 16 - 16) = j.val := by omega
      simp only [e]
      unfold normed
      rfl

/-- The claim: kernel and reference compute the same array over the extended reals. -/
theorem prep_odd : Cert.algebraic_Kernel8Ideal_Reference8Ideal := by
  intro m g m' g' _ hm
  refine ⟨fun c => G (m (c.tc.loc Cert.Kernel8Ideal.main_arg0)) (m (c.tc.loc Cert.Kernel8Ideal.main_arg1)), ?_, ?_⟩
  · exact (θ_run Cert.Kernel8Ideal.defs _ _).mono (fun r h c => ⟨(h c).1.trans (Cert.Kernel8Ideal.PrepOdd.final m c), (h c).2⟩)
      (Cert.Kernel8Ideal.Value.run_blocks m g)
  · refine (θ_run Cert.Reference8Ideal.defs _ _).mono (fun r h c => ⟨(h c).1.trans ?_, (h c).2⟩) (Cert.Reference8Ideal.Value.run m' g')
    refine Eq.trans (b := G (m' (c.tc.loc main_arg0)) (m' (c.tc.loc main_arg1))) (funext fun i => ?_) (congrArg₂ G (hm c).1 (hm c).2)
    obtain ⟨a, b, rfl⟩ : ∃ (a : Fin 8192) (b : Fin 128), i = ix2 a b := ⟨i 0, i 1, eq_ix2 i⟩
    exact prep_odd_ref m' c a b

end Cert.Proof
-- ==== Proof.EvenHost.lean ====
/- The arrays the even layers' preparation kernel is given: rotation tables over the lanes for the attention keys (frequency `lane mod 64`,
   rotated in pairs eight apart) and for the rotary key, and the gains, one per lane. -/
module

public import proofs.«01_k».proof.Proof.Ref
public import proofs.«01_k».proof.Proof.Gathers
public import proofs.«01_k».proof.Proof.QUp
public import proofs.«01_k».proof.Proof.Gen.Kernel9Ideal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Kernel9Ideal.Even

open Cert.Kernel9Ideal Cert.Kernel9Ideal.Gen Cert.Kernel9Ideal.Value

variable (m : (ℓ : Loc nD τ sig) → Buf (Elt Ideal) ℓ)

/-- The columns the attention keys' tables take, by lane. -/
def lanesA : IVec S128x1 32 :=
  broadcastInDim S128x1 ![0] bcast_S128_S128x1_0 (select (constantI S128 1 0#1)
    (addi (fun i => lit0 (S128.rowMajor i)) (broadcastInDim S128 ![] bcast_S_S128 (constantI S_ 32 8#32))) (fun i => lit0 (S128.rowMajor i)))

/-- The columns the rotary key's tables take, by lane. -/
def lanesR : IVec S128x1 32 :=
  broadcastInDim S128x1 ![0] bcast_S128_S128x1_0 (select (constantI S128 1 0#1)
    (addi (fun i => lit4 (S128.rowMajor i)) (broadcastInDim S128 ![] bcast_S_S128 (constantI S_ 32 32#32))) (fun i => lit4 (S128.rowMajor i)))

/-- The angles of the attention keys, by position and frequency. -/
def angA : FVec Ideal S2048x8 .f32 :=
  mulf (broadcastInDim S2048x8 ![0, 1] bcast_S2048x1_S2048x8_0_1 (broadcastInDim S2048x1 ![0] bcast_S2048_S2048x1_0 (sitofp .f32 (iotaInDim S2048 32 0))))
    (broadcastInDim S2048x8 ![0, 1] bcast_S1x8_S2048x8_0_1 (broadcastInDim S1x8 ![1] bcast_S8_S1x8_1
      (Host.powf (broadcastInDim S8 ![] bcast_S_S8 (constant S_ .f32 0x48F42400#32))
        (Host.divf (mulf (Host.negf (sitofp .f32 (iotaInDim S8 32 0))) (broadcastInDim S8 ![] bcast_S_S8 (constant S_ .f32 0x40000000#32)))
          (broadcastInDim S8 ![] bcast_S_S8 (constant S_ .f32 0x41800000#32))))))

/-- The angles of the rotary key, by position and frequency. -/
def angR : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x48F42400#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- A table over the lanes: `x` where the mask is set, the constant elsewhere. -/
def tab (mask : Fin 128 → BitVec 1) (x : FVec Ideal S2048x128 .f32) (c : BitVec 32) : FVec Ideal S2048x128 .f32 :=
  shapeCast S2048x128 (broadcastInDim S1x2048x1x128 ![0, 1, 2, 3] bcast_S1x2048x1x128_S1x2048x1x128_0_1_2_3
    (shapeCast S1x2048x1x128 (select (broadcastInDim S2048x128 ![0, 1] bcast_S1x128_S2048x128_0_1 (broadcastInDim S1x128 ![1] bcast_S128_S1x128_1 (fun i => mask (S128.rowMajor i))))
      x (broadcastInDim S2048x128 ![] bcast_S_S2048x128 (id (constant S_ .f32 c)))) shapeCasts_S2048x128_S1x2048x1x128)) shapeCasts_S1x2048x1x128_S2048x128

/-- A table's columns, spread over the lanes of the attention keys. -/
def spreadA (x : FVec Ideal S2048x8 .f32) : FVec Ideal S2048x128 .f32 :=
  Host.gather gather_S2048x8_S128x1_S2048x128_0_1_n_n_1_1_20481 x lanesA

/-- A table's columns, spread over the lanes of the rotary key. -/
def spreadR (x : FVec Ideal S2048x32 .f32) : FVec Ideal S2048x128 .f32 :=
  Host.gather gather_S2048x32_S128x1_S2048x128_0_1_n_n_1_1_20481 x lanesR

/-- The first layer's row of a gain over 128 lanes. -/
def row128 (g : FVec Ideal S2x128 .f32) : FVec Ideal S1x128 .f32 :=
  shapeCast S1x128 (extractStridedSlice S1x1x128 ![0, 0, 0] (broadcastInDim S2x1x128 ![0, 2] bcast_S2x128_S2x1x128_0_2 g) slices_S2x1x128_S1x1x128_0_0_0) shapeCasts_S1x1x128_S1x128

/-- The attention keys' gain, once per head. -/
def twice (g : FVec Ideal S2x64 .f32) : FVec Ideal S2x128 .f32 :=
  shapeCast S2x128 (broadcastInDim S1x2x2x64 ![0, 1, 2, 3] bcast_S1x2x1x64_S1x2x2x64_0_1_2_3 (shapeCast S1x2x1x64 g shapeCasts_S2x64_S1x2x1x64)) shapeCasts_S1x2x2x64_S2x128

/-- The rotary key's gain, followed by zeros. -/
def padded (g : FVec Ideal S2x64 .f32) : FVec Ideal S2x128 .f32 :=
  pad S2x128 ![0, 0] ![0, 64] ![0, 0] g ((sitofp .f32 (constantI S_ 32 0#32) : FVec Ideal S_ .f32)) pads_S2x64_S2x128_000_0640 h_S_

/-- The latent queries' gain. -/
def gainQ (g : FVec Ideal S2x1024 .f32) : FVec Ideal S1x1024 .f32 :=
  shapeCast S1x1024 (extractStridedSlice S1x1x1024 ![0, 0, 0] (broadcastInDim S2x1x1024 ![0, 2] bcast_S2x1024_S2x1x1024_0_2 g) slices_S2x1x1024_S1x1x1024_0_0_0) shapeCasts_S1x1x1024_S1x1024

/-- The latent keys' gain. -/
def gainC (g : FVec Ideal S2x256 .f32) : FVec Ideal S1x256 .f32 :=
  shapeCast S1x256 (extractStridedSlice S1x1x256 ![0, 0, 0] (broadcastInDim S2x1x256 ![0, 2] bcast_S2x256_S2x1x256_0_2 g) slices_S2x1x256_S1x1x256_0_0_0) shapeCasts_S1x1x256_S1x256

/-- The tables of the attention keys. -/
theorem V_A (c : Dev nD) : V m c main_v44 = tab lit1 (spreadA (Host.cos angA)) 0x3F800000#32
    ∧ V m c main_v47 = tab lit2 (Host.negf (spreadA (Host.sin angA))) 0x00000000#32
    ∧ V m c main_v50 = tab lit3 (spreadA (Host.sin angA)) 0x00000000#32 := by
  refine ⟨?_, ?_, ?_⟩
  all_goals
    show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append, StableHlo.TRef.unary, StableHlo.TRef.binary,
      StableHlo.TRef.ternary, StableHlo.TRef.toBuf, StableHlo.TRef.ofBuf, cast_eq]
    after_results
    rfl

/-- The tables of the rotary key. -/
theorem V_R (c : Dev nD) : V m c main_v86 = tab lit5 (spreadR (Host.cos angR)) 0x3F800000#32
    ∧ V m c main_v89 = tab lit6 (Host.negf (spreadR (Host.sin angR))) 0x00000000#32
    ∧ V m c main_v92 = tab lit7 (spreadR (Host.sin angR)) 0x00000000#32 := by
  refine ⟨?_, ?_, ?_⟩
  all_goals
    show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append, StableHlo.TRef.unary, StableHlo.TRef.binary,
      StableHlo.TRef.ternary, StableHlo.TRef.toBuf, StableHlo.TRef.ofBuf, cast_eq]
    after_results
    rfl

/-- The gains. -/
theorem V_g (c : Dev nD) : V m c main_v94 = row128 (twice (m ((c : Thread nD τ).loc main_arg1)))
    ∧ V m c main_v96 = gainQ (m ((c : Thread nD τ).loc main_arg2))
    ∧ V m c main_v98 = gainC (m ((c : Thread nD τ).loc main_arg3))
    ∧ V m c main_v100 = row128 (padded (m ((c : Thread nD τ).loc main_arg4))) := by
  refine ⟨?_, ?_, ?_, ?_⟩
  all_goals
    show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14]) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14,
      List.flatten_cons, List.flatten_nil, List.append_nil, List.cons_append, List.nil_append, StableHlo.TRef.unary, StableHlo.TRef.binary,
      StableHlo.TRef.ternary, StableHlo.TRef.toBuf, StableHlo.TRef.ofBuf, cast_eq]
    after_results
    rfl

/-- The frequency an attention key's lane takes. -/
def laneA (j : Fin 128) : Fin 8 := if h : j.val % 64 < 8 then ⟨j.val % 64, h⟩ else if h : j.val % 64 < 16 then ⟨j.val % 64 - 8, by omega⟩ else 0

/-- The frequency a rotary key's lane takes. -/
def laneR (j : Fin 128) : Fin 32 := if h : j.val < 32 then ⟨j.val, h⟩ else if h : j.val < 64 then ⟨j.val - 32, by omega⟩ else 0

/-- The attention keys' literal tables, by lane. -/
theorem litsA : ∀ j : Fin 128, (lit0 j).toInt = (laneA j).val ∧ lit1 j = (if j.val % 64 < 16 then 1#1 else 0#1)
    ∧ lit2 j = (if j.val % 64 < 8 then 1#1 else 0#1) ∧ lit3 j = (if 8 ≤ j.val % 64 ∧ j.val % 64 < 16 then 1#1 else 0#1) := by
  decide +kernel

/-- The rotary key's literal tables, by lane. -/
theorem litsR : ∀ j : Fin 128, (lit4 j).toInt = (laneR j).val ∧ lit5 j = (if j.val < 64 then 1#1 else 0#1)
    ∧ lit6 j = (if j.val < 32 then 1#1 else 0#1) ∧ lit7 j = (if 32 ≤ j.val ∧ j.val < 64 then 1#1 else 0#1) := by
  decide +kernel

/-- A vector's row-major position is its coordinate. -/
theorem pos (j : Fin 128) : S128.rowMajor (ix1 j) = j := Fin.ext (Shape.rowMajor_val_one _)

/-- A table spread for the attention keys, entry by entry. -/
theorem spreadA_apply (x : FVec Ideal S2048x8 .f32) (t : Fin 2048) (j : Fin 128) : spreadA x (ix2 t j) = x (ix2 t (laneA j)) := by
  refine Cert.Gathers.cols_apply _ x lanesA t j (laneA j) ?_
  have e : lanesA (ix2 j (0 : Fin 1)) = lit0 (S128.rowMajor (ix1 j)) := by pointwise [lanesA]
  exact (congrArg BitVec.toInt (e.trans (congrArg lit0 (pos j)))).trans (litsA j).1

/-- A table spread for the rotary key, entry by entry. -/
theorem spreadR_apply (x : FVec Ideal S2048x32 .f32) (t : Fin 2048) (j : Fin 128) : spreadR x (ix2 t j) = x (ix2 t (laneR j)) := by
  refine Cert.Gathers.cols_apply _ x lanesR t j (laneR j) ?_
  have e : lanesR (ix2 j (0 : Fin 1)) = lit4 (S128.rowMajor (ix1 j)) := by pointwise [lanesR]
  exact (congrArg BitVec.toInt (e.trans (congrArg lit4 (pos j)))).trans (litsR j).1

/-- A masked table, entry by entry. -/
theorem tab_apply (mask : Fin 128 → BitVec 1) (x : FVec Ideal S2048x128 .f32) (c : BitVec 32) (t : Fin 2048) (j : Fin 128) :
    tab mask x c (ix2 t j) = if mask j = 1#1 then x (ix2 t j) else Ideal.ofBits .f32 c := by
  have e : tab mask x c (ix2 t j) = Scalar.select (mask (S128.rowMajor (ix1 j))) (x (ix2 t j)) (id (constant (F := Ideal) S_ .f32 c) ix0) := by pointwise [tab]
  rw [e, pos]
  rfl

/-- A masked table whose mask is a condition on the lane. -/
theorem tab_if (mask : Fin 128 → BitVec 1) (x : FVec Ideal S2048x128 .f32) (c : BitVec 32) (t : Fin 2048) (j : Fin 128) (p : Prop) [Decidable p]
    (hp : mask j = if p then 1#1 else 0#1) (v w : EReal) (hv : x (ix2 t j) = v) (hw : Ideal.ofBits .f32 c = w) :
    tab mask x c (ix2 t j) = if p then v else w := by
  rw [tab_apply, hp, hv, hw]
  split
  · rw [if_pos rfl]
  · rw [if_neg (by decide)]

/-- The angle at position `t` for frequency `i` of a rotation whose size has the bits `e`. -/
def angle (e : BitVec 32) (t i : Nat) : EReal :=
  FloatOps.sitofp (F := Ideal) .f32 (BitVec.ofNat 32 t) * Ideal.pow (Ideal.ofBits .f32 0x48F42400#32)
    (Ideal.div (-FloatOps.sitofp (F := Ideal) .f32 (BitVec.ofNat 32 i) * Ideal.ofBits .f32 0x40000000#32) (Ideal.ofBits .f32 e))

/-- The attention keys' angles, entry by entry. -/
theorem angA_apply (t : Fin 2048) (i : Fin 8) : angA (ix2 t i) = angle 0x41800000#32 t.val i.val := by
  pointwise [angA]
  rfl

/-- The rotary key's angles, entry by entry. -/
theorem angR_apply (t : Fin 2048) (i : Fin 32) : angR (ix2 t i) = angle 0x42800000#32 t.val i.val := by
  pointwise [angR]
  rfl

/-- The attention keys' cosines. -/
theorem cosA (t : Fin 2048) (j : Fin 128) : tab lit1 (spreadA (Host.cos angA)) 0x3F800000#32 (ix2 t j)
    = if j.val % 64 < 16 then Ideal.cos (angle 0x41800000#32 t.val (laneA j).val) else 1 :=
  tab_if _ _ _ t j _ (litsA j).2.1 _ _ (by rw [spreadA_apply, ← angA_apply]; rfl) Ideal.ofBits_one_f32

/-- The attention keys' negated sines. -/
theorem leftA (t : Fin 2048) (j : Fin 128) : tab lit2 (Host.negf (spreadA (Host.sin angA))) 0x00000000#32 (ix2 t j)
    = if j.val % 64 < 8 then -Ideal.sin (angle 0x41800000#32 t.val (laneA j).val) else 0 :=
  tab_if _ _ _ t j _ (litsA j).2.2.1 _ _ (by show -(spreadA (Host.sin angA) (ix2 t j)) = _; rw [spreadA_apply, ← angA_apply]; rfl) Ideal.ofBits_zero_f32

/-- The attention keys' sines. -/
theorem rightA (t : Fin 2048) (j : Fin 128) : tab lit3 (spreadA (Host.sin angA)) 0x00000000#32 (ix2 t j)
    = if 8 ≤ j.val % 64 ∧ j.val % 64 < 16 then Ideal.sin (angle 0x41800000#32 t.val (laneA j).val) else 0 :=
  tab_if _ _ _ t j _ (litsA j).2.2.2 _ _ (by rw [spreadA_apply, ← angA_apply]; rfl) Ideal.ofBits_zero_f32

/-- The rotary key's cosines. -/
theorem cosR (t : Fin 2048) (j : Fin 128) : tab lit5 (spreadR (Host.cos angR)) 0x3F800000#32 (ix2 t j)
    = if j.val < 64 then Ideal.cos (angle 0x42800000#32 t.val (laneR j).val) else 1 :=
  tab_if _ _ _ t j _ (litsR j).2.1 _ _ (by rw [spreadR_apply, ← angR_apply]; rfl) Ideal.ofBits_one_f32

/-- The rotary key's negated sines. -/
theorem leftR (t : Fin 2048) (j : Fin 128) : tab lit6 (Host.negf (spreadR (Host.sin angR))) 0x00000000#32 (ix2 t j)
    = if j.val < 32 then -Ideal.sin (angle 0x42800000#32 t.val (laneR j).val) else 0 :=
  tab_if _ _ _ t j _ (litsR j).2.2.1 _ _ (by show -(spreadR (Host.sin angR) (ix2 t j)) = _; rw [spreadR_apply, ← angR_apply]; rfl) Ideal.ofBits_zero_f32

/-- The rotary key's sines. -/
theorem rightR (t : Fin 2048) (j : Fin 128) : tab lit7 (spreadR (Host.sin angR)) 0x00000000#32 (ix2 t j)
    = if 32 ≤ j.val ∧ j.val < 64 then Ideal.sin (angle 0x42800000#32 t.val (laneR j).val) else 0 :=
  tab_if _ _ _ t j _ (litsR j).2.2.2 _ _ (by rw [spreadR_apply, ← angR_apply]; rfl) Ideal.ofBits_zero_f32

/-- The attention keys' gain, by lane. -/
theorem gainA_apply (g : FVec Ideal S2x64 .f32) (j : Fin 128) :
    row128 (twice g) (ix2 (0 : Fin 1) j) = g (ix2 (0 : Fin 2) (⟨j.val % 64, Nat.mod_lt _ (by decide)⟩ : Fin 64)) := by
  pointwise [row128, twice]

/-- The rotary key's gain, by lane. -/
theorem gainR_apply (g : FVec Ideal S2x64 .f32) (j : Fin 128) :
    row128 (padded g) (ix2 (0 : Fin 1) j) = if h : j.val < 64 then g (ix2 (0 : Fin 2) (⟨j.val, h⟩ : Fin 64)) else 0 := by
  pointwise [row128, padded]
  by_cases h : j.val < 64
  · rw [dif_pos h, dif_pos h]
  · rw [dif_neg h, dif_neg h]
    exact Cert.Kernel7Ideal.QUp.zero_pad

/-- The latent queries' gain. -/
theorem gainQ_apply (g : FVec Ideal S2x1024 .f32) (j : Fin 1024) : gainQ g (ix2 (0 : Fin 1) j) = g (ix2 (0 : Fin 2) j) := by
  pointwise [gainQ]

/-- The latent keys' gain. -/
theorem gainC_apply (g : FVec Ideal S2x256 .f32) (j : Fin 256) : gainC g (ix2 (0 : Fin 1) j) = g (ix2 (0 : Fin 2) j) := by
  pointwise [gainC]

/-- The latent queries, normed. -/
def GQ (z : Vec Ideal S8192x3840 .f32) (g : Vec Ideal S2x1024 .f32) : Vec Ideal S8192x1024 .bf16 := fun i =>
  let r : Fin 8192 := i 0
  let j : Fin 1024 := i 1
  (z (ix2 r ⟨2048 + j.val, by omega⟩) * Ideal.rsqrt (Ideal.div (∑ x : Fin 1024, z (ix2 r ⟨2048 + x.val, by omega⟩) * z (ix2 r ⟨2048 + x.val, by omega⟩) : EReal)
    (Ideal.ofBits .f32 0x44800000#32) + Ideal.ofBits .f32 0x358637BD#32) * g (ix2 (0 : Fin 2) j) : EReal)

/-- The latent keys, normed. -/
def GC (z : Vec Ideal S8192x3840 .f32) (g : Vec Ideal S2x256 .f32) : Vec Ideal S8192x256 .f32 := fun i =>
  let r : Fin 8192 := i 0
  let j : Fin 256 := i 1
  (z (ix2 r ⟨3328 + j.val, by omega⟩) * Ideal.rsqrt (Ideal.div (∑ x : Fin 256, z (ix2 r ⟨3328 + x.val, by omega⟩) * z (ix2 r ⟨3328 + x.val, by omega⟩) : EReal)
    (Ideal.ofBits .f32 0x43800000#32) + Ideal.ofBits .f32 0x358637BD#32) * g (ix2 (0 : Fin 2) j) : EReal)

/-- A row's attention key of head `h`, normed, at a channel. -/
def nA (z : Vec Ideal S8192x3840 .f32) (g : Vec Ideal S2x64 .f32) (r : Fin 8192) (h : Fin 2) (q : Fin 64) : EReal :=
  z (ix2 r ⟨3072 + (h.val * 64 + q.val), by omega⟩) * Ideal.rsqrt (Ideal.div (∑ x : Fin 64, z (ix2 r ⟨3072 + (h.val * 64 + x.val), by omega⟩)
    * z (ix2 r ⟨3072 + (h.val * 64 + x.val), by omega⟩) : EReal) (Ideal.ofBits .f32 0x42800000#32) + Ideal.ofBits .f32 0x358637BD#32) * g (ix2 (0 : Fin 2) q)

/-- The attention keys, normed, the first 16 channels of each head rotated. -/
def GA (z : Vec Ideal S8192x3840 .f32) (g : Vec Ideal S2x64 .f32) : Vec Ideal S8192x128 .f32 := fun i =>
  let r : Fin 8192 := i 0
  let j : Fin 128 := i 1
  if _ : j.val % 64 < 8 then
    nA z g r ⟨j.val / 64, by omega⟩ ⟨j.val % 64, by omega⟩ * Ideal.cos (angle 0x41800000#32 (r.val % 2048) (j.val % 64))
      - nA z g r ⟨j.val / 64, by omega⟩ ⟨8 + j.val % 64, by omega⟩ * Ideal.sin (angle 0x41800000#32 (r.val % 2048) (j.val % 64))
  else if _ : j.val % 64 < 16 then
    nA z g r ⟨j.val / 64, by omega⟩ ⟨j.val % 64, by omega⟩ * Ideal.cos (angle 0x41800000#32 (r.val % 2048) (j.val % 64 - 8))
      + nA z g r ⟨j.val / 64, by omega⟩ ⟨j.val % 64 - 8, by omega⟩ * Ideal.sin (angle 0x41800000#32 (r.val % 2048) (j.val % 64 - 8))
  else nA z g r ⟨j.val / 64, by omega⟩ ⟨j.val % 64, by omega⟩

/-- A row's rotary key, normed, at a channel. -/
def nR (z : Vec Ideal S8192x3840 .f32) (g : Vec Ideal S2x64 .f32) (r : Fin 8192) (q : Fin 64) : EReal :=
  z (ix2 r ⟨3584 + q.val, by omega⟩) * Ideal.rsqrt (Ideal.div (∑ x : Fin 64, z (ix2 r ⟨3584 + x.val, by omega⟩) * z (ix2 r ⟨3584 + x.val, by omega⟩) : EReal)
    (Ideal.ofBits .f32 0x42800000#32) + Ideal.ofBits .f32 0x358637BD#32) * g (ix2 (0 : Fin 2) q)

/-- The rotary key, normed and rotated, followed by zeros. -/
def GR (z : Vec Ideal S8192x3840 .f32) (g : Vec Ideal S2x64 .f32) : Vec Ideal S8192x128 .f32 := fun i =>
  let r : Fin 8192 := i 0
  let j : Fin 128 := i 1
  if _ : j.val < 32 then
    nR z g r ⟨j.val, by omega⟩ * Ideal.cos (angle 0x42800000#32 (r.val % 2048) j.val)
      - nR z g r ⟨32 + j.val, by omega⟩ * Ideal.sin (angle 0x42800000#32 (r.val % 2048) j.val)
  else if _ : j.val < 64 then
    nR z g r ⟨j.val, by omega⟩ * Ideal.cos (angle 0x42800000#32 (r.val % 2048) (j.val - 32))
      + nR z g r ⟨j.val - 32, by omega⟩ * Ideal.sin (angle 0x42800000#32 (r.val % 2048) (j.val - 32))
  else (0 : EReal)

/-- The attention keys at a row and a lane. -/
theorem GA_ix (z : Vec Ideal S8192x3840 .f32) (g : Vec Ideal S2x64 .f32) (r : Fin 8192) (j : Fin 128) : GA z g (ix2 r j) =
    if _ : j.val % 64 < 8 then
      nA z g r ⟨j.val / 64, by omega⟩ ⟨j.val % 64, by omega⟩ * Ideal.cos (angle 0x41800000#32 (r.val % 2048) (j.val % 64))
        - nA z g r ⟨j.val / 64, by omega⟩ ⟨8 + j.val % 64, by omega⟩ * Ideal.sin (angle 0x41800000#32 (r.val % 2048) (j.val % 64))
    else if _ : j.val % 64 < 16 then
      nA z g r ⟨j.val / 64, by omega⟩ ⟨j.val % 64, by omega⟩ * Ideal.cos (angle 0x41800000#32 (r.val % 2048) (j.val % 64 - 8))
        + nA z g r ⟨j.val / 64, by omega⟩ ⟨j.val % 64 - 8, by omega⟩ * Ideal.sin (angle 0x41800000#32 (r.val % 2048) (j.val % 64 - 8))
    else nA z g r ⟨j.val / 64, by omega⟩ ⟨j.val % 64, by omega⟩ := rfl

/-- The rotary key at a row and a lane. -/
theorem GR_ix (z : Vec Ideal S8192x3840 .f32) (g : Vec Ideal S2x64 .f32) (r : Fin 8192) (j : Fin 128) : GR z g (ix2 r j) =
    if _ : j.val < 32 then
      nR z g r ⟨j.val, by omega⟩ * Ideal.cos (angle 0x42800000#32 (r.val % 2048) j.val)
        - nR z g r ⟨32 + j.val, by omega⟩ * Ideal.sin (angle 0x42800000#32 (r.val % 2048) j.val)
    else if _ : j.val < 64 then
      nR z g r ⟨j.val, by omega⟩ * Ideal.cos (angle 0x42800000#32 (r.val % 2048) (j.val - 32))
        + nR z g r ⟨j.val - 32, by omega⟩ * Ideal.sin (angle 0x42800000#32 (r.val % 2048) (j.val - 32))
    else (0 : EReal) := rfl

end Cert.Kernel9Ideal.Even
-- ==== Proof.EvenBody.lean ====
/- What one run of the even layers' preparation kernel leaves in its four result blocks, entry by entry, from the blocks it is given. -/
module

public import proofs.«01_k».proof.Proof.Ref
public import proofs.«01_k».proof.Proof.Gen.Kernel9Ideal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Kernel9Ideal.Even

open Cert.Kernel9Ideal Cert.Kernel9Ideal.Gen Cert.Kernel9Ideal.Value

/-- The two zeros, as a function. -/
theorem zero2 : (![0, 0] : Fin 2 → Nat) = fun _ => 0 := funext fun a => by fin_cases a <;> rfl

section Runs

variable (c : Dev nD) (i : grid0.Coords)
  (a1 : Memref sig .tc .vmem S256x1024 .f32) (h1 : a1.IsWhole)
  (a2 : Memref sig .tc .vmem S256x128 .f32) (h2 : a2.IsWhole)
  (a3 : Memref sig .tc .vmem S256x256 .f32) (h3 : a3.IsWhole)
  (a4 : Memref sig .tc .vmem S256x128 .f32) (h4 : a4.IsWhole)
  (a5 : Memref sig .tc .vmem S256x128 .f32) (h5 : a5.IsWhole)
  (a6 : Memref sig .tc .vmem S256x128 .f32) (h6 : a6.IsWhole)
  (a7 : Memref sig .tc .vmem S256x128 .f32) (h7 : a7.IsWhole)
  (a8 : Memref sig .tc .vmem S256x128 .f32) (h8 : a8.IsWhole)
  (a9 : Memref sig .tc .vmem S256x128 .f32) (h9 : a9.IsWhole)
  (a10 : Memref sig .tc .vmem S256x128 .f32) (h10 : a10.IsWhole)
  (a11 : Memref sig .tc .vmem S1x128 .f32) (h11 : a11.IsWhole)
  (a12 : Memref sig .tc .vmem S1x1024 .f32) (h12 : a12.IsWhole)
  (a13 : Memref sig .tc .vmem S1x256 .f32) (h13 : a13.IsWhole)
  (a14 : Memref sig .tc .vmem S1x128 .f32) (h14 : a14.IsWhole)
  (a15 : Memref sig .tc .vmem S256x1024 .bf16) (h15 : a15.IsWhole)
  (a16 : Memref sig .tc .vmem S256x128 .f32) (h16 : a16.IsWhole)
  (a17 : Memref sig .tc .vmem S256x256 .f32) (h17 : a17.IsWhole)
  (a18 : Memref sig .tc .vmem S256x128 .f32) (h18 : a18.IsWhole)
  (x0 : Vec Ideal S256x1024 .f32) (x1 : Vec Ideal S256x128 .f32) (x2 : Vec Ideal S256x256 .f32) (x3 : Vec Ideal S256x128 .f32) (x4 : Vec Ideal S256x128 .f32) (x5 : Vec Ideal S256x128 .f32) (x6 : Vec Ideal S256x128 .f32) (x7 : Vec Ideal S256x128 .f32) (x8 : Vec Ideal S256x128 .f32) (x9 : Vec Ideal S256x128 .f32) (x10 : Vec Ideal S1x128 .f32) (x11 : Vec Ideal S1x1024 .f32) (x12 : Vec Ideal S1x256 .f32) (x13 : Vec Ideal S1x128 .f32)

/-- The block of the latent queries a run leaves. -/
theorem run14 : out0_A_14 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 = k0_pay3 x0 x11 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13)]
  unfold kernelRun0_A
  dsimp only
  sl_unfold_words
  rw [View.canon_unit_zero zero2]
  simp only [View.readAt_eq_ld, h1.read_unread, h12.read_unread, View.ld_unit_zero (S := S1x1024) zero2, View.ld_unit_zero (S := S256x1024) zero2]

/-- The block of the attention keys a run leaves. -/
theorem run15 : out0_A_15 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 = k0_pay9 x1 (k0_pay4 x10) k0_pay5 (k0_pay7 x1) (k0_pay8 x1) (Scalar.ofBits .f32 0x3C800000#32) x4 x5 x6 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13)]
  unfold kernelRun0_A
  dsimp only
  sl_unfold_words
  rw [View.canon_unit_zero zero2]
  simp only [View.readAt_eq_ld, h2.read_unread, h11.read_unread, h5.read_unread, h6.read_unread, h7.read_unread, View.ld_unit_zero (S := S1x128) zero2, View.ld_unit_zero (S := S256x128) zero2]

/-- The block of the latent keys a run leaves. -/
theorem run16 : out0_A_16 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 = k0_pay1 (k0_pay10 x2) (k0_pay11 x12) := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13)]
  unfold kernelRun0_A
  dsimp only
  sl_unfold_words
  rw [View.canon_unit_zero zero2]
  simp only [View.readAt_eq_ld, h3.read_unread, h13.read_unread, View.ld_unit_zero (S := S1x256) zero2, View.ld_unit_zero (S := S256x256) zero2]

/-- The block of the rotary key a run leaves. -/
theorem run17 : out0_A_17 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13 = k0_pay2 x3 x13 x7 x8 x9 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 x0 x1 x2 x3 x4 x5 x6 x7 x8 x9 x10 x11 x12 x13)]
  unfold kernelRun0_A
  dsimp only
  sl_unfold_words
  rw [View.canon_unit_zero zero2]
  simp only [View.readAt_eq_ld, h4.read_unread, h14.read_unread, h8.read_unread, h9.read_unread, h10.read_unread, View.ld_unit_zero (S := S1x128) zero2, View.ld_unit_zero (S := S256x128) zero2]

end Runs

/-- The test for the first head's lanes. -/
theorem first_head (i : Fin 256) (j : Fin 128) : k0_pay5 (ix2 i j) = if j.val < 64 then 1#1 else 0#1 := by
  pointwise [k0_pay5]
  exact (by decide +kernel : ∀ j : Fin 128, IntOp.cmpi .slt (BitVec.ofNat 32 j.val) 64#32 = if j.val < 64 then 1#1 else 0#1) j

/-- A selection by a condition. -/
theorem sel {α : Type} (p : Prop) [Decidable p] (a b : α) : Scalar.select (if p then 1#1 else 0#1) a b = if p then a else b := by
  split <;> rfl

/-- A sum over the lanes that keeps the first 64. -/
theorem sum_lo (f : Fin 128 → EReal) : (∑ q : Fin 128, if q.val < 64 then f q else 0) = ∑ x : Fin 64, f ⟨x.val, by omega⟩ := by
  refine (Fin.sum_univ_add (a := 64) (b := 64) fun q : Fin (64 + 64) => if q.val < 64 then f q else 0).trans ?_
  rw [Finset.sum_eq_zero (s := Finset.univ) (f := fun x : Fin 64 => if (Fin.natAdd 64 x).val < 64 then f (Fin.natAdd 64 x) else 0)
    fun x _ => if_neg (by simp), add_zero]
  exact Finset.sum_congr rfl fun x _ => if_pos x.isLt

/-- A sum over the lanes that keeps the last 64. -/
theorem sum_hi (f : Fin 128 → EReal) : (∑ q : Fin 128, if q.val < 64 then 0 else f q) = ∑ x : Fin 64, f ⟨64 + x.val, by omega⟩ := by
  refine (Fin.sum_univ_add (a := 64) (b := 64) fun q : Fin (64 + 64) => if q.val < 64 then 0 else f q).trans ?_
  rw [Finset.sum_eq_zero (s := Finset.univ) (f := fun x : Fin 64 => if (Fin.castAdd 64 x).val < 64 then 0 else f (Fin.castAdd 64 x))
    fun x _ => if_pos x.isLt, zero_add]
  exact Finset.sum_congr rfl fun x _ => if_neg (by simp)

/-- A block of the latent queries, entry by entry. -/
theorem body_q (x : Vec Ideal S256x1024 .f32) (g : Vec Ideal S1x1024 .f32) (i : Fin 256) (j : Fin 1024) :
    k0_pay3 x g (ix2 i j) = (x (ix2 i j) * Ideal.rsqrt ((∑ q : Fin 1024, x (ix2 i q) * x (ix2 i q) : EReal) * Ideal.ofBits .f32 0x3A800000#32
      + Ideal.ofBits .f32 0x358637BD#32) * g (ix2 (0 : Fin 1) j) : EReal) := by
  pointwise [k0_pay3]

/-- A block of the latent keys, entry by entry. -/
theorem body_c (x : Vec Ideal S256x256 .f32) (g : Vec Ideal S1x256 .f32) (i j : Fin 256) :
    k0_pay1 (k0_pay10 x) (k0_pay11 g) (ix2 i j) = (x (ix2 i j) * Ideal.rsqrt ((∑ q : Fin 256, x (ix2 i q) * x (ix2 i q) : EReal) * Ideal.ofBits .f32 0x3B800000#32
      + Ideal.ofBits .f32 0x358637BD#32) * g (ix2 (0 : Fin 1) j) : EReal) := by
  pointwise [k0_pay1, k0_pay10, k0_pay11]

/-- A block's attention key, normed over its head's 64 lanes. -/
def normA (x : Vec Ideal S256x128 .f32) (g : Vec Ideal S1x128 .f32) (i : Fin 256) (j : Fin 128) : EReal :=
  x (ix2 i j) * (if j.val < 64 then Ideal.rsqrt ((∑ q : Fin 64, x (ix2 i ⟨q.val, by omega⟩) * x (ix2 i ⟨q.val, by omega⟩) : EReal)
      * Ideal.ofBits .f32 0x3C800000#32 + Ideal.ofBits .f32 0x358637BD#32)
    else Ideal.rsqrt ((∑ q : Fin 64, x (ix2 i ⟨64 + q.val, by omega⟩) * x (ix2 i ⟨64 + q.val, by omega⟩) : EReal)
      * Ideal.ofBits .f32 0x3C800000#32 + Ideal.ofBits .f32 0x358637BD#32)) * g (ix2 (0 : Fin 1) j)

/-- A block of the attention keys, entry by entry. -/
theorem body_a (x a b c : Vec Ideal S256x128 .f32) (g : Vec Ideal S1x128 .f32) (i : Fin 256) (j : Fin 128) :
    k0_pay9 x (k0_pay4 g) k0_pay5 (k0_pay7 x) (k0_pay8 x) (Scalar.ofBits .f32 0x3C800000#32) a b c (ix2 i j)
    = (normA x g i j * a (ix2 i j) + normA x g i ⟨(j.val + 128 - 120) % 128, by omega⟩ * b (ix2 i j)
      + normA x g i ⟨(j.val + 128 - 8) % 128, by omega⟩ * c (ix2 i j) : EReal) := by
  pointwise [k0_pay9, k0_pay4, k0_pay7, k0_pay8, k0_pay6]
  simp only [first_head, sel]
  rw [sum_lo fun q => x (ix2 i q) * x (ix2 i q), sum_hi fun q => x (ix2 i q) * x (ix2 i q)]
  rfl

/-- A block's rotary key, normed over the 128 lanes. -/
def normR (x : Vec Ideal S256x128 .f32) (g : Vec Ideal S1x128 .f32) (i : Fin 256) (j : Fin 128) : EReal :=
  x (ix2 i j) * Ideal.rsqrt ((∑ q : Fin 128, x (ix2 i q) * x (ix2 i q) : EReal) * Ideal.ofBits .f32 0x3C800000#32 + Ideal.ofBits .f32 0x358637BD#32)
    * g (ix2 (0 : Fin 1) j)

/-- A block of the rotary key, entry by entry. -/
theorem body_r (x a b c : Vec Ideal S256x128 .f32) (g : Vec Ideal S1x128 .f32) (i : Fin 256) (j : Fin 128) :
    k0_pay2 x g a b c (ix2 i j)
    = (normR x g i j * a (ix2 i j) + normR x g i ⟨(j.val + 128 - 96) % 128, by omega⟩ * b (ix2 i j)
      + normR x g i ⟨(j.val + 128 - 32) % 128, by omega⟩ * c (ix2 i j) : EReal) := by
  pointwise [k0_pay2, normR]

end Cert.Kernel9Ideal.Even
-- ==== Proof.EvenBlocks.lean ====
/- The blocks the even layers' preparation kernel is given at a grid point, entry by entry: rows of `z`, the rotation tables, the gains. -/
module

public import proofs.«01_k».proof.Proof.Ref
public import proofs.«01_k».proof.Proof.EvenHost
public import proofs.«01_k».proof.Proof.EvenBody
public import proofs.«01_k».proof.Proof.Gen.Kernel9Ideal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Kernel9Ideal.Even

open Cert.Kernel9Ideal Cert.Kernel9Ideal.Gen Cert.Kernel9Ideal.Value

variable (m : (ℓ : Loc nD τ sig) → Buf (Elt Ideal) ℓ)

/-- An index of a matrix is its two coordinates. -/
theorem at_ix2 {a b : Nat} (x : (⟨2, ![a, b]⟩ : Shape).Idx) (i : Fin a) (j : Fin b) (h0 : (x 0).val = i.val) (h1 : (x 1).val = j.val) : x = ix2 i j := by
  funext q
  apply Fin.ext
  match q with
  | ⟨0, _⟩ => exact h0
  | ⟨1, _⟩ => exact h1

/-- The blocks of `z` the grid visits. -/
theorem idx_in : ∀ t : Fin cfg0.N, (win0_0.index t (0 : Fin 2) = t.val ∧ win0_0.index t (1 : Fin 2) = 2)
    ∧ (win0_1.index t (0 : Fin 2) = t.val ∧ win0_1.index t (1 : Fin 2) = 24)
    ∧ (win0_2.index t (0 : Fin 2) = t.val ∧ win0_2.index t (1 : Fin 2) = 13)
    ∧ (win0_3.index t (0 : Fin 2) = t.val ∧ win0_3.index t (1 : Fin 2) = 28) :=
  (by decide +kernel : ∀ t : Fin grid0.N, _)

/-- The blocks of the attention keys' tables and of the rotary key's. -/
theorem idx_tab : ∀ t : Fin cfg0.N, (win0_4.index t (0 : Fin 2) = t.val % 8 ∧ win0_4.index t (1 : Fin 2) = 0)
    ∧ (win0_5.index t (0 : Fin 2) = t.val % 8 ∧ win0_5.index t (1 : Fin 2) = 0)
    ∧ (win0_6.index t (0 : Fin 2) = t.val % 8 ∧ win0_6.index t (1 : Fin 2) = 0)
    ∧ (win0_7.index t (0 : Fin 2) = t.val % 8 ∧ win0_7.index t (1 : Fin 2) = 0)
    ∧ (win0_8.index t (0 : Fin 2) = t.val % 8 ∧ win0_8.index t (1 : Fin 2) = 0)
    ∧ (win0_9.index t (0 : Fin 2) = t.val % 8 ∧ win0_9.index t (1 : Fin 2) = 0) :=
  (by decide +kernel : ∀ t : Fin grid0.N, _)

/-- The gains' blocks. -/
theorem idx_gain : ∀ t : Fin cfg0.N, (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- The results' blocks. -/
theorem idx_out : ∀ t : Fin cfg0.N, (win0_14.index t (0 : Fin 2) = t.val ∧ win0_14.index t (1 : Fin 2) = 0)
    ∧ (win0_15.index t (0 : Fin 2) = t.val ∧ win0_15.index t (1 : Fin 2) = 0)
    ∧ (win0_16.index t (0 : Fin 2) = t.val ∧ win0_16.index t (1 : Fin 2) = 0)
    ∧ (win0_17.index t (0 : Fin 2) = t.val ∧ win0_17.index t (1 : Fin 2) = 0) :=
  (by decide +kernel : ∀ t : Fin grid0.N, _)

/-- The block of latent queries at point `t`. -/
theorem rows_q (c : Dev nD) (t : Fin cfg0.N) (i : Fin 256) (j : Fin 1024) (r : Fin 8192) (hr : r.val = t.val * 256 + i.val) :
    (show Vec Ideal S256x1024 .f32 from X0_0 m c t) (ix2 i j) = m ((c : Thread nD τ).loc main_arg0) (ix2 r (⟨2048 + j.val, by omega⟩ : Fin 3840)) := by
  obtain ⟨e0, e1⟩ := (idx_in t).1
  rw [← V_main_arg0 m c]
  show (cfg0.win 0).fill (cfg0.grid.coords t) dflt0_0 (iblk m c 0 t) (ix2 i j) = _
  unfold Pipeline.Window.fill
  rw [dif_pos (moved0_0 t (ix2 i j))]
  show V m c main_arg0 (((cfg0.win 0).blk t).view.emb _) = _
  refine congrArg (V m c main_arg0) (at_ix2 _ _ _ ?_ ?_)
  · show win0_0.index t (0 : Fin 2) * 256 + 1 * i.val = r.val; omega
  · show win0_0.index t (1 : Fin 2) * 1024 + 1 * j.val = 2048 + j.val; omega

/-- The block of attention keys at point `t`. -/
theorem rows_a (c : Dev nD) (t : Fin cfg0.N) (i : Fin 256) (j : Fin 128) (r : Fin 8192) (hr : r.val = t.val * 256 + i.val) :
    iblk m c 1 t (ix2 i j : S256x128.Idx) = m ((c : Thread nD τ).loc main_arg0) (ix2 r (⟨3072 + j.val, by omega⟩ : Fin 3840)) := by
  obtain ⟨e0, e1⟩ := (idx_in t).2.1
  rw [← V_main_arg0 m c]
  show V m c main_arg0 (((cfg0.win 1).blk t).view.emb (ix2 i j : S256x128.Idx)) = _
  refine congrArg (V m c main_arg0) (at_ix2 _ _ _ ?_ ?_)
  · show win0_1.index t (0 : Fin 2) * 256 + 1 * i.val = r.val; omega
  · show win0_1.index t (1 : Fin 2) * 128 + 1 * j.val = 3072 + j.val; omega

/-- The block of latent keys at point `t`. -/
theorem rows_c (c : Dev nD) (t : Fin cfg0.N) (i : Fin 256) (j : Fin 256) (r : Fin 8192) (hr : r.val = t.val * 256 + i.val) :
    iblk m c 2 t (ix2 i j : S256x256.Idx) = m ((c : Thread nD τ).loc main_arg0) (ix2 r (⟨3328 + j.val, by omega⟩ : Fin 3840)) := by
  obtain ⟨e0, e1⟩ := (idx_in t).2.2.1
  rw [← V_main_arg0 m c]
  show V m c main_arg0 (((cfg0.win 2).blk t).view.emb (ix2 i j : S256x256.Idx)) = _
  refine congrArg (V m c main_arg0) (at_ix2 _ _ _ ?_ ?_)
  · show win0_2.index t (0 : Fin 2) * 256 + 1 * i.val = r.val; omega
  · show win0_2.index t (1 : Fin 2) * 256 + 1 * j.val = 3328 + j.val; omega

/-- The block of rotary keys at point `t`. -/
theorem rows_r (c : Dev nD) (t : Fin cfg0.N) (i : Fin 256) (j : Fin 128) (r : Fin 8192) (hr : r.val = t.val * 256 + i.val) :
    iblk m c 3 t (ix2 i j : S256x128.Idx) = m ((c : Thread nD τ).loc main_arg0) (ix2 r (⟨3584 + j.val, by omega⟩ : Fin 3840)) := by
  obtain ⟨e0, e1⟩ := (idx_in t).2.2.2
  rw [← V_main_arg0 m c]
  show V m c main_arg0 (((cfg0.win 3).blk t).view.emb (ix2 i j : S256x128.Idx)) = _
  refine congrArg (V m c main_arg0) (at_ix2 _ _ _ ?_ ?_)
  · show win0_3.index t (0 : Fin 2) * 256 + 1 * i.val = r.val; omega
  · show win0_3.index t (1 : Fin 2) * 128 + 1 * j.val = 3584 + j.val; omega

/-- The block of the attention keys's cosines at point `t`. -/
theorem tab4 (c : Dev nD) (t : Fin cfg0.N) (i : Fin 256) (j : Fin 128) (p : Fin 2048) (hp : p.val = t.val % 8 * 256 + i.val) :
    iblk m c 4 t (ix2 i j : S256x128.Idx) = (if j.val % 64 < 16 then Ideal.cos (angle 0x41800000#32 p.val (laneA j).val) else 1 : EReal) := by
  obtain ⟨e0, e1⟩ := (idx_tab t).1
  refine Eq.trans ?_ ((congrFun (V_A m c).1 (ix2 p j)).trans (cosA p j))
  show V m c main_v44 (((cfg0.win 4).blk t).view.emb (ix2 i j : S256x128.Idx)) = _
  refine congrArg (V m c main_v44) (at_ix2 _ _ _ ?_ ?_)
  · show win0_4.index t (0 : Fin 2) * 256 + 1 * i.val = p.val; omega
  · show win0_4.index t (1 : Fin 2) * 128 + 1 * j.val = j.val; omega

/-- The block of the attention keys's negated sines at point `t`. -/
theorem tab5 (c : Dev nD) (t : Fin cfg0.N) (i : Fin 256) (j : Fin 128) (p : Fin 2048) (hp : p.val = t.val % 8 * 256 + i.val) :
    iblk m c 5 t (ix2 i j : S256x128.Idx) = (if j.val % 64 < 8 then -Ideal.sin (angle 0x41800000#32 p.val (laneA j).val) else 0 : EReal) := by
  obtain ⟨e0, e1⟩ := (idx_tab t).2.1
  refine Eq.trans ?_ ((congrFun (V_A m c).2.1 (ix2 p j)).trans (leftA p j))
  show V m c main_v47 (((cfg0.win 5).blk t).view.emb (ix2 i j : S256x128.Idx)) = _
  refine congrArg (V m c main_v47) (at_ix2 _ _ _ ?_ ?_)
  · show win0_5.index t (0 : Fin 2) * 256 + 1 * i.val = p.val; omega
  · show win0_5.index t (1 : Fin 2) * 128 + 1 * j.val = j.val; omega

/-- The block of the attention keys's sines at point `t`. -/
theorem tab6 (c : Dev nD) (t : Fin cfg0.N) (i : Fin 256) (j : Fin 128) (p : Fin 2048) (hp : p.val = t.val % 8 * 256 + i.val) :
    iblk m c 6 t (ix2 i j : S256x128.Idx) = (if 8 ≤ j.val % 64 ∧ j.val % 64 < 16 then Ideal.sin (angle 0x41800000#32 p.val (laneA j).val) else 0 : EReal) := by
  obtain ⟨e0, e1⟩ := (idx_tab t).2.2.1
  refine Eq.trans ?_ ((congrFun (V_A m c).2.2 (ix2 p j)).trans (rightA p j))
  show V m c main_v50 (((cfg0.win 6).blk t).view.emb (ix2 i j : S256x128.Idx)) = _
  refine congrArg (V m c main_v50) (at_ix2 _ _ _ ?_ ?_)
  · show win0_6.index t (0 : Fin 2) * 256 + 1 * i.val = p.val; omega
  · show win0_6.index t (1 : Fin 2) * 128 + 1 * j.val = j.val; omega

/-- The block of the rotary key's cosines at point `t`. -/
theorem tab7 (c : Dev nD) (t : Fin cfg0.N) (i : Fin 256) (j : Fin 128) (p : Fin 2048) (hp : p.val = t.val % 8 * 256 + i.val) :
    iblk m c 7 t (ix2 i j : S256x128.Idx) = (if j.val < 64 then Ideal.cos (angle 0x42800000#32 p.val (laneR j).val) else 1 : EReal) := by
  obtain ⟨e0, e1⟩ := (idx_tab t).2.2.2.1
  refine Eq.trans ?_ ((congrFun (V_R m c).1 (ix2 p j)).trans (cosR p j))
  show V m c main_v86 (((cfg0.win 7).blk t).view.emb (ix2 i j : S256x128.Idx)) = _
  refine congrArg (V m c main_v86) (at_ix2 _ _ _ ?_ ?_)
  · show win0_7.index t (0 : Fin 2) * 256 + 1 * i.val = p.val; omega
  · show win0_7.index t (1 : Fin 2) * 128 + 1 * j.val = j.val; omega

/-- The block of the rotary key's negated sines at point `t`. -/
theorem tab8 (c : Dev nD) (t : Fin cfg0.N) (i : Fin 256) (j : Fin 128) (p : Fin 2048) (hp : p.val = t.val % 8 * 256 + i.val) :
    iblk m c 8 t (ix2 i j : S256x128.Idx) = (if j.val < 32 then -Ideal.sin (angle 0x42800000#32 p.val (laneR j).val) else 0 : EReal) := by
  obtain ⟨e0, e1⟩ := (idx_tab t).2.2.2.2.1
  refine Eq.trans ?_ ((congrFun (V_R m c).2.1 (ix2 p j)).trans (leftR p j))
  show V m c main_v89 (((cfg0.win 8).blk t).view.emb (ix2 i j : S256x128.Idx)) = _
  refine congrArg (V m c main_v89) (at_ix2 _ _ _ ?_ ?_)
  · show win0_8.index t (0 : Fin 2) * 256 + 1 * i.val = p.val; omega
  · show win0_8.index t (1 : Fin 2) * 128 + 1 * j.val = j.val; omega

/-- The block of the rotary key's sines at point `t`. -/
theorem tab9 (c : Dev nD) (t : Fin cfg0.N) (i : Fin 256) (j : Fin 128) (p : Fin 2048) (hp : p.val = t.val % 8 * 256 + i.val) :
    iblk m c 9 t (ix2 i j : S256x128.Idx) = (if 32 ≤ j.val ∧ j.val < 64 then Ideal.sin (angle 0x42800000#32 p.val (laneR j).val) else 0 : EReal) := by
  obtain ⟨e0, e1⟩ := (idx_tab t).2.2.2.2.2
  refine Eq.trans ?_ ((congrFun (V_R m c).2.2 (ix2 p j)).trans (rightR p j))
  show V m c main_v92 (((cfg0.win 9).blk t).view.emb (ix2 i j : S256x128.Idx)) = _
  refine congrArg (V m c main_v92) (at_ix2 _ _ _ ?_ ?_)
  · show win0_9.index t (0 : Fin 2) * 256 + 1 * i.val = p.val; omega
  · show win0_9.index t (1 : Fin 2) * 128 + 1 * j.val = j.val; omega

/-- The attention keys' gain at point `t`. -/
theorem blk_gainA (c : Dev nD) (t : Fin cfg0.N) (j : Fin 128) : iblk m c 10 t (ix2 (0 : Fin 1) j : S1x128.Idx) = (m ((c : Thread nD τ).loc main_arg1) (ix2 (0 : Fin 2) (⟨j.val % 64, Nat.mod_lt _ (by decide)⟩ : Fin 64))) := by
  obtain ⟨e0, e1⟩ := (idx_gain t).1
  refine Eq.trans ?_ ((congrFun (V_g m c).1 (ix2 (0 : Fin 1) j)).trans (gainA_apply _ j))
  show V m c main_v94 (((cfg0.win 10).blk t).view.emb (ix2 (0 : Fin 1) j : S1x128.Idx)) = _
  refine congrArg (V m c main_v94) (at_ix2 _ _ _ ?_ ?_)
  · show win0_10.index t (0 : Fin 2) * 1 + 1 * 0 = 0; omega
  · show win0_10.index t (1 : Fin 2) * 128 + 1 * j.val = j.val; omega

/-- The latent queries' gain at point `t`. -/
theorem blk_gainQ (c : Dev nD) (t : Fin cfg0.N) (j : Fin 1024) : iblk m c 11 t (ix2 (0 : Fin 1) j : S1x1024.Idx) = (m ((c : Thread nD τ).loc main_arg2) (ix2 (0 : Fin 2) j)) := by
  obtain ⟨e0, e1⟩ := (idx_gain t).2.1
  refine Eq.trans ?_ ((congrFun (V_g m c).2.1 (ix2 (0 : Fin 1) j)).trans (gainQ_apply _ j))
  show V m c main_v96 (((cfg0.win 11).blk t).view.emb (ix2 (0 : Fin 1) j : S1x1024.Idx)) = _
  refine congrArg (V m c main_v96) (at_ix2 _ _ _ ?_ ?_)
  · show win0_11.index t (0 : Fin 2) * 1 + 1 * 0 = 0; omega
  · show win0_11.index t (1 : Fin 2) * 1024 + 1 * j.val = j.val; omega

/-- The latent keys' gain at point `t`. -/
theorem blk_gainC (c : Dev nD) (t : Fin cfg0.N) (j : Fin 256) : iblk m c 12 t (ix2 (0 : Fin 1) j : S1x256.Idx) = (m ((c : Thread nD τ).loc main_arg3) (ix2 (0 : Fin 2) j)) := by
  obtain ⟨e0, e1⟩ := (idx_gain t).2.2.1
  refine Eq.trans ?_ ((congrFun (V_g m c).2.2.1 (ix2 (0 : Fin 1) j)).trans (gainC_apply _ j))
  show V m c main_v98 (((cfg0.win 12).blk t).view.emb (ix2 (0 : Fin 1) j : S1x256.Idx)) = _
  refine congrArg (V m c main_v98) (at_ix2 _ _ _ ?_ ?_)
  · show win0_12.index t (0 : Fin 2) * 1 + 1 * 0 = 0; omega
  · show win0_12.index t (1 : Fin 2) * 256 + 1 * j.val = j.val; omega

/-- The rotary key' gain at point `t`. -/
theorem blk_gainR (c : Dev nD) (t : Fin cfg0.N) (j : Fin 128) : iblk m c 13 t (ix2 (0 : Fin 1) j : S1x128.Idx) = (if h : j.val < 64 then (show Vec Ideal S2x64 .f32 from m ((c : Thread nD τ).loc main_arg4)) (ix2 (0 : Fin 2) (⟨j.val, h⟩ : Fin 64)) else (0 : EReal) : EReal) := by
  obtain ⟨e0, e1⟩ := (idx_gain t).2.2.2
  refine Eq.trans ?_ ((congrFun (V_g m c).2.2.2 (ix2 (0 : Fin 1) j)).trans (gainR_apply _ j))
  show V m c main_v100 (((cfg0.win 13).blk t).view.emb (ix2 (0 : Fin 1) j : S1x128.Idx)) = _
  refine congrArg (V m c main_v100) (at_ix2 _ _ _ ?_ ?_)
  · show win0_13.index t (0 : Fin 2) * 1 + 1 * 0 = 0; omega
  · show win0_13.index t (1 : Fin 2) * 128 + 1 * j.val = j.val; omega

end Cert.Kernel9Ideal.Even
-- ==== Proof.EvenFinal.lean ====
/- The four result arrays of the even layers' preparation kernel: what each grid point writes back is its block of the normed latents,
   of the attention keys and of the rotary key, and the blocks cover the arrays. -/
module

public import proofs.«01_k».proof.Proof.Ref
public import proofs.«01_k».proof.Proof.EvenHost
public import proofs.«01_k».proof.Proof.EvenBlocks
public import proofs.«01_k».proof.Proof.Gen.Kernel9Ideal.Value
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Kernel9Ideal.Even

open Cert.Kernel9Ideal Cert.Kernel9Ideal.Gen Cert.Kernel9Ideal.Value

variable (m : (ℓ : Loc nD τ sig) → Buf (Elt Ideal) ℓ)

/-- A block's normed attention key is the row's. -/
theorem normA_eq (c : Dev nD) (t : Fin cfg0.N) (i : Fin 256) (j : Fin 128) (r : Fin 8192) (hr : r.val = t.val * 256 + i.val) (h : Fin 2) (q : Fin 64)
    (hj : j.val = h.val * 64 + q.val) :
    normA (iblk m c 1 t) (iblk m c 10 t) i j = nA (m ((c : Thread nD τ).loc main_arg0)) (m ((c : Thread nD τ).loc main_arg1)) r h q := by
  unfold normA nA
  have hq : (⟨j.val % 64, Nat.mod_lt _ (by decide)⟩ : Fin 64) = q := Fin.ext (by dsimp only; omega)
  simp only [blk_gainA m c t j, rows_a m c t i _ r hr, Cert.ReferenceIdeal.Stick.div_64]
  rw [hq]
  simp only [hj]
  obtain h0 | h1 : h.val = 0 ∨ h.val = 1 := by omega
  · rw [if_pos (by omega)]
    simp only [h0, Nat.zero_mul, Nat.zero_add]
  · rw [if_neg (by omega)]
    simp only [h1, Nat.one_mul]

/-- A block's normed rotary key is the row's, if the columns after it are zero. -/
theorem normR_eq (c : Dev nD) (hz : ∀ (r : Fin 8192) (x : Fin 64), (show Vec Ideal S8192x3840 .f32 from m ((c : Thread nD τ).loc main_arg0)) (ix2 r ⟨3648 + x.val, by omega⟩) = (0 : EReal))
    (t : Fin cfg0.N) (i : Fin 256) (j : Fin 128) (r : Fin 8192) (hr : r.val = t.val * 256 + i.val) :
    normR (iblk m c 3 t) (iblk m c 13 t) i j
      = if h : j.val < 64 then nR (m ((c : Thread nD τ).loc main_arg0)) (m ((c : Thread nD τ).loc main_arg4)) r ⟨j.val, h⟩ else 0 := by
  unfold normR
  simp only [blk_gainR m c t j, rows_r m c t i _ r hr]
  by_cases h : j.val < 64
  · rw [dif_pos h, dif_pos h]
    unfold nR
    rw [Cert.ReferenceIdeal.Stick.div_64]
    obtain ⟨z, ez⟩ : ∃ z : Vec Ideal S8192x3840 .f32, z = m ((c : Thread nD τ).loc main_arg0) := ⟨_, rfl⟩
    rw [← ez] at hz ⊢
    have e : (∑ q : Fin 128, z (ix2 r ⟨3584 + q.val, by omega⟩) * z (ix2 r ⟨3584 + q.val, by omega⟩) : EReal)
        = ∑ x : Fin 64, z (ix2 r ⟨3584 + x.val, by omega⟩) * z (ix2 r ⟨3584 + x.val, by omega⟩) := by
      refine (Fin.sum_univ_add (a := 64) (b := 64) fun q : Fin (64 + 64) =>
        (z (ix2 r ⟨3584 + q.val, by omega⟩) * z (ix2 r ⟨3584 + q.val, by omega⟩) : EReal)).trans ?_
      refine Eq.trans (congrArg₂ (fun a b : EReal => a + b) rfl (Finset.sum_eq_zero fun x _ => ?_)) (add_zero _)
      have e0 : z (ix2 r ⟨3584 + (Fin.natAdd 64 x).val, by have := x.isLt; simp; omega⟩) = (0 : EReal) :=
        (congrArg (fun k : Fin 3840 => z (ix2 r k)) (Fin.ext (by simp; omega))).trans (hz r x)
      exact (congrArg₂ (fun a b : EReal => a * b) e0 e0).trans (mul_zero _)
    rw [e]
  · rw [dif_neg h, dif_neg h, mul_zero]

/-- What each point writes back of the latent queries is its block of the array. -/
theorem flushed_q (c : Dev nD) (t : Fin cfg0.N) : (dats m 0 c).flushed 14 t
    = ((cfg0.win 14).blk t).view.read (Elt Ideal) (GQ (m ((c : Thread nD τ).loc main_arg0)) (m ((c : Thread nD τ).loc main_arg2))) := by
  rw [flushed14_A, run14]
  funext y
  obtain ⟨i, j, rfl⟩ : ∃ (i : Fin 256) (j : Fin 1024), y = (ix2 i j : S256x1024.Idx) := ⟨y 0, y 1, eq_ix2 y⟩
  obtain ⟨e0, e1⟩ := (idx_out t).1
  have hN : t.val < 32 := t.isLt.trans_eq N_0
  have h : ((cfg0.win 14).blk t).view.emb (ix2 i j : S256x1024.Idx) = (ix2 (⟨t.val * 256 + i.val, by omega⟩ : Fin 8192) j : S8192x1024.Idx) := by
    refine at_ix2 _ _ _ ?_ ?_
    · show win0_14.index t (0 : Fin 2) * 256 + 1 * i.val = t.val * 256 + i.val; omega
    · show win0_14.index t (1 : Fin 2) * 1024 + 1 * j.val = j.val; omega
  show k0_pay3 (X0_0 m c t) (iblk m c 11 t) (ix2 i j) = GQ _ _ (((cfg0.win 14).blk t).view.emb (ix2 i j : S256x1024.Idx))
  rw [h]
  refine (body_q _ _ i j).trans ?_
  have hx := fun k : Fin 1024 => rows_q m c t i k ⟨t.val * 256 + i.val, by omega⟩ rfl
  dsimp only at hx
  unfold GQ
  refine congrArg₂ (fun a b : EReal => a * b) (congrArg₂ (fun a b : EReal => a * b) (hx j) (congrArg (fun s : EReal => Ideal.rsqrt (s + Ideal.ofBits .f32 0x358637BD#32)) ((congrArg (fun s : EReal => s * Ideal.ofBits .f32 0x3A800000#32) ?_).trans (Cert.ReferenceIdeal.Stick.div_1024 _).symm))) (blk_gainQ m c t j)
  exact Finset.sum_congr rfl fun k _ => congrArg₂ (fun a b : EReal => a * b) (hx k) (hx k)

/-- An entry is in point `t`'s block iff each coordinate is in the block's range. -/
theorem mem_q (t : Fin cfg0.N) (i : S8192x1024.Idx) : i ∈ ((cfg0.win 14).blk t).view.set
    ↔ ∀ a : Fin 2, win0_14.index t a * S256x1024.size a ≤ (i a).val ∧ (i a).val < win0_14.index t a * S256x1024.size a + S256x1024.size a := by
  show i ∈ ((View.whole main_v101_0).slice (win0_14.rect t)).set ↔ _
  rw [View.set_slice_whole, Rect.mem_set_unit]
  exact Iff.rfl

/-- The array of the latent queries after the run. -/
theorem final_q (c : Dev nD) : (dats m 0 c).arrAt 14 cfg0.N = GQ (m ((c : Thread nD τ).loc main_arg0)) (m ((c : Thread nD τ).loc main_arg2)) := by
  refine (dats m 0 c).arrAt_eq_of_cover 14 _ (fun t _ => flushed_q m c t) fun i => ?_
  have hi0 : (i 0).val < 8192 := (i 0).isLt
  have hi1 : (i 1).val < 1024 := (i 1).isLt
  have hN : cfg0.N = 32 := N_0
  refine ⟨⟨(i 0).val / 256, by omega⟩, flush0_14 _, ?_⟩
  obtain ⟨e0, e1⟩ := (idx_out ⟨(i 0).val / 256, by omega⟩).1
  rw [mem_q]
  intro a
  match a with
  | ⟨0, _⟩ => show win0_14.index _ (0 : Fin 2) * 256 ≤ (i 0).val ∧ (i 0).val < win0_14.index _ (0 : Fin 2) * 256 + 256; rw [e0]; dsimp only; omega
  | ⟨1, _⟩ => show win0_14.index _ (1 : Fin 2) * 1024 ≤ (i 1).val ∧ (i 1).val < win0_14.index _ (1 : Fin 2) * 1024 + 1024; rw [e1]; omega

/-- What each point writes back of the latent keys is its block of the array. -/
theorem flushed_c (c : Dev nD) (t : Fin cfg0.N) : (dats m 0 c).flushed 16 t
    = ((cfg0.win 16).blk t).view.read (Elt Ideal) (GC (m ((c : Thread nD τ).loc main_arg0)) (m ((c : Thread nD τ).loc main_arg3))) := by
  rw [flushed16_A, run16]
  funext y
  obtain ⟨i, j, rfl⟩ : ∃ (i : Fin 256) (j : Fin 256), y = (ix2 i j : S256x256.Idx) := ⟨y 0, y 1, eq_ix2 y⟩
  obtain ⟨e0, e1⟩ := (idx_out t).2.2.1
  have hN : t.val < 32 := t.isLt.trans_eq N_0
  have h : ((cfg0.win 16).blk t).view.emb (ix2 i j : S256x256.Idx) = (ix2 (⟨t.val * 256 + i.val, by omega⟩ : Fin 8192) j : S8192x256.Idx) := by
    refine at_ix2 _ _ _ ?_ ?_
    · show win0_16.index t (0 : Fin 2) * 256 + 1 * i.val = t.val * 256 + i.val; omega
    · show win0_16.index t (1 : Fin 2) * 256 + 1 * j.val = j.val; omega
  show k0_pay1 (k0_pay10 (iblk m c 2 t)) (k0_pay11 (iblk m c 12 t)) (ix2 i j) = GC _ _ (((cfg0.win 16).blk t).view.emb (ix2 i j : S256x256.Idx))
  rw [h]
  refine (body_c _ _ i j).trans ?_
  have hx := fun k : Fin 256 => rows_c m c t i k ⟨t.val * 256 + i.val, by omega⟩ rfl
  unfold GC
  refine congrArg₂ (fun a b : EReal => a * b) (congrArg₂ (fun a b : EReal => a * b) (hx j) (congrArg (fun s : EReal => Ideal.rsqrt (s + Ideal.ofBits .f32 0x358637BD#32)) ((congrArg (fun s : EReal => s * Ideal.ofBits .f32 0x3B800000#32) ?_).trans (Cert.ReferenceIdeal.Stick.div_256 _).symm))) (blk_gainC m c t j)
  exact Finset.sum_congr rfl fun k _ => congrArg₂ (fun a b : EReal => a * b) (hx k) (hx k)

/-- An entry is in point `t`'s block iff each coordinate is in the block's range. -/
theorem mem_c (t : Fin cfg0.N) (i : S8192x256.Idx) : i ∈ ((cfg0.win 16).blk t).view.set
    ↔ ∀ a : Fin 2, win0_16.index t a * S256x256.size a ≤ (i a).val ∧ (i a).val < win0_16.index t a * S256x256.size a + S256x256.size a := by
  show i ∈ ((View.whole main_v101_2).slice (win0_16.rect t)).set ↔ _
  rw [View.set_slice_whole, Rect.mem_set_unit]
  exact Iff.rfl

/-- The array of the latent keys after the run. -/
theorem final_c (c : Dev nD) : (dats m 0 c).arrAt 16 cfg0.N = GC (m ((c : Thread nD τ).loc main_arg0)) (m ((c : Thread nD τ).loc main_arg3)) := by
  refine (dats m 0 c).arrAt_eq_of_cover 16 _ (fun t _ => flushed_c m c t) fun i => ?_
  have hi0 : (i 0).val < 8192 := (i 0).isLt
  have hi1 : (i 1).val < 256 := (i 1).isLt
  have hN : cfg0.N = 32 := N_0
  refine ⟨⟨(i 0).val / 256, by omega⟩, flush0_16 _, ?_⟩
  obtain ⟨e0, e1⟩ := (idx_out ⟨(i 0).val / 256, by omega⟩).2.2.1
  rw [mem_c]
  intro a
  match a with
  | ⟨0, _⟩ => show win0_16.index _ (0 : Fin 2) * 256 ≤ (i 0).val ∧ (i 0).val < win0_16.index _ (0 : Fin 2) * 256 + 256; rw [e0]; dsimp only; omega
  | ⟨1, _⟩ => show win0_16.index _ (1 : Fin 2) * 256 ≤ (i 1).val ∧ (i 1).val < win0_16.index _ (1 : Fin 2) * 256 + 256; rw [e1]; omega

/-- What each point writes back of the attention keys is its block of the array. -/
theorem flushed_a (c : Dev nD) (t : Fin cfg0.N) : (dats m 0 c).flushed 15 t
    = ((cfg0.win 15).blk t).view.read (Elt Ideal) (GA (m ((c : Thread nD τ).loc main_arg0)) (m ((c : Thread nD τ).loc main_arg1))) := by
  rw [flushed15_A, run15]
  funext y
  obtain ⟨i, j, rfl⟩ : ∃ (i : Fin 256) (j : Fin 128), y = (ix2 i j : S256x128.Idx) := ⟨y 0, y 1, eq_ix2 y⟩
  obtain ⟨e0, e1⟩ := (idx_out t).2.1
  have hN : t.val < 32 := t.isLt.trans_eq N_0
  have h : ((cfg0.win 15).blk t).view.emb (ix2 i j : S256x128.Idx) = (ix2 (⟨t.val * 256 + i.val, by omega⟩ : Fin 8192) j : S8192x128.Idx) := by
    refine at_ix2 _ _ _ ?_ ?_
    · show win0_15.index t (0 : Fin 2) * 256 + 1 * i.val = t.val * 256 + i.val; omega
    · show win0_15.index t (1 : Fin 2) * 128 + 1 * j.val = j.val; omega
  show k0_pay9 (iblk m c 1 t) (k0_pay4 (iblk m c 10 t)) k0_pay5 (k0_pay7 (iblk m c 1 t)) (k0_pay8 (iblk m c 1 t)) (Scalar.ofBits .f32 0x3C800000#32) (iblk m c 4 t) (iblk m c 5 t) (iblk m c 6 t) (ix2 i j) = GA _ _ (((cfg0.win 15).blk t).view.emb (ix2 i j : S256x128.Idx))
  rw [h]
  have hp : (t.val * 256 + i.val) % 2048 = t.val % 8 * 256 + i.val := by omega
  rw [body_a, tab4 m c t i j ⟨_, Nat.mod_lt (t.val * 256 + i.val) (by decide)⟩ hp, tab5 m c t i j ⟨_, Nat.mod_lt (t.val * 256 + i.val) (by decide)⟩ hp,
    tab6 m c t i j ⟨_, Nat.mod_lt (t.val * 256 + i.val) (by decide)⟩ hp, GA_ix,
    normA_eq m c t i j ⟨t.val * 256 + i.val, by omega⟩ rfl ⟨j.val / 64, by omega⟩ ⟨j.val % 64, by omega⟩ (by dsimp only; omega)]
  by_cases ha : j.val % 64 < 8
  · have hl : (laneA j).val = j.val % 64 := by unfold laneA; rw [dif_pos ha]
    rw [dif_pos ha, if_pos (by omega), if_pos ha, if_neg (by omega), hl, mul_zero, add_zero, mul_neg, ← sub_eq_add_neg,
      normA_eq m c t i _ ⟨t.val * 256 + i.val, by omega⟩ rfl ⟨j.val / 64, by omega⟩ ⟨8 + j.val % 64, by omega⟩ (by dsimp only; omega)]
  · rw [dif_neg ha]
    by_cases hb : j.val % 64 < 16
    · have hl : (laneA j).val = j.val % 64 - 8 := by unfold laneA; rw [dif_neg ha, dif_pos hb]
      rw [dif_pos hb, if_pos hb, if_neg ha, if_pos ⟨by omega, hb⟩, hl, mul_zero, add_zero,
        normA_eq m c t i _ ⟨t.val * 256 + i.val, by omega⟩ rfl ⟨j.val / 64, by omega⟩ ⟨j.val % 64 - 8, by omega⟩ (by dsimp only; omega)]
    · rw [dif_neg hb, if_neg hb, if_neg ha, if_neg (by omega), mul_zero, mul_zero, add_zero, add_zero, mul_one]

/-- An entry is in point `t`'s block iff each coordinate is in the block's range. -/
theorem mem_a (t : Fin cfg0.N) (i : S8192x128.Idx) : i ∈ ((cfg0.win 15).blk t).view.set
    ↔ ∀ a : Fin 2, win0_15.index t a * S256x128.size a ≤ (i a).val ∧ (i a).val < win0_15.index t a * S256x128.size a + S256x128.size a := by
  show i ∈ ((View.whole main_v101_1).slice (win0_15.rect t)).set ↔ _
  rw [View.set_slice_whole, Rect.mem_set_unit]
  exact Iff.rfl

/-- The array of the attention keys after the run. -/
theorem final_a (c : Dev nD) : (dats m 0 c).arrAt 15 cfg0.N = GA (m ((c : Thread nD τ).loc main_arg0)) (m ((c : Thread nD τ).loc main_arg1)) := by
  refine (dats m 0 c).arrAt_eq_of_cover 15 _ (fun t _ => flushed_a m c t) fun i => ?_
  have hi0 : (i 0).val < 8192 := (i 0).isLt
  have hi1 : (i 1).val < 128 := (i 1).isLt
  have hN : cfg0.N = 32 := N_0
  refine ⟨⟨(i 0).val / 256, by omega⟩, flush0_15 _, ?_⟩
  obtain ⟨e0, e1⟩ := (idx_out ⟨(i 0).val / 256, by omega⟩).2.1
  rw [mem_a]
  intro a
  match a with
  | ⟨0, _⟩ => show win0_15.index _ (0 : Fin 2) * 256 ≤ (i 0).val ∧ (i 0).val < win0_15.index _ (0 : Fin 2) * 256 + 256; rw [e0]; dsimp only; omega
  | ⟨1, _⟩ => show win0_15.index _ (1 : Fin 2) * 128 ≤ (i 1).val ∧ (i 1).val < win0_15.index _ (1 : Fin 2) * 128 + 128; rw [e1]; omega

/-- What each point writes back of the rotary key is its block of the array. -/
theorem flushed_r (c : Dev nD) (hz : ∀ (r : Fin 8192) (x : Fin 64), (show Vec Ideal S8192x3840 .f32 from m ((c : Thread nD τ).loc main_arg0)) (ix2 r ⟨3648 + x.val, by omega⟩) = (0 : EReal)) (t : Fin cfg0.N) : (dats m 0 c).flushed 17 t
    = ((cfg0.win 17).blk t).view.read (Elt Ideal) (GR (m ((c : Thread nD τ).loc main_arg0)) (m ((c : Thread nD τ).loc main_arg4))) := by
  rw [flushed17_A, run17]
  funext y
  obtain ⟨i, j, rfl⟩ : ∃ (i : Fin 256) (j : Fin 128), y = (ix2 i j : S256x128.Idx) := ⟨y 0, y 1, eq_ix2 y⟩
  obtain ⟨e0, e1⟩ := (idx_out t).2.2.2
  have hN : t.val < 32 := t.isLt.trans_eq N_0
  have h : ((cfg0.win 17).blk t).view.emb (ix2 i j : S256x128.Idx) = (ix2 (⟨t.val * 256 + i.val, by omega⟩ : Fin 8192) j : S8192x128.Idx) := by
    refine at_ix2 _ _ _ ?_ ?_
    · show win0_17.index t (0 : Fin 2) * 256 + 1 * i.val = t.val * 256 + i.val; omega
    · show win0_17.index t (1 : Fin 2) * 128 + 1 * j.val = j.val; omega
  show k0_pay2 (iblk m c 3 t) (iblk m c 13 t) (iblk m c 7 t) (iblk m c 8 t) (iblk m c 9 t) (ix2 i j) = GR _ _ (((cfg0.win 17).blk t).view.emb (ix2 i j : S256x128.Idx))
  rw [h]
  have hp : (t.val * 256 + i.val) % 2048 = t.val % 8 * 256 + i.val := by omega
  rw [body_r, tab7 m c t i j ⟨_, Nat.mod_lt (t.val * 256 + i.val) (by decide)⟩ hp, tab8 m c t i j ⟨_, Nat.mod_lt (t.val * 256 + i.val) (by decide)⟩ hp,
    tab9 m c t i j ⟨_, Nat.mod_lt (t.val * 256 + i.val) (by decide)⟩ hp, GR_ix,
    normR_eq m c hz t i j ⟨t.val * 256 + i.val, by omega⟩ rfl, normR_eq m c hz t i _ ⟨t.val * 256 + i.val, by omega⟩ rfl, normR_eq m c hz t i _ ⟨t.val * 256 + i.val, by omega⟩ rfl]
  by_cases ha : j.val < 32
  · have hl : (laneR j).val = j.val := by unfold laneR; rw [dif_pos ha]
    rw [dif_pos ha, if_pos (show j.val < 64 by omega), if_pos ha, if_neg (by omega), hl, mul_zero, add_zero, mul_neg, ← sub_eq_add_neg,
      dif_pos (show j.val < 64 by omega), dif_pos (show (j.val + 128 - 96) % 128 < 64 by omega)]
    rw [show (⟨(j.val + 128 - 96) % 128, by omega⟩ : Fin 64) = ⟨32 + j.val, by omega⟩ from Fin.ext (by dsimp only; omega)]
  · rw [dif_neg ha]
    by_cases hb : j.val < 64
    · have hl : (laneR j).val = j.val - 32 := by unfold laneR; rw [dif_neg ha, dif_pos hb]
      rw [dif_pos hb, if_pos hb, if_neg ha, if_pos ⟨by omega, hb⟩, hl, mul_zero, add_zero, dif_pos hb, dif_pos (show (j.val + 128 - 32) % 128 < 64 by omega)]
      rw [show (⟨(j.val + 128 - 32) % 128, by omega⟩ : Fin 64) = ⟨j.val - 32, by omega⟩ from Fin.ext (by dsimp only; omega)]
    · rw [dif_neg hb, if_neg hb, if_neg ha, if_neg (by omega), mul_zero, mul_zero, add_zero, add_zero, mul_one, dif_neg hb]

/-- An entry is in point `t`'s block iff each coordinate is in the block's range. -/
theorem mem_r (t : Fin cfg0.N) (i : S8192x128.Idx) : i ∈ ((cfg0.win 17).blk t).view.set
    ↔ ∀ a : Fin 2, win0_17.index t a * S256x128.size a ≤ (i a).val ∧ (i a).val < win0_17.index t a * S256x128.size a + S256x128.size a := by
  show i ∈ ((View.whole main_v101_3).slice (win0_17.rect t)).set ↔ _
  rw [View.set_slice_whole, Rect.mem_set_unit]
  exact Iff.rfl

/-- The array of the rotary key after the run. -/
theorem final_r (c : Dev nD) (hz : ∀ (r : Fin 8192) (x : Fin 64), (show Vec Ideal S8192x3840 .f32 from m ((c : Thread nD τ).loc main_arg0)) (ix2 r ⟨3648 + x.val, by omega⟩) = (0 : EReal)) : (dats m 0 c).arrAt 17 cfg0.N = GR (m ((c : Thread nD τ).loc main_arg0)) (m ((c : Thread nD τ).loc main_arg4)) := by
  refine (dats m 0 c).arrAt_eq_of_cover 17 _ (fun t _ => flushed_r m c hz t) fun i => ?_
  have hi0 : (i 0).val < 8192 := (i 0).isLt
  have hi1 : (i 1).val < 128 := (i 1).isLt
  have hN : cfg0.N = 32 := N_0
  refine ⟨⟨(i 0).val / 256, by omega⟩, flush0_17 _, ?_⟩
  obtain ⟨e0, e1⟩ := (idx_out ⟨(i 0).val / 256, by omega⟩).2.2.2
  rw [mem_r]
  intro a
  match a with
  | ⟨0, _⟩ => show win0_17.index _ (0 : Fin 2) * 256 ≤ (i 0).val ∧ (i 0).val < win0_17.index _ (0 : Fin 2) * 256 + 256; rw [e0]; dsimp only; omega
  | ⟨1, _⟩ => show win0_17.index _ (1 : Fin 2) * 128 ≤ (i 1).val ∧ (i 1).val < win0_17.index _ (1 : Fin 2) * 128 + 128; rw [e1]; omega

end Cert.Kernel9Ideal.Even
-- ==== Proof.PrepEven.lean ====
/- The value of the even layers' key preparation: the kernel's four arrays and the reference's are the same functions of `z` and the gains.
   The kernel's norm of the rotary key runs over 128 columns of `z`, so the claim takes the 64 columns after the key to be zero. -/
module

public import proofs.«01_k».proof.Defs
public import proofs.«01_k».proof.Proof.Ref
public import proofs.«01_k».proof.Proof.EvenHost
public import proofs.«01_k».proof.Proof.EvenFinal
public import proofs.«01_k».proof.Proof.Gen.Kernel9Ideal.Value
public import proofs.«01_k».proof.Proof.Gen.Reference9Ideal.Run
public import Idealize.ShloMosaic.Lib.Pipeline.Value
public import Idealize.ShloMosaic.Lib.Pointwise
public import Idealize.ShloMosaic.Lib.ValueIdx
public import Idealize.ShloMosaic.Lib.Tactic
public import Idealize.ShloMosaic.Lib.StableHlo.Run

@[expose] public section

set_option maxHeartbeats 1000000

noncomputable section

open Idealize.ShloMosaic Idealize.ShloMosaic.TcCoe Idealize.SL.Sem

namespace Cert.Proof

open Cert.Reference9Ideal Cert.Reference9Ideal.Gen Cert.Kernel9Ideal.Even

/-- The reference's latent queries. -/
theorem even_q (z : FVec Ideal S8192x3840 .f32) (g : FVec Ideal S2x1024 .f32) :
    (truncf .bf16 (mulf (mulf (extractStridedSlice S8192x1024 ![0, 2048] z slices_S8192x3840_S8192x1024_0_2048) (broadcastInDim S8192x1024 ![0, 1] bcast_S8192x1_S8192x1024_0_1 (Host.rsqrt (addf (Host.divf (broadcastInDim S8192x1 ![0] bcast_S8192_S8192x1_0 (Host.reduceAdd (mulf (extractStridedSlice S8192x1024 ![0, 2048] z slices_S8192x3840_S8192x1024_0_2048) (extractStridedSlice S8192x1024 ![0, 2048] z slices_S8192x3840_S8192x1024_0_2048)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ (extractStridedSlice S1x1024 ![0, 0] g slices_S2x1024_S1x1024_0_0) shapeCasts_S1x1024_S1024)))) bitsLt_bf16_f32 : FVec Ideal S8192x1024 .bf16) = GQ z g := by
  funext i
  obtain ⟨a, b, rfl⟩ : ∃ (a : Fin 8192) (b : Fin 1024), i = ix2 a b := ⟨i 0, i 1, eq_ix2 i⟩
  pointwise []
  rfl

/-- The reference's latent keys. -/
theorem even_c (z : FVec Ideal S8192x3840 .f32) (g : FVec Ideal S2x256 .f32) :
    (mulf (mulf (extractStridedSlice S8192x256 ![0, 3328] z slices_S8192x3840_S8192x256_0_3328) (broadcastInDim S8192x256 ![0, 1] bcast_S8192x1_S8192x256_0_1 (Host.rsqrt (addf (Host.divf (broadcastInDim S8192x1 ![0] bcast_S8192_S8192x1_0 (Host.reduceAdd (mulf (extractStridedSlice S8192x256 ![0, 3328] z slices_S8192x3840_S8192x256_0_3328) (extractStridedSlice S8192x256 ![0, 3328] z slices_S8192x3840_S8192x256_0_3328)) (constant S_ .f32 0x00000000#32) reducesTo_S8192x256_S8192_d1 h_S_)) (broadcastInDim S8192x1 ![] bcast_S_S8192x1 (constant S_ .f32 0x43800000#32))) (broadcastInDim S8192x1 ![] bcast_S_S8192x1 (constant S_ .f32 0x358637BD#32)))))) (broadcastInDim S8192x256 ![0, 1] bcast_S1x256_S8192x256_0_1 (broadcastInDim S1x256 ![1] bcast_S256_S1x256_1 (shapeCast _ (extractStridedSlice S1x256 ![0, 0] g slices_S2x256_S1x256_0_0) shapeCasts_S1x256_S256))) : FVec Ideal S8192x256 .f32) = GC z g := by
  funext i
  obtain ⟨a, b, rfl⟩ : ∃ (a : Fin 8192) (b : Fin 256), i = ix2 a b := ⟨i 0, i 1, eq_ix2 i⟩
  pointwise []
  rfl

/-- The reference's attention keys. -/
theorem even_a (m : (ℓ : Loc nD τ sig) → Buf (Elt Ideal) ℓ) (c : Dev nD) (i : Fin 8192) (j : Fin 128) :
    Cert.Reference9Ideal.Value.res_main_v132 m c (ix2 i j) = GA (m (c.tc.loc main_arg0)) (m (c.tc.loc main_arg1)) (ix2 i j) := by
  refine Eq.trans ?_ (GA_ix _ _ i j).symm
  have ez : ∃ z : Vec Ideal S8192x3840 .f32, z = m (c.tc.loc main_arg0) := ⟨_, rfl⟩
  have eg : ∃ g : Vec Ideal S2x64 .f32, g = m (c.tc.loc main_arg1) := ⟨_, rfl⟩
  obtain ⟨z, hz⟩ := ez
  obtain ⟨g, hg⟩ := eg
  unfold Cert.Reference9Ideal.Value.res_main_v132
  rw [← hz, ← hg]
  clear hz hg
  pointwise []
  have e0 : j.val / 64 * 64 + j.val % 64 = j.val := by omega
  by_cases ha : j.val % 64 < 8
  · refine (dif_pos ha).trans (Eq.trans ?_ (dif_pos ha).symm)
    unfold nA angle
    simp only [e0]
  · refine (dif_neg ha).trans (Eq.trans ?_ (dif_neg ha).symm)
    by_cases hb : j.val % 64 < 16
    · refine (dif_pos (show j.val % 64 - 8 < 8 by omega)).trans (Eq.trans ?_ (dif_pos hb).symm)
      have e : 8 + (j.val % 64 - 8) = j.val % 64 := by omega
      unfold nA angle
      simp only [e, e0]
    · refine (dif_neg (show ¬ j.val % 64 - 8 < 8 by omega)).trans (Eq.trans ?_ (dif_neg hb).symm)
      have e : 16 + (j.val % 64 - 8 - 8) = j.val % 64 := by omega
      unfold nA
      simp only [e, e0]

/-- The reference's rotary key. -/
theorem even_r (m : (ℓ : Loc nD τ sig) → Buf (Elt Ideal) ℓ) (c : Dev nD) (i : Fin 8192) (j : Fin 128) :
    Cert.Reference9Ideal.Value.res_main_v134 m c (ix2 i j) = GR (m (c.tc.loc main_arg0)) (m (c.tc.loc main_arg4)) (ix2 i j) := by
  refine Eq.trans ?_ (GR_ix _ _ i j).symm
  have ez : ∃ z : Vec Ideal S8192x3840 .f32, z = m (c.tc.loc main_arg0) := ⟨_, rfl⟩
  have eg : ∃ g : Vec Ideal S2x64 .f32, g = m (c.tc.loc main_arg4) := ⟨_, rfl⟩
  obtain ⟨z, hz⟩ := ez
  obtain ⟨g, hg⟩ := eg
  unfold Cert.Reference9Ideal.Value.res_main_v134
  rw [← hz, ← hg]
  clear hz hg
  pointwise []
  by_cases ha : j.val < 32
  · refine (dif_pos (show j.val < 64 by omega)).trans ((dif_pos ha).trans (Eq.trans ?_ (dif_pos ha).symm))
    unfold nR angle
    rfl
  · by_cases hb : j.val < 64
    · refine (dif_pos hb).trans ((dif_neg ha).trans ((dif_pos (show j.val - 32 < 32 by omega)).trans (Eq.trans ?_ ((dif_neg ha).trans (dif_pos hb)).symm)))
      have e : 32 + (j.val - 32) = j.val := by omega
      simp only [e]
      unfold nR angle
      rfl
    · exact (dif_neg hb).trans (Cert.Kernel7Ideal.QUp.zero_pad.trans ((dif_neg ha).trans (dif_neg hb)).symm)

/-- The facts the precondition states of its shapes. -/
theorem facts_padding : Cert.Pre_padding_is_zero.Facts where
  slices_S8192x3840_S8192x64_0_3648 := by decide
  bcast_S_S8192x64 := by decide

/-- Under the precondition the 64 columns after the rotary key are zero. -/
theorem padding_zero [Cert.Pre_padding_is_zero.Facts] (z : FVec Ideal S8192x3840 .f32) (a : FVec Ideal S2x64 .f32) (b : FVec Ideal S2x1024 .f32) (d : FVec Ideal S2x256 .f32)
    (e : FVec Ideal S2x64 .f32) (h : Cert.Pre_padding_is_zero.fn (F := Ideal) z a b d e = fun _ => 1#1) (r : Fin 8192) (x : Fin 64) :
    z (ix2 r ⟨3648 + x.val, by omega⟩) = (0 : EReal) := by
  have hi := congrFun h (ix2 r x)
  have hv : Cert.Pre_padding_is_zero.fn (F := Ideal) z a b d e (ix2 r x) = Ideal.cmp .oeq (z (ix2 r ⟨3648 + x.val, by omega⟩)) (Ideal.ofBits .f32 0x00000000#32) := by
    pointwise [Cert.Pre_padding_is_zero.fn]
  rw [hv, Ideal.ofBits_zero_f32] at hi
  by_contra hne
  have h0 : Ideal.cmp .oeq (z (ix2 r ⟨3648 + x.val, by omega⟩)) 0 = 0#1 := by
    show BitVec.ofBool (decide (z (ix2 r ⟨3648 + x.val, by omega⟩) = (0 : EReal))) = 0#1
    rw [decide_eq_false hne]; rfl
  rw [h0] at hi
  exact absurd hi (by decide)

/-- The claim: where the columns after the rotary key are zero, kernel and reference compute the same four arrays over the extended reals. -/
theorem prep_even [Cert.Pre_padding_is_zero.Facts] : Cert.algebraic_Kernel9Ideal_Reference9Ideal_pre_padding_is_zero := by
  intro m g m' g' hpre hm
  refine ⟨fun c => GQ (m (c.tc.loc Cert.Kernel9Ideal.main_arg0)) (m (c.tc.loc Cert.Kernel9Ideal.main_arg2)),
    fun c => GA (m (c.tc.loc Cert.Kernel9Ideal.main_arg0)) (m (c.tc.loc Cert.Kernel9Ideal.main_arg1)),
    fun c => GC (m (c.tc.loc Cert.Kernel9Ideal.main_arg0)) (m (c.tc.loc Cert.Kernel9Ideal.main_arg3)),
    fun c => GR (m (c.tc.loc Cert.Kernel9Ideal.main_arg0)) (m (c.tc.loc Cert.Kernel9Ideal.main_arg4)), ?_, ?_⟩
  · exact (θ_run Cert.Kernel9Ideal.defs _ _).mono (fun r h c => ⟨(h c).1.trans (final_q m c), (h c).2.1.trans (final_a m c), (h c).2.2.1.trans (final_c m c),
      (h c).2.2.2.1.trans (final_r m c (padding_zero _ _ _ _ _ (hpre c))), (h c).2.2.2.2⟩) (Cert.Kernel9Ideal.Value.run_blocks m g)
  · refine (θ_run Cert.Reference9Ideal.defs _ _).mono (fun r h c => ⟨(h c).1.trans ?_, (h c).2.1.trans ?_, (h c).2.2.1.trans ?_, (h c).2.2.2.1.trans ?_, (h c).2.2.2.2⟩)
      (Cert.Reference9Ideal.Value.run m' g')
    · exact (even_q _ _).trans (congrArg₂ GQ (hm c).1 (hm c).2.2.1)
    · refine Eq.trans (b := GA (m' (c.tc.loc main_arg0)) (m' (c.tc.loc main_arg1))) (funext fun i => ?_) (congrArg₂ GA (hm c).1 (hm c).2.1)
      obtain ⟨a, b, rfl⟩ : ∃ (a : Fin 8192) (b : Fin 128), i = ix2 a b := ⟨i 0, i 1, eq_ix2 i⟩
      exact even_a m' c a b
    · exact (even_c _ _).trans (congrArg₂ GC (hm c).1 (hm c).2.2.2.1)
    · refine Eq.trans (b := GR (m' (c.tc.loc main_arg0)) (m' (c.tc.loc main_arg4))) (funext fun i => ?_) (congrArg₂ GR (hm c).1 (hm c).2.2.2.2)
      obtain ⟨a, b, rfl⟩ : ∃ (a : Fin 8192) (b : Fin 128), i = ix2 a b := ⟨i 0, i 1, eq_ix2 i⟩
      exact even_r m' c a b

end Cert.Proof
-- ==== Proof.Frames.lean ====
/- The references run to the end, keep their arguments and leave every counter at zero; and the two constants the
   attention call's idealization names are the reals its table gives them. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import Idealize.ShloMosaic.Lib.Quiescent

@[expose] public section

noncomputable section

open Idealize.ShloMosaic Idealize.ShloMosaic.TcCoe Idealize.SL.Sem

namespace Cert.Proof

/-- The attention reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The first product's reference's frame. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The second product's reference's frame. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's reference's frame. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The odd layers' input projection's reference's frame. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The even layers' input projection's reference's frame. -/
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The latent queries' up-projection's reference's frame. -/
theorem frame_ref7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The odd layers' key preparation's reference's frame. -/
theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The even layers' key preparation's reference's frame. -/
theorem frame_ref9 : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

/-- The two named constants are what the table says. -/
theorem preserves : Cert.preserves_Kernel_KernelIdeal :=
  ⟨IdealRules.named_const.statement Cert.KernelIdeal.κ "qscale" .f32 0x3E0293EE#32 _ rfl,
   IdealRules.named_const.statement Cert.KernelIdeal.κ "log2e" .f32 0x3FB8AA3B#32 _ rfl⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference8Ideal
public import proofs.«01_k».proof.Proof.Gen.Reference9Ideal
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Kernel9Ideal.Value
public import proofs.«01_k».proof.Proof.Gen.Reference8Ideal.Run
public import proofs.«01_k».proof.Proof.Gen.Reference9Ideal.Run
public import proofs.«01_k».proof.Proof.Attn
public import proofs.«01_k».proof.Proof.Up
public import proofs.«01_k».proof.Proof.Down
public import proofs.«01_k».proof.Proof.OutProj
public import proofs.«01_k».proof.Proof.InOdd
public import proofs.«01_k».proof.Proof.InEven
public import proofs.«01_k».proof.Proof.QUp
public import proofs.«01_k».proof.Proof.PrepOdd
public import proofs.«01_k».proof.Proof.PrepEven
public import proofs.«01_k».proof.Proof.Frames
public import Idealize.ShloMosaic.Adequacy
public import Idealize.ShloMosaic.Init

@[expose] public section

noncomputable section

namespace Cert.Proof

open Idealize.ShloMosaic Idealize.SL.Sem Cert.Kernel

/-- Every claim: the frames, the named constants, and the values. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, facts_pre, facts_padding,
    fun m ρ _ => Cert.Kernel.Gen.frame m ρ, fun m ρ _ => Cert.KernelIdeal.Gen.frame m ρ, fun m ρ _ => Cert.KernelIdeal.Gen.frame m ρ, frame_ref,
    fun m ρ _ => frame_ref m ρ trivial,
    fun m ρ _ => Cert.Kernel2.Gen.frame m ρ, fun m ρ _ => Cert.Kernel2Ideal.Gen.frame m ρ, frame_ref2,
    fun m ρ _ => Cert.Kernel3.Gen.frame m ρ, fun m ρ _ => Cert.Kernel3Ideal.Gen.frame m ρ, frame_ref3,
    fun m ρ _ => Cert.Kernel4.Gen.frame m ρ, fun m ρ _ => Cert.Kernel4Ideal.Gen.frame m ρ, frame_ref4,
    fun m ρ _ => Cert.Kernel5.Gen.frame m ρ, fun m ρ _ => Cert.Kernel5Ideal.Gen.frame m ρ, frame_ref5,
    fun m ρ _ => Cert.Kernel6.Gen.frame m ρ, fun m ρ _ => Cert.Kernel6Ideal.Gen.frame m ρ, frame_ref6,
    fun m ρ _ => Cert.Kernel7.Gen.frame m ρ, fun m ρ _ => Cert.Kernel7Ideal.Gen.frame m ρ, frame_ref7,
    fun m ρ _ => Cert.Kernel8.Gen.frame m ρ, fun m ρ _ => Cert.Kernel8Ideal.Gen.frame m ρ, frame_ref8,
    fun m ρ _ => Cert.Kernel9.Gen.frame m ρ, fun m ρ _ => Cert.Kernel9Ideal.Gen.frame m ρ, fun m ρ _ => Cert.Kernel9Ideal.Gen.frame m ρ, frame_ref9,
    fun m ρ _ => frame_ref9 m ρ trivial,
    preserves, @attention facts_pre, trivial, up, trivial, down, trivial, out_projection, trivial, in_odd, trivial, in_even, trivial, q_up, trivial, prep_odd,
    trivial, @prep_even facts_padding⟩

end Cert.Proof

end
